-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S5x384x6144 : Shape := ⟨3, ![5, 384, 6144]⟩
abbrev S24x24 : Shape := ⟨2, ![24, 24]⟩
abbrev S3072x2048 : Shape := ⟨2, ![3072, 2048]⟩
abbrev S48x2048 : Shape := ⟨2, ![48, 2048]⟩
abbrev S2048 : Shape := ⟨1, ![2048]⟩
abbrev S_ : Shape := ⟨0, ![]⟩

class Facts : Prop where
  bcast_S_S48x2048 : S_.BroadcastsInDim S48x2048 (![] : Fin 0 → Fin S48x2048.rank)

variable [Facts]

def fn {F : FTy → Type} [FloatOps F] (main_arg0 : FVec F S5x384x6144 .bf16) (main_arg1 : FVec F S24x24 .f32) (main_arg2 : IVec S3072x2048 8) (main_arg3 : IVec S48x2048 8) (main_arg4 : FVec F S2048 .f32) : IVec S48x2048 1 :=
  let main_c : IVec S_ 8 := constantI S_ 8 127#8
  let main_v0 : IVec S48x2048 8 := broadcastInDim S48x2048 ![] bcast_S_S48x2048 main_c
  let main_v1 : IVec S48x2048 1 := cmpi .ult main_arg3 main_v0
  main_v1
-- ==== Kernel.lean ====
abbrev S5x384x6144 : Shape := ⟨3, ![5, 384, 6144]⟩
abbrev S24x24 : Shape := ⟨2, ![24, 24]⟩
abbrev S3072x2048 : Shape := ⟨2, ![3072, 2048]⟩
abbrev S48x2048 : Shape := ⟨2, ![48, 2048]⟩
abbrev S2048 : Shape := ⟨1, ![2048]⟩
abbrev S1920x6144 : Shape := ⟨2, ![1920, 6144]⟩
abbrev S48x1x2048 : Shape := ⟨3, ![48, 1, 2048]⟩
abbrev S1x2048 : Shape := ⟨2, ![1, 2048]⟩
abbrev S1920x2048 : Shape := ⟨2, ![1920, 2048]⟩
abbrev S15x1x128 : Shape := ⟨3, ![15, 1, 128]⟩
abbrev S128x6144 : Shape := ⟨2, ![128, 6144]⟩
abbrev S128x2048 : Shape := ⟨2, ![128, 2048]⟩
abbrev S1x1x128 : Shape := ⟨3, ![1, 1, 128]⟩
abbrev S6144x2048 : Shape := ⟨2, ![6144, 2048]⟩
abbrev S192x192 : Shape := ⟨2, ![192, 192]⟩
abbrev S24x32x8x128 : Shape := ⟨4, ![24, 32, 8, 128]⟩
abbrev S192x24 : Shape := ⟨2, ![192, 24]⟩
abbrev S1x1x2048 : Shape := ⟨3, ![1, 1, 2048]⟩
abbrev S64x2048 : Shape := ⟨2, ![64, 2048]⟩
abbrev S64x1x2048 : Shape := ⟨3, ![64, 1, 2048]⟩
abbrev S64x2x2048 : Shape := ⟨3, ![64, 2, 2048]⟩
abbrev S128x128 : Shape := ⟨2, ![128, 128]⟩
abbrev S16x8x128 : Shape := ⟨3, ![16, 8, 128]⟩
abbrev S1x16x8x128 : Shape := ⟨4, ![1, 16, 8, 128]⟩
abbrev S24x1x8x128 : Shape := ⟨4, ![24, 1, 8, 128]⟩
abbrev S24x8x128 : Shape := ⟨3, ![24, 8, 128]⟩
abbrev S192x128 : Shape := ⟨2, ![192, 128]⟩
abbrev S192x256 : Shape := ⟨2, ![192, 256]⟩
abbrev S8x128 : Shape := ⟨2, ![8, 128]⟩
abbrev S1x1x8x128 : Shape := ⟨4, ![1, 1, 8, 128]⟩
abbrev S128 : Shape := ⟨1, ![128]⟩
abbrev S1x128 : Shape := ⟨2, ![1, 128]⟩
abbrev S6144x256 : Shape := ⟨2, ![6144, 256]⟩
abbrev S128x256 : Shape := ⟨2, ![128, 256]⟩

abbrev nBuf : Space → Nat
  | .hbm => 11
  | .vmem => 17
  | .smem => 0
  | _ => 0

abbrev bufTy : (tb : Table) → Fin (tcTables nBuf tb) → BufTy
  | .hbm, ⟨0, _⟩ => ⟨S5x384x6144, .bf16⟩
  | .hbm, ⟨1, _⟩ => ⟨S24x24, .f32⟩
  | .hbm, ⟨2, _⟩ => ⟨S3072x2048, .i8⟩
  | .hbm, ⟨3, _⟩ => ⟨S48x2048, .i8⟩
  | .hbm, ⟨4, _⟩ => ⟨S2048, .f32⟩
  | .hbm, ⟨5, _⟩ => ⟨S1920x6144, .bf16⟩
  | .hbm, ⟨6, _⟩ => ⟨S48x1x2048, .i8⟩
  | .hbm, ⟨7, _⟩ => ⟨S1x2048, .f32⟩
  | .hbm, ⟨8, _⟩ => ⟨S1920x2048, .bf16⟩
  | .hbm, ⟨9, _⟩ => ⟨S1920x6144, .i8⟩
  | .hbm, ⟨10, _⟩ => ⟨S15x1x128, .f32⟩
  | .local _ .vmem, ⟨0, _⟩ => ⟨S128x6144, .bf16⟩
  | .local _ .vmem, ⟨1, _⟩ => ⟨S128x6144, .bf16⟩
  | .local _ .vmem, ⟨2, _⟩ => ⟨S24x24, .f32⟩
  | .local _ .vmem, ⟨3, _⟩ => ⟨S3072x2048, .i8⟩
  | .local _ .vmem, ⟨4, _⟩ => ⟨S48x1x2048, .i8⟩
  | .local _ .vmem, ⟨5, _⟩ => ⟨S1x2048, .f32⟩
  | .local _ .vmem, ⟨6, _⟩ => ⟨S128x2048, .bf16⟩
  | .local _ .vmem, ⟨7, _⟩ => ⟨S128x2048, .bf16⟩
  | .local _ .vmem, ⟨8, _⟩ => ⟨S128x6144, .i8⟩
  | .local _ .vmem, ⟨9, _⟩ => ⟨S128x6144, .i8⟩
  | .local _ .vmem, ⟨10, _⟩ => ⟨S1x1x128, .f32⟩
  | .local _ .vmem, ⟨11, _⟩ => ⟨S1x1x128, .f32⟩
  | .local _ .vmem, ⟨12, _⟩ => ⟨S6144x2048, .fp8e4m3⟩
  | .local _ .vmem, ⟨13, _⟩ => ⟨S192x192, .bf16⟩
  | .local _ .vmem, ⟨14, _⟩ => ⟨S24x32x8x128, .f32⟩
  | .local _ .vmem, ⟨15, _⟩ => ⟨S24x32x8x128, .f32⟩
  | .local _ .vmem, ⟨16, _⟩ => ⟨S128x6144, .fp8e4m3⟩
  | _, _ => ⟨S5x384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1120 : BitVec 32 := 0#32
  let c48_i32 : BitVec 32 := 48#32
  let v1873 : BitVec 32 := Scalar.addi c0_i32_1120 c48_i32
  let c1_i32_1121 : BitVec 32 := 1#32
  ⟨c0_i32_1120, v1873, c1_i32_1121⟩
def k0_off1 (k0_t1 : Fin k0_t1_loop.trips) : Fin 3 → Nat :=
  let c0_i32_1120 : BitVec 32 := 0#32
  let c1_i32_1121 : BitVec 32 := 1#32
  let arg14 : BitVec 32 := Scf.iv c0_i32_1120 c1_i32_1121 k0_t1
  let v1874 : Index := Scalar.indexCast arg14
  let c0_1123 : Index := 0#32
  let c0_1124 : Index := 0#32
  ![v1874.toNat, 0, 0]
def k0_mult1 (k0_t1 : Fin k0_t1_loop.trips) : BitVec 32 :=
  let c0_i32_1120 : BitVec 32 := 0#32
  let c1_i32_1121 : BitVec 32 := 1#32
  let arg14 : BitVec 32 := Scf.iv c0_i32_1120 c1_i32_1121 k0_t1
  let c64_i32 : BitVec 32 := 64#32
  let v1886 : BitVec 32 := Scalar.muli arg14 c64_i32
  v1886
def k0_off2 (k0_t1 : Fin k0_t1_loop.trips) : Fin 2 → Nat :=
  let c0_i32_1120 : BitVec 32 := 0#32
  let c1_i32_1121 : BitVec 32 := 1#32
  let arg14 : BitVec 32 := Scf.iv c0_i32_1120 c1_i32_1121 k0_t1
  let c64_i32 : BitVec 32 := 64#32
  let v1886 : BitVec 32 := Scalar.muli arg14 c64_i32
  let v1887 : BitVec 32 := v1886
  let v1888 : Index := Scalar.indexCast v1887
  let c0_1126 : Index := 0#32
  ![v1888.toNat, 0]
def k0_mult2 (k0_t1 : Fin k0_t1_loop.trips) : BitVec 32 :=
  let c0_i32_1120 : BitVec 32 := 0#32
  let c1_i32_1121 : BitVec 32 := 1#32
  let arg14 : BitVec 32 := Scf.iv c0_i32_1120 c1_i32_1121 k0_t1
  let c128_i32 : BitVec 32 := 128#32
  let v1907 : BitVec 32 := Scalar.muli arg14 c128_i32
  v1907
def k0_off3 (k0_t1 : Fin k0_t1_loop.trips) : Fin 2 → Nat :=
  let c0_i32_1120 : BitVec 32 := 0#32
  let c1_i32_1121 : BitVec 32 := 1#32
  let arg14 : BitVec 32 := Scf.iv c0_i32_1120 c1_i32_1121 k0_t1
  let c128_i32 : BitVec 32 := 128#32
  let v1907 : BitVec 32 := Scalar.muli arg14 c128_i32
  let v1908 : BitVec 32 := v1907
  let v1909 : Index := Scalar.indexCast v1908
  let c0_1130 : Index := 0#32
  ![v1909.toNat, 0]
@[reducible] def k0_t2_loop : Scf.Loop 32 :=
  let c0_i32_514 : BitVec 32 := 0#32
  let c24_i32 : BitVec 32 := 24#32
  let v708 : BitVec 32 := Scalar.addi c0_i32_514 c24_i32
  let c1_i32 : BitVec 32 := 1#32
  ⟨c0_i32_514, v708, c1_i32⟩
def k0_off4 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1840 : Index := Scalar.indexCast arg14
  let c0_1107 : Index := 0#32
  let c0_1108 : Index := 0#32
  let c0_1109 : Index := 0#32
  ![v1840.toNat, 0, 0, 0]
def k0_off5 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1843 : Index := Scalar.indexCast arg14
  let c1_1110 : Index := 1#32
  let c0_1111 : Index := 0#32
  let c0_1112 : Index := 0#32
  ![v1843.toNat, 1, 0, 0]
def k0_off6 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1846 : Index := Scalar.indexCast arg14
  let c2_1113 : Index := 2#32
  let c0_1114 : Index := 0#32
  let c0_1115 : Index := 0#32
  ![v1846.toNat, 2, 0, 0]
def k0_off7 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1849 : Index := Scalar.indexCast arg14
  let c3_1116 : Index := 3#32
  let c0_1117 : Index := 0#32
  let c0_1118 : Index := 0#32
  ![v1849.toNat, 3, 0, 0]
def k0_off8 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1852 : Index := Scalar.indexCast arg14
  let c4_1119 : Index := 4#32
  let c0_1120 : Index := 0#32
  let c0_1121 : Index := 0#32
  ![v1852.toNat, 4, 0, 0]
def k0_off9 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1855 : Index := Scalar.indexCast arg14
  let c5_1122 : Index := 5#32
  let c0_1123 : Index := 0#32
  let c0_1124 : Index := 0#32
  ![v1855.toNat, 5, 0, 0]
def k0_off10 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1858 : Index := Scalar.indexCast arg14
  let c6_1125 : Index := 6#32
  let c0_1126 : Index := 0#32
  let c0_1127 : Index := 0#32
  ![v1858.toNat, 6, 0, 0]
def k0_off11 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1861 : Index := Scalar.indexCast arg14
  let c7_1128 : Index := 7#32
  let c0_1129 : Index := 0#32
  let c0_1130 : Index := 0#32
  ![v1861.toNat, 7, 0, 0]
def k0_off12 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1864 : Index := Scalar.indexCast arg14
  let c8_1131 : Index := 8#32
  let c0_1132 : Index := 0#32
  let c0_1133 : Index := 0#32
  ![v1864.toNat, 8, 0, 0]
def k0_off13 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1867 : Index := Scalar.indexCast arg14
  let c9_1134 : Index := 9#32
  let c0_1135 : Index := 0#32
  let c0_1136 : Index := 0#32
  ![v1867.toNat, 9, 0, 0]
def k0_off14 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1870 : Index := Scalar.indexCast arg14
  let c10_1137 : Index := 10#32
  let c0_1138 : Index := 0#32
  let c0_1139 : Index := 0#32
  ![v1870.toNat, 10, 0, 0]
def k0_off15 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1873 : Index := Scalar.indexCast arg14
  let c11_1140 : Index := 11#32
  let c0_1141 : Index := 0#32
  let c0_1142 : Index := 0#32
  ![v1873.toNat, 11, 0, 0]
def k0_off16 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1876 : Index := Scalar.indexCast arg14
  let c12_1143 : Index := 12#32
  let c0_1144 : Index := 0#32
  let c0_1145 : Index := 0#32
  ![v1876.toNat, 12, 0, 0]
def k0_off17 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1879 : Index := Scalar.indexCast arg14
  let c13_1146 : Index := 13#32
  let c0_1147 : Index := 0#32
  let c0_1148 : Index := 0#32
  ![v1879.toNat, 13, 0, 0]
def k0_off18 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1882 : Index := Scalar.indexCast arg14
  let c14_1149 : Index := 14#32
  let c0_1150 : Index := 0#32
  let c0_1151 : Index := 0#32
  ![v1882.toNat, 14, 0, 0]
def k0_off19 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1885 : Index := Scalar.indexCast arg14
  let c15_1152 : Index := 15#32
  let c0_1153 : Index := 0#32
  let c0_1154 : Index := 0#32
  ![v1885.toNat, 15, 0, 0]
def k0_off20 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1888 : Index := Scalar.indexCast arg14
  let c16_1155 : Index := 16#32
  let c0_1156 : Index := 0#32
  let c0_1157 : Index := 0#32
  ![v1888.toNat, 16, 0, 0]
def k0_off21 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1891 : Index := Scalar.indexCast arg14
  let c17_1158 : Index := 17#32
  let c0_1159 : Index := 0#32
  let c0_1160 : Index := 0#32
  ![v1891.toNat, 17, 0, 0]
def k0_off22 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1894 : Index := Scalar.indexCast arg14
  let c18_1161 : Index := 18#32
  let c0_1162 : Index := 0#32
  let c0_1163 : Index := 0#32
  ![v1894.toNat, 18, 0, 0]
def k0_off23 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1897 : Index := Scalar.indexCast arg14
  let c19_1164 : Index := 19#32
  let c0_1165 : Index := 0#32
  let c0_1166 : Index := 0#32
  ![v1897.toNat, 19, 0, 0]
def k0_off24 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1900 : Index := Scalar.indexCast arg14
  let c20_1167 : Index := 20#32
  let c0_1168 : Index := 0#32
  let c0_1169 : Index := 0#32
  ![v1900.toNat, 20, 0, 0]
def k0_off25 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1903 : Index := Scalar.indexCast arg14
  let c21_1170 : Index := 21#32
  let c0_1171 : Index := 0#32
  let c0_1172 : Index := 0#32
  ![v1903.toNat, 21, 0, 0]
def k0_off26 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1906 : Index := Scalar.indexCast arg14
  let c22_1173 : Index := 22#32
  let c0_1174 : Index := 0#32
  let c0_1175 : Index := 0#32
  ![v1906.toNat, 22, 0, 0]
def k0_off27 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1909 : Index := Scalar.indexCast arg14
  let c23_1176 : Index := 23#32
  let c0_1177 : Index := 0#32
  let c0_1178 : Index := 0#32
  ![v1909.toNat, 23, 0, 0]
def k0_off28 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1912 : Index := Scalar.indexCast arg14
  let c24_1179 : Index := 24#32
  let c0_1180 : Index := 0#32
  let c0_1181 : Index := 0#32
  ![v1912.toNat, 24, 0, 0]
def k0_off29 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1915 : Index := Scalar.indexCast arg14
  let c25_1182 : Index := 25#32
  let c0_1183 : Index := 0#32
  let c0_1184 : Index := 0#32
  ![v1915.toNat, 25, 0, 0]
def k0_off30 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1918 : Index := Scalar.indexCast arg14
  let c26_1185 : Index := 26#32
  let c0_1186 : Index := 0#32
  let c0_1187 : Index := 0#32
  ![v1918.toNat, 26, 0, 0]
def k0_off31 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1921 : Index := Scalar.indexCast arg14
  let c27_1188 : Index := 27#32
  let c0_1189 : Index := 0#32
  let c0_1190 : Index := 0#32
  ![v1921.toNat, 27, 0, 0]
def k0_off32 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1924 : Index := Scalar.indexCast arg14
  let c28_1191 : Index := 28#32
  let c0_1192 : Index := 0#32
  let c0_1193 : Index := 0#32
  ![v1924.toNat, 28, 0, 0]
def k0_off33 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1927 : Index := Scalar.indexCast arg14
  let c29_1194 : Index := 29#32
  let c0_1195 : Index := 0#32
  let c0_1196 : Index := 0#32
  ![v1927.toNat, 29, 0, 0]
def k0_off34 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1930 : Index := Scalar.indexCast arg14
  let c30_1197 : Index := 30#32
  let c0_1198 : Index := 0#32
  let c0_1199 : Index := 0#32
  ![v1930.toNat, 30, 0, 0]
def k0_off35 (k0_t2 : Fin k0_t2_loop.trips) : Fin 4 → Nat :=
  let c0_i32_514 : BitVec 32 := 0#32
  let c1_i32 : BitVec 32 := 1#32
  let arg14 : BitVec 32 := Scf.iv c0_i32_514 c1_i32 k0_t2
  let v1933 : Index := Scalar.indexCast arg14
  let c31_1200 : Index := 31#32
  let c0_1201 : Index := 0#32
  let c0_1202 : Index := 0#32
  ![v1933.toNat, 31, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x1x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S5x384x6144 : Shape := ⟨3, ![5, 384, 6144]⟩
abbrev S24x24 : Shape := ⟨2, ![24, 24]⟩
abbrev S3072x2048 : Shape := ⟨2, ![3072, 2048]⟩
abbrev S48x2048 : Shape := ⟨2, ![48, 2048]⟩
abbrev S2048 : Shape := ⟨1, ![2048]⟩
abbrev S1920x24x256 : Shape := ⟨3, ![1920, 24, 256]⟩
abbrev S256x256 : Shape := ⟨2, ![256, 256]⟩
abbrev S_ : Shape := ⟨0, ![]⟩
abbrev S1920x256x24 : Shape := ⟨3, ![1920, 256, 24]⟩
abbrev S1920x6144 : Shape := ⟨2, ![1920, 6144]⟩
abbrev S1920 : Shape := ⟨1, ![1920]⟩
abbrev S1920x1 : Shape := ⟨2, ![1920, 1]⟩
abbrev S1920x3072x2 : Shape := ⟨3, ![1920, 3072, 2]⟩
abbrev S1920x3072x1 : Shape := ⟨3, ![1920, 3072, 1]⟩
abbrev S1920x3072 : Shape := ⟨2, ![1920, 3072]⟩
abbrev S1920x2048 : Shape := ⟨2, ![1920, 2048]⟩
abbrev S48x64x2048 : Shape := ⟨3, ![48, 64, 2048]⟩
abbrev S48x1x2048 : Shape := ⟨3, ![48, 1, 2048]⟩
abbrev S1x2048 : Shape := ⟨2, ![1, 2048]⟩
abbrev S15x1x128 : Shape := ⟨3, ![15, 1, 128]⟩

abbrev nBuf : Space → Nat
  | .hbm => 72
  | .vmem => 5
  | .smem => 0
  | _ => 0

abbrev bufTy : (tb : Table) → Fin (tcTables nBuf tb) → BufTy
  | .hbm, ⟨0, _⟩ => ⟨S5x384x6144, .bf16⟩
  | .hbm, ⟨1, _⟩ => ⟨S24x24, .f32⟩
  | .hbm, ⟨2, _⟩ => ⟨S3072x2048, .i8⟩
  | .hbm, ⟨3, _⟩ => ⟨S48x2048, .i8⟩
  | .hbm, ⟨4, _⟩ => ⟨S2048, .f32⟩
  | .hbm, ⟨5, _⟩ => ⟨S5x384x6144, .f32⟩
  | .hbm, ⟨6, _⟩ => ⟨S1920x24x256, .f32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .f32⟩
  | .hbm, ⟨21, _⟩ => ⟨S1920x24x256, .f32⟩
  | .hbm, ⟨22, _⟩ => ⟨S1920x256x24, .f32⟩
  | .hbm, ⟨23, _⟩ => ⟨S1920x24x256, .f32⟩
  | .hbm, ⟨24, _⟩ => ⟨S_, .f32⟩
  | .hbm, ⟨25, _⟩ => ⟨S1920x24x256, .f32⟩
  | .hbm, ⟨26, _⟩ => ⟨S1920x24x256, .f32⟩
  | .hbm, ⟨27, _⟩ => ⟨S1920x6144, .f32⟩
  | .hbm, ⟨28, _⟩ => ⟨S1920x6144, .f32⟩
  | .hbm, ⟨29, _⟩ => ⟨S_, .f32⟩
  | .hbm, ⟨30, _⟩ => ⟨S1920, .f32⟩
  | .hbm, ⟨31, _⟩ => ⟨S_, .f32⟩
  | .hbm, ⟨32, _⟩ => ⟨S1920, .f32⟩
  | .hbm, ⟨33, _⟩ => ⟨S1920, .i1⟩
  | .hbm, ⟨34, _⟩ => ⟨S_, .f32⟩
  | .hbm, ⟨35, _⟩ => ⟨S1920, .f32⟩
  | .hbm, ⟨36, _⟩ => ⟨S_, .f32⟩
  | .hbm, ⟨37, _⟩ => ⟨S1920, .f32⟩
  | .hbm, ⟨38, _⟩ => ⟨S1920, .f32⟩
  | .hbm, ⟨39, _⟩ => ⟨S1920, .f32⟩
  | .hbm, ⟨40, _⟩ => ⟨S1920x1, .f32⟩
  | .hbm, ⟨41, _⟩ => ⟨S1920x6144, .f32⟩
  | .hbm, ⟨42, _⟩ => ⟨S1920x6144, .f32⟩
  | .hbm, ⟨43, _⟩ => ⟨S1920x6144, .f32⟩
  | .hbm, ⟨44, _⟩ => ⟨S_, .f32⟩
  | .hbm, ⟨45, _⟩ => ⟨S_, .f32⟩
  | .hbm, ⟨46, _⟩ => ⟨S1920x6144, .f32⟩
  | .hbm, ⟨47, _⟩ => ⟨S1920x6144, .f32⟩
  | .hbm, ⟨48, _⟩ => ⟨S1920x6144, .f32⟩
  | .hbm, ⟨49, _⟩ => ⟨S1920x6144, .i32⟩
  | .hbm, ⟨50, _⟩ => ⟨S1920x6144, .i8⟩
  | .hbm, ⟨51, _⟩ => ⟨S_, .f32⟩
  | .hbm, ⟨52, _⟩ => ⟨S48x2048, .f32⟩
  | .hbm, ⟨53, _⟩ => ⟨S48x2048, .i32⟩
  | .hbm, ⟨54, _⟩ => ⟨S48x2048, .f32⟩
  | .hbm, ⟨55, _⟩ => ⟨S48x2048, .f32⟩
  | .hbm, ⟨56, _⟩ => ⟨S48x2048, .f32⟩
  | .hbm, ⟨57, _⟩ => ⟨S48x2048, .bf16⟩
  | .hbm, ⟨58, _⟩ => ⟨S1920x3072x2, .i8⟩
  | .hbm, ⟨59, _⟩ => ⟨S1920x3072x1, .i8⟩
  | .hbm, ⟨60, _⟩ => ⟨S1920x3072, .i8⟩
  | .hbm, ⟨61, _⟩ => ⟨S1920x3072x1, .i8⟩
  | .hbm, ⟨62, _⟩ => ⟨S1920x3072, .i8⟩
  | .hbm, ⟨63, _⟩ => ⟨S1920x2048, .f32⟩
  | .hbm, ⟨64, _⟩ => ⟨S1920x1, .f32⟩
  | .hbm, ⟨65, _⟩ => ⟨S1920x2048, .f32⟩
  | .hbm, ⟨66, _⟩ => ⟨S1920x2048, .f32⟩
  | .hbm, ⟨67, _⟩ => ⟨S1x2048, .f32⟩
  | .hbm, ⟨68, _⟩ => ⟨S1920x2048, .f32⟩
  | .hbm, ⟨69, _⟩ => ⟨S1920x2048, .f32⟩
  | .hbm, ⟨70, _⟩ => ⟨S1920x2048, .bf16⟩
  | .hbm, ⟨71, _⟩ => ⟨S15x1x128, .f32⟩
  | .local _ .vmem, ⟨0, _⟩ => ⟨S1920x3072, .i8⟩
  | .local _ .vmem, ⟨1, _⟩ => ⟨S1920x3072, .i8⟩
  | .local _ .vmem, ⟨2, _⟩ => ⟨S3072x2048, .i8⟩
  | .local _ .vmem, ⟨3, _⟩ => ⟨S48x2048, .bf16⟩
  | .local _ .vmem, ⟨4, _⟩ => ⟨S1920x2048, .f32⟩
  | _, _ => ⟨S5x384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.WordRunA.lean ====
/- The run of the kernel's body at the first grid point, over machine words or any other values, naming what it leaves in the carried matrix alone. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3424000 in
/-- The run of the body at a first grid point: from any contents of the results' buffers it ends with the inputs' buffers unchanged. -/
noncomputable def kernelRun0_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) :
    { LS1 : List (View.Piece (Elt F) S192x192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS1) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_quarot_down_eq_skeleton]; unfold cc0_quarot_down_skel
    simp only [k0_part65_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.WordRunB.lean ====
/- The run of the kernel's body at a later grid point, naming nothing of what it stores. -/
module

public import proofs.«01_k».proof.Proof.WordRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3324000 in
/-- The run of the body at a later grid point: from any contents of the results' buffers it ends with the inputs' buffers unchanged. -/
noncomputable def kernelRun0_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs1 : Vec F S192x192 .bf16) :
    { LS1 : List (View.Piece (Elt F) S192x192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_quarot_down_eq_skeleton]; unfold cc0_quarot_down_skel
    simp only [k0_part65_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.WordFrame.lean ====
/- The frame of the kernel's program, naming nothing of its results: the matrix carried along the grid, the body at every point, the launch. -/
module

public import proofs.«01_k».proof.Proof.WordRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A run that ends with the pipeline's arrays as described leaves the program's arguments unchanged. -/
theorem frame_of_r (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- What the first grid point stores into the carried matrix covers it. -/
theorem scover0_A_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S192x192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1 S192x192.size (by sl_kernel_rfl) y

/-- What the first grid point leaves in the carried matrix. -/
def sout0_A_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S192x192 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1)

/-- A later grid point leaves the carried matrix as it was. -/
def sout0_B_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs1 : Vec F S192x192 .bf16) : Vec F S192x192 .bf16 := xs1

/-! ## What the outputs hold after each point -/

/-- What the carried matrix holds after each grid point. -/
def outsAt0 (c : Dev nD) : (n : ℕ) → n < cfg0.N → Vec F S192x192 .bf16
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 15 = 0 then
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- At a first point that is what the first point's run leaves. -/
theorem outsAt0_A (c : Dev nD) (t : Fin cfg0.N) (h0 : t.val % 15 = 0) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- At a later point it is what the point before left. -/
theorem outsAt0_B (c : Dev nD) (t : Fin cfg0.N) (h0 : ¬t.val % 15 = 0) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What holds of the scratch buffers between grid points: the carried matrix as the point before left it, the others at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega))) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The windows of the three results, of whose contents nothing is stated here. -/
def forgets0 : Fin 8 → Bool := fun w => w.val == 5 || w.val == 6 || w.val == 7

/-- The pipeline's proof data: the arrays on entry, each input's block after the body, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The arrays of the proof data are those on entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at a point, window by window, … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- … and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any grid point, from its two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases hz : t.val = 0
    · rw [PhiS_castSucc m c t, PhiS_zero m c _ _ hz, PhiA0_eq]
      rw [outsAt0_A m c t h0]
      unfold sout0_A_1
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, ⟨%es1, HS1⟩, HS2, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 15 := lt_of_lt_of_eq t.isLt (show cfg0.N = 15 from N_0); omega
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold sout0_B_1
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body called at a point is the kernel's. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a later point the invariant gives the scratch buffers back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track_forget`'s implicit arguments are found by unifying its conclusion with this one, which takes unfolding plain
-- definitions in a metavariable's type
set_option backward.isDefEq.respectTransparency.types false in
/-- The launch: the run above, with every semaphore at zero in the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with each input array unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_r m ρ (fun c => (dats m 0 c).toRForget forgets0) (A_eq m) (run_main m ρ)

/-- The frame of the program: it ends without fault, its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.RunA.lean ====
/- The whole-body run of the kernel at the first grid point, with the budget it needs and with the one value loaded before it is written replaced. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The part that stores the last rotated block, runs the butterfly loop and quantises the first block does not use the
    values it loads from the block it is about to overwrite: any other value in their place gives the same program. -/
theorem part35_eq : k0_part35 (F := F) = fun i arg1 harg1 arg2 harg2 arg3 harg3 arg4 harg4 arg5 harg5 arg6 harg6 arg7 harg7 arg8 harg8 arg9 harg9 arg10 harg10 arg11 harg11 arg12 harg12 arg13 harg13 v703 v704 => k0_part35_skel (F := F) i arg1 harg1 arg2 harg2 arg3 harg3 arg4 harg4 arg5 harg5 arg6 harg6 arg7 harg7 arg8 harg8 arg9 harg9 arg10 harg10 arg11 harg11 arg12 harg12 arg13 harg13 v703 (k0_pay350 v703) := rfl

-- (the run's proof term is large: the definition's epilogue — `abstractNestedProofs` — walks it past the default budget)
set_option backward.proofsInPublic true in
set_option maxHeartbeats 60000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) :
    Σ' (L5 : List (View.Piece (Elt F) S128x2048 .bf16)), Σ' (L6 : List (View.Piece (Elt F) S128x6144 .i8)), Σ' (L7 : List (View.Piece (Elt F) S1x1x128 .f32)), Σ' (LS0 : List (View.Piece (Elt F) S6144x2048 .fp8e4m3)), Σ' (LS1 : List (View.Piece (Elt F) S192x192 .bf16)), { LT4 : List (View.Piece (Elt F) S128x6144 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LT4)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_quarot_down_eq_skeleton]; unfold cc0_quarot_down_skel
    simp only [k0_part65_eq_skeleton]; unfold k0_part65_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, part35_eq, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (k0_h1 : k0_cond1 i = 1#1) (X_arg3 : BufTy.Contents (Elt F) arg3.view.ty) (X_arg4 : BufTy.Contents (Elt F) arg4.view.ty) (hrdF : BufTy.Contents (Elt F) arg9.view.ty) (hrdB : LoadRect S6144x2048), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st))) = arg9.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 k0_h1 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st)) S128x2048.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    iexists _; iexact HS4

end Cert.KernelIdeal.Gen

end
-- ==== Proof.RunB.lean ====
/- The whole-body run of the kernel at every later grid point, with the budget it needs and with the one value loaded before it is written replaced. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 60000000 in
/-- What the body's stores leave in each output's staging memref, as pieces (last first) IN CASE B (`scf.if` 0 not taken: points 1, 2, … 14: 14 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) :
    Σ' (L5 : List (View.Piece (Elt F) S128x2048 .bf16)), Σ' (L6 : List (View.Piece (Elt F) S128x6144 .i8)), Σ' (L7 : List (View.Piece (Elt F) S1x1x128 .f32)), Σ' (LS0 : List (View.Piece (Elt F) S6144x2048 .fp8e4m3)), Σ' (LS1 : List (View.Piece (Elt F) S192x192 .bf16)), { LT4 : List (View.Piece (Elt F) S128x6144 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LT4)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, [], [], ?_, fun E K => ?run⟩
  case run =>
    simp only [cc0_quarot_down_eq_skeleton]; unfold cc0_quarot_down_skel
    simp only [k0_part65_eq_skeleton]; unfold k0_part65_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, part35_eq, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    iexists _; iexact HS4

end Cert.KernelIdeal.Gen

end
-- ==== Proof.RunFrame.lean ====
/- The frame of the kernel's program over the two runs: the pipeline's proof data, the body at every point, the launch. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (16 stores of `S128x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1 S128x128.size (by sl_kernel_rfl) y

/-- What case A leaves in output 5's staging buffer: its pieces read back over junk. -/
def out0_A_5 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S128x2048 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1)

/-- Case A's pieces for output 6 tile its block (48 stores of `S128x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S128x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1 S128x128.size (by sl_kernel_rfl) y

/-- What case A leaves in output 6's staging buffer: its pieces read back over junk. -/
def out0_A_6 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S128x6144 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1)

/-- Case A's pieces for output 7 tile its block (1 store of `S1x1x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S1x1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1 S1x1x128.size (by sl_kernel_rfl) y

/-- What case A leaves in output 7's staging buffer: its pieces read back over junk. -/
def out0_A_7 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S1x1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1)

/-- Case A's pieces for scratch `arg9`, which the kernel carries between points, cover it: 48 pieces of `S128x2048` tiling it (Lib/Ring.lean `Piece.tiledL`). -/
theorem scover0_A_0 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S6144x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1 S128x2048.size (by sl_kernel_rfl) y

/-- What case A leaves in scratch `arg9`: its pieces read back over junk. -/
def sout0_A_0 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S6144x2048 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1)

/-- Case A's pieces for scratch `arg10`, which the kernel carries between points, cover it: 1 piece of `S192x192` tiling it (Lib/Ring.lean `Piece.tiledL`). -/
theorem scover0_A_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) (y : S192x192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 S192x192.size (by sl_kernel_rfl) y

/-- What case A leaves in scratch `arg10`: its pieces read back over junk. -/
def sout0_A_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : cond0_0 i)
    (x0 : Vec F S128x6144 .bf16) (x1 : Vec F S24x24 .f32) (x2 : Vec F S3072x2048 .i8) (x3 : Vec F S48x1x2048 .i8) (x4 : Vec F S1x2048 .f32) : Vec F S192x192 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1)

/-- Case B's pieces for output 5 tile its block (16 stores of `S128x128`, checked by the kernel's evaluation: Lib/Ring.lean `Piece.tiledL`, linear in the pieces, through a loop's `@[irreducible]` trip theorem too), so they cover it. -/
theorem cover0_B_5 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1 S128x128.size (by sl_kernel_rfl) y

/-- What case B leaves in output 5's staging buffer: its pieces read back over junk. -/
def out0_B_5 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) : Vec F S128x2048 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1)

/-- Case B's pieces for output 6 tile its block (48 stores of `S128x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) (y : S128x6144.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.1 S128x128.size (by sl_kernel_rfl) y

/-- What case B leaves in output 6's staging buffer: its pieces read back over junk. -/
def out0_B_6 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) : Vec F S128x6144 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.1)

/-- Case B's pieces for output 7 tile its block (1 store of `S1x1x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) (y : S1x1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.2.1 S1x1x128.size (by sl_kernel_rfl) y

/-- What case B leaves in output 7's staging buffer: its pieces read back over junk. -/
def out0_B_7 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) : Vec F S1x1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.2.1)

/-- Case B stores nothing into scratch `arg9`: it holds what the point before left. -/
def sout0_B_0 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) : Vec F S6144x2048 .fp8e4m3 := xs0

/-- Case B stores nothing into scratch `arg10`: it holds what the point before left. -/
def sout0_B_1 (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (hc0 : ¬cond0_0 i)
    (x0 : Vec F S128x6144 .bf16) (x1 : Vec F S24x24 .f32) (x2 : Vec F S3072x2048 .i8) (x3 : Vec F S48x1x2048 .i8) (x4 : Vec F S1x2048 .f32) (xs0 : Vec F S6144x2048 .fp8e4m3) (xs1 : Vec F S192x192 .bf16) : Vec F S192x192 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x2048 .bf16 × Vec F S128x6144 .i8 × Vec F S1x1x128 .f32 × Vec F S6144x2048 .fp8e4m3 × Vec F S192x192 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 15 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 15 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 15 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases hz : t.val = 0
    · rw [PhiS_castSucc m c t, PhiS_zero m c _ _ hz, PhiA0_eq]
      rw [outsAt0_A m c t h0]
      unfold out0_A_5 out0_A_6 out0_A_7 sout0_A_0 sout0_A_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, ⟨%e5, H5⟩, ⟨%e6, H6⟩, ⟨%e7, H7⟩, ⟨%es0, HS0⟩, ⟨%es1, HS1⟩, HS2, HS3, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · iexact HS2
          isplitl [HS3]
          · iexact HS3
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _)
    · exfalso; have hN : t.val < 15 := lt_of_lt_of_eq t.isLt (show cfg0.N = 15 from N_0); omega
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold out0_B_5 out0_B_6 out0_B_7 sout0_B_0 sout0_B_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, ⟨%e5, H5⟩, ⟨%e6, H6⟩, ⟨%e7, H7⟩, HS0, HS1, HS2, HS3, ⟨%fT4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.RunValue.lean ====
/- What each result array holds after the run: its blocks, each the contents the body's run left at the block's point. -/
module

public import proofs.«01_k».proof.Proof.RunFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Which indices of each output array the points' blocks cover -/

/-! ## Output window 5 -/

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 14
    ∧ 0 ≤ win0_5.index t (1 : Fin 2) ∧ win0_5.index t (1 : Fin 2) ≤ 0
    ∧ 1 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 15) (q1 : Fin 1) : Fin grid0.N :=
  ⟨1 * q0.val + 1 * q1.val, lt_of_lt_of_eq (by omega) N_0.symm⟩
/-- Every block of the product's array is written. -/
theorem idx_onto5 : ∀ (q0 : Fin 15) (q1 : Fin 1), ∃ t : Fin cfg0.N, (cfg0.win 5).flush t = true ∧ win0_5.index t = ![q0.val + 0, q1.val + 0] :=
  fun q0 q1 => ⟨onto5Pt q0 q1, (by decide +kernel : ∀ (q0 : Fin 15) (q1 : Fin 1), win0_5.flush (onto5Pt q0 q1) = true ∧ win0_5.index (onto5Pt q0 q1) = ![q0.val + 0, q1.val + 0]) q0 q1⟩

/-- An index of the array is in point `t`'s block iff each coordinate is in the block's range on its axis. -/
theorem mem_blk5 (t : Fin cfg0.N) (i : S1920x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v3_0).slice (win0_5.rect t)).set ↔ _
  rw [View.set_slice_whole, Rect.mem_set_unit]
  exact Iff.rfl

/-- THE COVERED INDICES: in some flushing point's block iff inside the box those blocks fill. -/
theorem covered_iff5 (i : S1920x2048.Idx) :
    (∃ t : Fin cfg0.N, (cfg0.win 5).flush t = true ∧ i ∈ ((cfg0.win 5).blk t).view.set) ↔ 0 ≤ (i 0).val ∧ (i 0).val < 1920 ∧ 0 ≤ (i 1).val ∧ (i 1).val < 2048 := by
  constructor
  · rintro ⟨t, -, hi⟩
    rw [mem_blk5] at hi
    have b0 : win0_5.index t (0 : Fin 2) * 128 ≤ (i 0).val ∧ (i 0).val < win0_5.index t (0 : Fin 2) * 128 + 128 := hi 0
    have b1 : win0_5.index t (1 : Fin 2) * 2048 ≤ (i 1).val ∧ (i 1).val < win0_5.index t (1 : Fin 2) * 2048 + 2048 := hi 1
    obtain ⟨e0, e1, e2⟩ := idx_facts5 t
    omega
  · intro h
    have hi0 : (i 0).val < 1920 := (i 0).isLt
    have hi1 : (i 1).val < 2048 := (i 1).isLt
    obtain ⟨t, hft, ht⟩ := idx_onto5 ⟨(i 0).val / 128 - 0, by omega⟩ ⟨(i 1).val / 2048 - 0, by omega⟩
    have q0 : win0_5.index t (0 : Fin 2) = (i 0).val / 128 - 0 + 0 := congrFun ht 0
    have q1 : win0_5.index t (1 : Fin 2) = (i 1).val / 2048 - 0 + 0 := congrFun ht 1
    refine ⟨t, hft, ?_⟩
    rw [mem_blk5]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 2048 ≤ (i 1).val ∧ (i 1).val < win0_5.index t (1 : Fin 2) * 2048 + 2048; omega

/-! ## Output window 6 -/

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 14
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 15) (q1 : Fin 1) : Fin grid0.N :=
  ⟨1 * q0.val + 1 * q1.val, lt_of_lt_of_eq (by omega) N_0.symm⟩
/-- Every block of the codes' array is written. -/
theorem idx_onto6 : ∀ (q0 : Fin 15) (q1 : Fin 1), ∃ t : Fin cfg0.N, (cfg0.win 6).flush t = true ∧ win0_6.index t = ![q0.val + 0, q1.val + 0] :=
  fun q0 q1 => ⟨onto6Pt q0 q1, (by decide +kernel : ∀ (q0 : Fin 15) (q1 : Fin 1), win0_6.flush (onto6Pt q0 q1) = true ∧ win0_6.index (onto6Pt q0 q1) = ![q0.val + 0, q1.val + 0]) q0 q1⟩

/-- An index of the array is in point `t`'s block iff each coordinate is in the block's range on its axis. -/
theorem mem_blk6 (t : Fin cfg0.N) (i : S1920x6144.Idx) :
    i ∈ ((cfg0.win 6).blk t).view.set ↔ ∀ a : Fin 2, win0_6.index t a * S128x6144.size a ≤ (i a).val ∧ (i a).val < win0_6.index t a * S128x6144.size a + S128x6144.size a := by
  show i ∈ ((View.whole main_v3_1).slice (win0_6.rect t)).set ↔ _
  rw [View.set_slice_whole, Rect.mem_set_unit]
  exact Iff.rfl

/-- THE COVERED INDICES: in some flushing point's block iff inside the box those blocks fill. -/
theorem covered_iff6 (i : S1920x6144.Idx) :
    (∃ t : Fin cfg0.N, (cfg0.win 6).flush t = true ∧ i ∈ ((cfg0.win 6).blk t).view.set) ↔ 0 ≤ (i 0).val ∧ (i 0).val < 1920 ∧ 0 ≤ (i 1).val ∧ (i 1).val < 6144 := by
  constructor
  · rintro ⟨t, -, hi⟩
    rw [mem_blk6] at hi
    have b0 : win0_6.index t (0 : Fin 2) * 128 ≤ (i 0).val ∧ (i 0).val < win0_6.index t (0 : Fin 2) * 128 + 128 := hi 0
    have b1 : win0_6.index t (1 : Fin 2) * 6144 ≤ (i 1).val ∧ (i 1).val < win0_6.index t (1 : Fin 2) * 6144 + 6144 := hi 1
    obtain ⟨e0, e1, e2⟩ := idx_facts6 t
    omega
  · intro h
    have hi0 : (i 0).val < 1920 := (i 0).isLt
    have hi1 : (i 1).val < 6144 := (i 1).isLt
    obtain ⟨t, hft, ht⟩ := idx_onto6 ⟨(i 0).val / 128 - 0, by omega⟩ ⟨(i 1).val / 6144 - 0, by omega⟩
    have q0 : win0_6.index t (0 : Fin 2) = (i 0).val / 128 - 0 + 0 := congrFun ht 0
    have q1 : win0_6.index t (1 : Fin 2) = (i 1).val / 6144 - 0 + 0 := congrFun ht 1
    refine ⟨t, hft, ?_⟩
    rw [mem_blk6]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 6144 ≤ (i 1).val ∧ (i 1).val < win0_6.index t (1 : Fin 2) * 6144 + 6144; omega

/-! ## Output window 7 -/

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 14
    ∧ 0 ≤ win0_7.index t (1 : Fin 3) ∧ win0_7.index t (1 : Fin 3) ≤ 0
    ∧ 0 ≤ win0_7.index t (2 : Fin 3) ∧ win0_7.index t (2 : Fin 3) ≤ 0
    ∧ 1 * (win0_7.index t (0 : Fin 3) - 0) + 1 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 15) (q1 : Fin 1) (q2 : Fin 1) : Fin grid0.N :=
  ⟨1 * q0.val + 1 * q1.val + 1 * q2.val, lt_of_lt_of_eq (by omega) N_0.symm⟩
/-- Every block of the scales' array is written. -/
theorem idx_onto7 : ∀ (q0 : Fin 15) (q1 : Fin 1) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 15) (q1 : Fin 1) (q2 : Fin 1), win0_7.flush (onto7Pt q0 q1 q2) = true ∧ win0_7.index (onto7Pt q0 q1 q2) = ![q0.val + 0, q1.val + 0, q2.val + 0]) q0 q1 q2⟩

/-- An index of the array is in point `t`'s block iff each coordinate is in the block's range on its axis. -/
theorem mem_blk7 (t : Fin cfg0.N) (i : S15x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v3_2).slice (win0_7.rect t)).set ↔ _
  rw [View.set_slice_whole, Rect.mem_set_unit]
  exact Iff.rfl

/-- THE COVERED INDICES: in some flushing point's block iff inside the box those blocks fill. -/
theorem covered_iff7 (i : S15x1x128.Idx) :
    (∃ t : Fin cfg0.N, (cfg0.win 7).flush t = true ∧ i ∈ ((cfg0.win 7).blk t).view.set) ↔ 0 ≤ (i 0).val ∧ (i 0).val < 15 ∧ 0 ≤ (i 1).val ∧ (i 1).val < 1 ∧ 0 ≤ (i 2).val ∧ (i 2).val < 128 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 1 ≤ (i 1).val ∧ (i 1).val < win0_7.index t (1 : Fin 3) * 1 + 1 := hi 1
    have b2 : win0_7.index t (2 : Fin 3) * 128 ≤ (i 2).val ∧ (i 2).val < win0_7.index t (2 : Fin 3) * 128 + 128 := hi 2
    obtain ⟨e0, e1, e2, e3⟩ := idx_facts7 t
    omega
  · intro h
    have hi0 : (i 0).val < 15 := (i 0).isLt
    have hi1 : (i 1).val < 1 := (i 1).isLt
    have hi2 : (i 2).val < 128 := (i 2).isLt
    obtain ⟨t, hft, ht⟩ := idx_onto7 ⟨(i 0).val / 1 - 0, by omega⟩ ⟨(i 1).val / 1 - 0, by omega⟩ ⟨(i 2).val / 128 - 0, by omega⟩
    have q0 : win0_7.index t (0 : Fin 3) = (i 0).val / 1 - 0 + 0 := congrFun ht 0
    have q1 : win0_7.index t (1 : Fin 3) = (i 1).val / 1 - 0 + 0 := congrFun ht 1
    have q2 : win0_7.index t (2 : Fin 3) = (i 2).val / 128 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 1 ≤ (i 1).val ∧ (i 1).val < win0_7.index t (1 : Fin 3) * 1 + 1; omega
    | ⟨2, _⟩ => show win0_7.index t (2 : Fin 3) * 128 ≤ (i 2).val ∧ (i 2).val < win0_7.index t (2 : Fin 3) * 128 + 128; omega

end Cert.KernelIdeal.Value

end
-- ==== Proof.Had.lean ====
module

public import Idealize.ShloMosaic.Lib.Pointwise

@[expose] public section
set_option maxRecDepth 16384
noncomputable section
namespace Cert.Own

/-- Parity of the number of ones among the eight low bits. -/
def par (n : ℕ) : Bool :=
  (n % 2 + n / 2 % 2 + n / 4 % 2 + n / 8 % 2 + n / 16 % 2 + n / 32 % 2 + n / 64 % 2
    + n / 128 % 2) % 2 == 1

/-- The sign that the parity gives: the entry of a Sylvester matrix. -/
def sg (n : ℕ) : ℝ := if par n then -1 else 1

/-- The parity of two indices' common bits splits over the low bits and the rest. -/
theorem par_split : ∀ n < 256, par n = xor (par (n / 8)) (par (n % 8)) := by decide

/-- The sign of a Hadamard entry splits the same way, into a product. -/
theorem sg_split (n : ℕ) (h : n < 256) : sg n = sg (n / 8) * sg (n % 8) := by
  unfold sg
  rw [par_split n h]
  cases par (n / 8) <;> cases par (n % 8) <;> simp

/-- The Sylvester matrix of order 256 is the product of those of order 32 and 8. -/
theorem sg_and (q p : ℕ) (hq : q < 256) :
    sg (q &&& p) = sg (q / 8 &&& p / 8) * sg (q % 8 &&& p % 8) := by
  rw [sg_split _ (lt_of_le_of_lt Nat.and_le_left hq)]
  have h1 : (q &&& p) / 8 = q / 8 &&& p / 8 := Nat.and_div_two_pow (n := 3)
  have h2 : (q &&& p) % 8 = q % 8 &&& p % 8 := Nat.and_mod_two_pow (n := 3)
  rw [h1, h2]

/-- A sum over `a * b` places is a sum over `a` blocks of `b` places. -/
theorem sum_split (a b : ℕ) {M : Type} [AddCommMonoid M] (f : ℕ → M) :
    ∑ m : Fin (a * b), f m.val = ∑ k : Fin a, ∑ s : Fin b, f (k.val * b + s.val) := by
  rw [← Fintype.sum_prod_type', ← (finProdFinEquiv (m := a) (n := b)).sum_comp]
  refine Finset.sum_congr rfl fun x _ => ?_
  rw [finProdFinEquiv_apply_val, Nat.mul_comm, Nat.add_comm]

/-- The rotation in two steps is the rotation in one. -/
theorem had_math (had x : ℕ → ℝ) (q : ℕ) (hq : q < 256) :
    ∑ b : Fin 32, sg (q / 8 &&& b.val)
        * ∑ m : Fin 192, had (m.val / 8) * sg (q % 8 &&& m.val % 8)
            * x (m.val / 8 * 256 + b.val * 8 + m.val % 8)
      = ∑ k : Fin 24, (∑ p : Fin 256, x (k.val * 256 + p.val) * sg (q &&& p.val)) * had k.val := by
  have h1 : ∀ b : Fin 32, (∑ m : Fin 192, had (m.val / 8) * sg (q % 8 &&& m.val % 8)
            * x (m.val / 8 * 256 + b.val * 8 + m.val % 8))
      = ∑ k : Fin 24, ∑ s : Fin 8, had k.val * sg (q % 8 &&& s.val)
          * x (k.val * 256 + b.val * 8 + s.val) := by
    intro b
    refine (sum_split 24 8 fun m => had (m / 8) * sg (q % 8 &&& m % 8)
            * x (m / 8 * 256 + b.val * 8 + m % 8)).trans ?_
    refine Finset.sum_congr rfl fun k _ => Finset.sum_congr rfl fun s _ => ?_
    have e1 : (k.val * 8 + s.val) / 8 = k.val := by omega
    have e2 : (k.val * 8 + s.val) % 8 = s.val := by omega
    rw [e1, e2]
  have h2 : ∀ k : Fin 24, (∑ p : Fin 256, x (k.val * 256 + p.val) * sg (q &&& p.val))
      = ∑ b : Fin 32, ∑ s : Fin 8, x (k.val * 256 + b.val * 8 + s.val)
          * (sg (q / 8 &&& b.val) * sg (q % 8 &&& s.val)) := by
    intro k
    refine (sum_split 32 8 fun p => x (k.val * 256 + p) * sg (q &&& p)).trans ?_
    refine Finset.sum_congr rfl fun b _ => Finset.sum_congr rfl fun s _ => ?_
    rw [sg_and q _ hq]
    have e1 : (b.val * 8 + s.val) / 8 = b.val := by omega
    have e2 : (b.val * 8 + s.val) % 8 = s.val := by omega
    rw [e1, e2, Nat.add_assoc]
  simp only [h1, h2, Finset.mul_sum, Finset.sum_mul]
  rw [Finset.sum_comm]
  refine Finset.sum_congr rfl fun k _ => Finset.sum_congr rfl fun b _ =>
    Finset.sum_congr rfl fun s _ => ?_
  ring

/-- A sign as an integer. -/
def sgz (n : ℕ) : ℤ := if par n then -1 else 1

theorem sg_sgz (n : ℕ) : sg n = ((sgz n : ℤ) : ℝ) := by unfold sg sgz; split_ifs <;> simp

/-- Two rows of the Sylvester matrix of order 32, or of order 8, are orthogonal. -/
theorem orth32z : ∀ a b : Fin 32, ∑ c : Fin 32, sgz (c.val &&& a.val) * sgz (c.val &&& b.val) = if a = b then 32 else 0 := by decide +kernel
theorem orth8z : ∀ a b : Fin 8, ∑ c : Fin 8, sgz (c.val &&& a.val) * sgz (c.val &&& b.val) = if a = b then 8 else 0 := by decide +kernel

/-- Two rows of the Sylvester matrix of order 256 are orthogonal. -/
theorem orth (a b : Fin 256) : ∑ q : Fin 256, sg (q.val &&& a.val) * sg (q.val &&& b.val) = if a = b then 256 else 0 := by
  refine (sum_split 32 8 fun q => sg (q &&& a.val) * sg (q &&& b.val)).trans ?_
  have h1 : ∀ (c : Fin 32) (s : Fin 8), sg (c.val * 8 + s.val &&& a.val) * sg (c.val * 8 + s.val &&& b.val)
      = (sg (c.val &&& a.val / 8) * sg (c.val &&& b.val / 8)) * (sg (s.val &&& a.val % 8) * sg (s.val &&& b.val % 8)) := by
    intro c s
    rw [sg_and _ a.val (by omega), sg_and _ b.val (by omega)]
    have e1 : (c.val * 8 + s.val) / 8 = c.val := by omega
    have e2 : (c.val * 8 + s.val) % 8 = s.val := by omega
    rw [e1, e2]; ring
  simp only [h1, ← Finset.mul_sum, ← Finset.sum_mul]
  have h2 : ∑ c : Fin 32, sg (c.val &&& a.val / 8) * sg (c.val &&& b.val / 8) = if a.val / 8 = b.val / 8 then 32 else 0 := by
    have := orth32z ⟨a.val / 8, by omega⟩ ⟨b.val / 8, by omega⟩
    simp only [Fin.mk.injEq] at this
    simp only [sg_sgz]
    exact_mod_cast this
  have h3 : ∑ c : Fin 8, sg (c.val &&& a.val % 8) * sg (c.val &&& b.val % 8) = if a.val % 8 = b.val % 8 then 8 else 0 := by
    have := orth8z ⟨a.val % 8, by omega⟩ ⟨b.val % 8, by omega⟩
    simp only [Fin.mk.injEq] at this
    simp only [sg_sgz]
    exact_mod_cast this
  rw [h2, h3]
  by_cases e : a = b
  · subst e; norm_num
  · rw [if_neg e]
    by_cases e1 : a.val / 8 = b.val / 8
    · rw [if_neg (fun e2 : a.val % 8 = b.val % 8 => e (Fin.ext (by omega))), mul_zero]
    · rw [if_neg e1, zero_mul]

/-- Sums that all vanish come from zeros. -/
theorem had_inj (x : ℕ → ℝ) (h : ∀ q : Fin 256, ∑ p : Fin 256, x p.val * sg (q.val &&& p.val) = 0) (a : Fin 256) : x a.val = 0 := by
  have h1 : ∑ q : Fin 256, (∑ p : Fin 256, x p.val * sg (q.val &&& p.val)) * sg (q.val &&& a.val) = 0 := by
    simp only [h, zero_mul, Finset.sum_const_zero]
  have h2 : ∑ q : Fin 256, (∑ p : Fin 256, x p.val * sg (q.val &&& p.val)) * sg (q.val &&& a.val)
      = ∑ p : Fin 256, x p.val * ∑ q : Fin 256, sg (q.val &&& p.val) * sg (q.val &&& a.val) := by
    simp only [Finset.sum_mul, Finset.mul_sum]
    rw [Finset.sum_comm]
    simp only [mul_assoc]
  rw [h2] at h1
  simp only [orth, mul_ite, mul_zero, Finset.sum_ite_eq', Finset.mem_univ, if_true] at h1
  linarith

end Cert.Own
-- ==== Proof.Spec.lean ====
module

public import proofs.«01_k».proof.Proof.Had
public import Idealize.ShloMosaic.Lib.Pointwise

@[expose] public section
set_option maxRecDepth 16384
noncomputable section
namespace Cert.Own
open Idealize.ShloMosaic

/-! The problem's mathematics over the reals, a row at a time. -/

/-- The factor after the rotation, the float32 nearest to one over the root of 6144. -/
def rho : ℝ := (2 ^ 23 + 5309932 : ℕ) * (2 : ℝ) ^ (-30 : ℤ)

/-- The float constants the two programs use. -/
theorem ofBits_rho : Ideal.ofBits .f32 0x3C5105EC#32 = (rho : EReal) := by
  simp [Ideal.ofBits, Ideal.ieee, rho, -EReal.coe_mul]
theorem ofBits_zero : Ideal.ofBits .f32 0x00000000#32 = ((0 : ℝ) : EReal) := by
  simp [Ideal.ofBits, Ideal.ieee, -EReal.coe_mul]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_seven : Ideal.ofBits .f32 0x40E00000#32 = ((7 : ℝ) : EReal) := by
  simp [Ideal.ofBits, Ideal.ieee, -EReal.coe_mul]; norm_num
theorem ofBits_neg_seven : Ideal.ofBits .f32 0xC0E00000#32 = ((-7 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee, -EReal.coe_mul]
theorem ofBits_inf : Ideal.ofBits .f32 0x7F800000#32 = (⊤ : EReal) := by
  simp [Ideal.ofBits, Ideal.ieee, -EReal.coe_mul]
theorem ofBits_inf_bf16 : Ideal.ofBits .bf16 0x7F80#16 = (⊤ : EReal) := by
  simp [Ideal.ofBits, Ideal.ieee, -EReal.coe_mul]

/-- Two to the power of minus a group's exponent. -/
def pw (e : BitVec 8) : ℝ := (2 : ℝ) ^ (-(e.toNat : ℤ))

/-- A float32 whose exponent field is 127 minus the group's exponent is that power of two. -/
theorem ofBits_pw (e : BitVec 8) (h : e.toNat < 127) :
    Ideal.ofBits .f32 ((127#32 - (e.setWidth 32)) <<< (23 : ℕ)) = (pw e : EReal) := by
  have key : ∀ n : Fin 127, (((127#32 - ((BitVec.ofNat 8 n.val).setWidth 32)) <<< (23 : ℕ)).extractLsb' 31 1 == 1#1) = false
      ∧ (((127#32 - ((BitVec.ofNat 8 n.val).setWidth 32)) <<< (23 : ℕ)).extractLsb' 23 8).toNat = 127 - n.val
      ∧ (((127#32 - ((BitVec.ofNat 8 n.val).setWidth 32)) <<< (23 : ℕ)).extractLsb' 0 23).toNat = 0 := by decide
  have he : BitVec.ofNat 8 e.toNat = e := by simp
  obtain ⟨k1, k2, k3⟩ := key ⟨e.toNat, h⟩
  simp only [he] at k1 k2 k3
  generalize ((127#32 - (e.setWidth 32)) <<< (23 : ℕ)) = b at k1 k2 k3 ⊢
  show Ideal.ieee 8 23 b = _
  unfold Ideal.ieee
  simp only [show (8 + 23 : ℕ) = 31 from rfl, k1, k2, k3]
  rw [if_neg (by norm_num; omega), if_neg (by omega)]
  refine congrArg Real.toEReal ?_
  have h2 : ((127 - e.toNat : ℕ) : ℤ) - (2 ^ (8 - 1) - 1) - (23 : ℕ) = -(e.toNat : ℤ) - 23 := by
    rw [Nat.cast_sub (by omega)]; norm_num
  rw [h2, zpow_sub₀ (by norm_num), pw]
  norm_num
  field_simp

/-- Two to the negated exponent. -/
theorem pow_pw (e : BitVec 8) : Ideal.pow ((2 : ℝ) : EReal) (((-(e.toNat : ℝ)) : ℝ) : EReal) = (pw e : EReal) := by
  show ((Real.rpow 2 (-(e.toNat : ℝ)) : ℝ) : EReal) = _
  congr 1
  rw [pw]
  have := Real.rpow_intCast 2 (-(e.toNat : ℤ))
  rw [← this]; push_cast; rfl

/-- The rotation of one row `x` by the matrix `h` and the Sylvester matrix, at column `f`. -/
def rot (x : ℕ → ℝ) (h : ℕ → ℕ → ℝ) (f : ℕ) : ℝ :=
  ∑ k : Fin 24, (∑ p : Fin 256, x (k.val * 256 + p.val) * sg (f % 256 &&& p.val)) * h (f / 256) k.val

/-- The greatest magnitude of a rotated row, before the factor. -/
def mx (x : ℕ → ℝ) (h : ℕ → ℕ → ℝ) : ℝ :=
  (Finset.univ : Finset (Fin 6144)).sup' ⟨0, Finset.mem_univ _⟩ fun f => |rot x h f.val|

/-- The quantiser's scale of a row. -/
def scR (x : ℕ → ℝ) (h : ℕ → ℕ → ℝ) : ℝ := if mx x h * rho = 0 then 1 else mx x h * rho / 7

/-- The code of a row at column `f`, as an integer from -7 to 7. -/
def cdR (x : ℕ → ℝ) (h : ℕ → ℕ → ℝ) (f : ℕ) : ℤ :=
  min 7 (max (-7) (Ideal.roundHalfEven (rot x h f * rho / scR x h)))

/-- The signed low and high four bits of a byte. -/
def nib (b : BitVec 8) (hi : Bool) : ℤ :=
  (((b.setWidth 32) <<< (if hi then 24 else 28 : ℕ)).sshiftRight 28).toInt

/-- The weight at row `f` and column `n`. -/
def wt (wb eb : ℕ → ℕ → BitVec 8) (f n : ℕ) : ℝ :=
  (nib (wb (f / 2) n) (f % 2 == 1) : ℝ) * pw (eb (f / 128) n)

/-- The factor is positive. -/
theorem rho_pos : 0 < rho := by unfold rho; positivity

/-- The largest magnitude is not negative. -/
theorem mx_nonneg (x : ℕ → ℝ) (h : ℕ → ℕ → ℝ) : 0 ≤ mx x h :=
  le_trans (abs_nonneg _) (Finset.le_sup' (fun f : Fin 6144 => |rot x h f.val|) (Finset.mem_univ (⟨0, by omega⟩ : Fin 6144)))

/-- A scale is positive. -/
theorem scR_pos (x : ℕ → ℝ) (h : ℕ → ℕ → ℝ) : 0 < scR x h := by
  unfold scR
  split_ifs with h0
  · norm_num
  · have := mul_nonneg (mx_nonneg x h) rho_pos.le
    exact div_pos (lt_of_le_of_ne this (Ne.symm h0)) (by norm_num)

/-- An extended real with the upper bounds of a row's magnitudes is the greatest of them. -/
theorem eq_mx (x : ℕ → ℝ) (h : ℕ → ℕ → ℝ) (M : EReal)
    (hM : ∀ y : EReal, M ≤ y ↔ ∀ f : Fin 6144, ((|rot x h f.val| : ℝ) : EReal) ≤ y) :
    M = (mx x h : EReal) := by
  refine le_antisymm ((hM _).mpr fun f => ?_) ?_
  · exact EReal.coe_le_coe_iff.mpr (Finset.le_sup' (fun f : Fin 6144 => |rot x h f.val|) (Finset.mem_univ f))
  · obtain ⟨f, -, hf⟩ := Finset.exists_mem_eq_sup' (s := (Finset.univ : Finset (Fin 6144))) ⟨0, Finset.mem_univ _⟩
      (fun f => |rot x h f.val|)
    rw [mx, hf]
    exact (hM M).mp le_rfl f

/-- A value bounded exactly as the scaled magnitudes are is their largest. -/
theorem eq_mx_rho (x : ℕ → ℝ) (h : ℕ → ℕ → ℝ) (M : EReal)
    (hM : ∀ y : EReal, M ≤ y ↔ ∀ f : Fin 6144, ((|rot x h f.val * rho| : ℝ) : EReal) ≤ y) :
    M = ((mx x h * rho : ℝ) : EReal) := by
  have e : ∀ f, |rot x h f * rho| = |rot x h f| * rho := fun f => by
    rw [abs_mul, abs_of_pos rho_pos]
  refine le_antisymm ((hM _).mpr fun f => ?_) ?_
  · rw [e]
    exact EReal.coe_le_coe_iff.mpr (mul_le_mul_of_nonneg_right
      (Finset.le_sup' (fun f : Fin 6144 => |rot x h f.val|) (Finset.mem_univ f)) rho_pos.le)
  · obtain ⟨f, -, hf⟩ := Finset.exists_mem_eq_sup' (s := (Finset.univ : Finset (Fin 6144))) ⟨0, Finset.mem_univ _⟩
      (fun f => |rot x h f.val|)
    rw [mx, hf, ← e]
    exact (hM M).mp le_rfl f

/-- Division of a real by a real that is not zero. -/
theorem div_real (a b : ℝ) (hb : b ≠ 0) : Ideal.div (a : EReal) (b : EReal) = ((a / b : ℝ) : EReal) := by
  rw [Ideal.div_coe hb, ← EReal.coe_mul, mul_one_div]

/-- The magnitude of a real among the extended reals. -/
theorem abs_coe (a : ℝ) : max (a : EReal) (-(a : EReal)) = ((|a| : ℝ) : EReal) := by
  rw [← EReal.coe_neg, abs_eq_max_neg]
  exact (EReal.coe_strictMono.monotone.map_max).symm

/-- The scale from the greatest magnitude, as both programs select it. -/
theorem scale_eq (x : ℕ → ℝ) (h : ℕ → ℕ → ℝ) :
    (if ((mx x h * rho : ℝ) : EReal) = ((0 : ℝ) : EReal) then ((1 : ℝ) : EReal)
      else Ideal.div ((mx x h * rho : ℝ) : EReal) ((7 : ℝ) : EReal)) = (scR x h : EReal) := by
  unfold scR
  rw [div_real _ _ (by norm_num)]
  by_cases h0 : mx x h * rho = 0
  · rw [if_pos (by rw [h0]), if_pos h0]
  · rw [if_neg (fun e => h0 (EReal.coe_injective e)), if_neg h0]

/-- A small integer survives eight bits. -/
theorem toInt_of_int (w : ℕ) (hw : 7 < 2 ^ (w - 1)) (z : ℤ) (h1 : -7 ≤ z) (h2 : z ≤ 7) :
    Ideal.fptosi w (((z : ℝ)) : EReal) = BitVec.ofInt w z := by
  unfold Ideal.fptosi
  rw [Ideal.toIntClamped_coe]
  congr 1
  have : (if (0 : ℝ) ≤ (z : ℝ) then ⌊(z : ℝ)⌋ else ⌈(z : ℝ)⌉) = z := by split_ifs <;> simp
  rw [this]
  have h8 : ((2 ^ (w - 1) : ℕ) : ℤ) ≥ 8 := by exact_mod_cast hw
  omega

/-- The clamp of a rounded real, lower bound first. -/
theorem clip_lo (v : ℝ) : min (((7 : ℝ) : EReal)) (max (((-7 : ℝ)) : EReal) (Ideal.liftRound Ideal.roundHalfEven (v : EReal)))
    = (((min 7 (max (-7) (Ideal.roundHalfEven v)) : ℤ) : ℝ) : EReal) := by
  have cmax : ∀ a b : ℝ, max (a : EReal) (b : EReal) = ((max a b : ℝ) : EReal) := fun a b =>
    (EReal.coe_strictMono.monotone.map_max).symm
  have cmin : ∀ a b : ℝ, min (a : EReal) (b : EReal) = ((min a b : ℝ) : EReal) := fun a b =>
    (EReal.coe_strictMono.monotone.map_min).symm
  rw [Ideal.liftRound_coe, cmax, cmin]
  push_cast; rfl

/-- A four-bit field taken by shifts and by a mask and a comparison. -/
theorem nib_lo : ∀ b : BitVec 8,
    (if (8#32).sle (b.setWidth 32 &&& 15#32) then (b.setWidth 32 &&& 15#32) - 16#32 else b.setWidth 32 &&& 15#32).toInt
      = nib b false := by decide
/-- The high half of a byte. -/
theorem nib_hi : ∀ b : BitVec 8,
    (if (8#32).sle ((b.setWidth 32).sshiftRight 4 &&& 15#32) then ((b.setWidth 32).sshiftRight 4 &&& 15#32) - 16#32
      else (b.setWidth 32).sshiftRight 4 &&& 15#32).toInt = nib b true := by decide

/-- The rows of the activations, the matrix, the bytes and the exponents, by natural-number places. -/
def xs (v : (⟨3, ![5, 384, 6144]⟩ : Shape).Idx → EReal) (r c : ℕ) : EReal :=
  if h : r < 1920 ∧ c < 6144 then v (ix3 ⟨r / 384, by omega⟩ ⟨r % 384, by omega⟩ ⟨c, h.2⟩) else 0
def hs (v : (⟨2, ![24, 24]⟩ : Shape).Idx → EReal) (j k : ℕ) : EReal :=
  if h : j < 24 ∧ k < 24 then v (ix2 ⟨j, h.1⟩ ⟨k, h.2⟩) else 0
def wbs (v : (⟨2, ![3072, 2048]⟩ : Shape).Idx → BitVec 8) (i n : ℕ) : BitVec 8 :=
  if h : i < 3072 ∧ n < 2048 then v (ix2 ⟨i, h.1⟩ ⟨n, h.2⟩) else 0
def ebs (v : (⟨2, ![48, 2048]⟩ : Shape).Idx → BitVec 8) (g n : ℕ) : BitVec 8 :=
  if h : g < 48 ∧ n < 2048 then v (ix2 ⟨g, h.1⟩ ⟨n, h.2⟩) else 0

/-- An entry of the activations. -/
theorem xs_eq (v : (⟨3, ![5, 384, 6144]⟩ : Shape).Idx → EReal) (a : Fin 5) (b : Fin 384) (c : Fin 6144) :
    v (ix3 a b c) = xs v (a.val * 384 + b.val) c.val := by
  unfold xs
  have h1 : (a.val * 384 + b.val) / 384 = a.val := by omega
  have h2 : (a.val * 384 + b.val) % 384 = b.val := by omega
  rw [dif_pos (by omega)]
  simp only [h1, h2, Fin.eta]

/-- An entry of the matrix. -/
theorem hs_eq (v : (⟨2, ![24, 24]⟩ : Shape).Idx → EReal) (j k : Fin 24) : v (ix2 j k) = hs v j.val k.val := by
  unfold hs
  rw [dif_pos (by omega)]

/-- A byte of the packed weights. -/
theorem wbs_eq (v : (⟨2, ![3072, 2048]⟩ : Shape).Idx → BitVec 8) (i : Fin 3072) (n : Fin 2048) :
    v (ix2 i n) = wbs v i.val n.val := by
  unfold wbs; rw [dif_pos (by omega)]

/-- A byte of the exponents. -/
theorem ebs_eq (v : (⟨2, ![48, 2048]⟩ : Shape).Idx → BitVec 8) (i : Fin 48) (n : Fin 2048) :
    v (ix2 i n) = ebs v i.val n.val := by
  unfold ebs; rw [dif_pos (by omega)]

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Rows with infinities -/

/-- An extended real that is not a real number. -/
def inf (v : EReal) : Prop := v = ⊤ ∨ v = ⊥

/-- A value that is no infinity is its real part. -/
theorem coe_of_not_inf {v : EReal} (h : ¬inf v) : v = ((v.toReal : ℝ) : EReal) :=
  (EReal.coe_toReal (fun e => h (Or.inl e)) (fun e => h (Or.inr e))).symm

/-- A real number is no infinity. -/
theorem not_inf_coe (r : ℝ) : ¬inf (r : EReal) := by rintro (h | h) <;> simp at h

/-- A sum is infinite exactly if a summand is. -/
theorem inf_add (a b : EReal) : inf (a + b) ↔ inf a ∨ inf b := by
  unfold inf
  induction a <;> induction b <;> simp [← EReal.coe_add]

/-- A finite sum is infinite exactly if a summand is. -/
theorem inf_sum {ι : Type} (s : Finset ι) (f : ι → EReal) : inf (∑ i ∈ s, f i) ↔ ∃ i ∈ s, inf (f i) := by
  classical
  induction s using Finset.induction_on with
  | empty => simp [inf]
  | insert a s ha ih => rw [Finset.sum_insert ha, inf_add, ih]; simp

/-- A product is infinite exactly if a factor is and the other is not zero. -/
theorem inf_mul (a b : EReal) : inf (a * b) ↔ (inf a ∧ b ≠ 0) ∨ (inf b ∧ a ≠ 0) := by
  have key : ∀ (r : ℝ), (inf ((⊤ : EReal) * r) ↔ r ≠ 0) ∧ (inf ((⊥ : EReal) * r) ↔ r ≠ 0) := by
    intro r
    unfold inf
    rcases lt_trichotomy r 0 with h | h | h
    · simp [EReal.top_mul_coe_of_neg h, EReal.bot_mul_coe_of_neg h, h.ne]
    · subst h; simp
    · simp [EReal.top_mul_coe_of_pos h, EReal.bot_mul_coe_of_pos h, h.ne']
  have kt := fun r => (key r).1
  have kb := fun r => (key r).2
  induction a with
  | bot =>
    induction b with
    | bot => simp [inf]
    | coe r => rw [kb]; simp [inf]
    | top => simp [inf]
  | coe s =>
    induction b with
    | bot => rw [mul_comm, kb]; simp [inf]
    | coe r =>
      refine iff_of_false ?_ (by simp [not_inf_coe])
      rw [← EReal.coe_mul]; exact not_inf_coe _
    | top => rw [mul_comm, kt]; simp [inf]
  | top =>
    induction b with
    | bot => simp [inf]
    | coe r => rw [kt]; simp [inf]
    | top => simp [inf]

/-- The magnitude of an infinity. -/
theorem inf_abs {v : EReal} (h : inf v) : max v (-v) = ⊤ := by rcases h with h | h <;> simp [h]

/-- A row and a matrix of which some product that the rotation sums is infinite. -/
def bad (x : ℕ → EReal) (h : ℕ → ℕ → EReal) : Prop :=
  ∃ (j k : Fin 24) (p : Fin 256), inf (h j.val k.val * x (k.val * 256 + p.val))

/-- The real parts of a row. -/
def rl (x : ℕ → EReal) (f : ℕ) : ℝ := (x f).toReal

/-- The real parts of a matrix. -/
def rl2 (h : ℕ → ℕ → EReal) (j k : ℕ) : ℝ := (h j k).toReal

open Classical in
/-- The quantiser's scale of a row: infinite for a row with an infinity. -/
def sc (x : ℕ → EReal) (h : ℕ → ℕ → EReal) : EReal := if bad x h then ⊤ else (scR (rl x) (rl2 h) : EReal)

open Classical in
/-- The code of a row at column `f`: zero in a row with an infinity. -/
def cd (x : ℕ → EReal) (h : ℕ → ℕ → EReal) (f : ℕ) : ℤ := if bad x h then 0 else cdR (rl x) (rl2 h) f

/-- The product of a row's codes with the weights at column `n`. -/
def acc (x : ℕ → EReal) (h : ℕ → ℕ → EReal) (wb eb : ℕ → ℕ → BitVec 8) (n : ℕ) : ℝ :=
  ∑ f : Fin 6144, (cd x h f.val : ℝ) * wt wb eb f.val n

/-- A code is from -7 to 7. -/
theorem cd_bounds (x : ℕ → EReal) (h : ℕ → ℕ → EReal) (f : ℕ) : -7 ≤ cd x h f ∧ cd x h f ≤ 7 := by
  unfold cd cdR; split_ifs <;> omega

/-- What both programs' rotated rows are: the rotation if no product is infinite, else infinite somewhere. -/
def Rep (x : ℕ → EReal) (h : ℕ → ℕ → EReal) (R : ℕ → EReal) : Prop :=
  (¬bad x h → ∀ f < 6144, R f = ((rot (rl x) (rl2 h) f : ℝ) : EReal)) ∧ (bad x h → ∃ f < 6144, inf (R f))

/-- An infinity divided by seven. -/
theorem top_div : Ideal.div ⊤ ((7 : ℝ) : EReal) = ⊤ := by
  rw [Ideal.div_coe (by norm_num)]
  exact EReal.top_mul_coe_of_pos (by norm_num)

/-- A value divided by infinity. -/
theorem div_top (a : EReal) : Ideal.div a ⊤ = 0 := by
  unfold Ideal.div
  rw [if_neg (by simp), EReal.inv_top, mul_zero]

/-- The scale, from the greatest magnitude of the scaled row. -/
theorem scale_ref (x : ℕ → EReal) (h : ℕ → ℕ → EReal) (R : ℕ → EReal) (hR : Rep x h R) (A : EReal)
    (hA : ∀ y : EReal, A ≤ y ↔ ∀ f : Fin 6144, max (R f.val * (rho : EReal)) (-(R f.val * (rho : EReal))) ≤ y) :
    (if A = ((0 : ℝ) : EReal) then ((1 : ℝ) : EReal) else Ideal.div A ((7 : ℝ) : EReal)) = sc x h := by
  unfold sc
  by_cases hb : bad x h
  · obtain ⟨f, hf, hi⟩ := hR.2 hb
    have e : A = ⊤ := by
      have := (hA A).mp le_rfl ⟨f, hf⟩
      rw [inf_abs ((inf_mul _ _).mpr (Or.inl ⟨hi, by simpa using rho_pos.ne'⟩))] at this
      exact top_le_iff.mp this
    rw [e, if_pos hb, if_neg (by simp), top_div]
  · rw [if_neg hb, ← scale_eq, eq_mx_rho (rl x) (rl2 h) A fun y => (hA y).trans (forall_congr' fun f => by
      rw [hR.1 hb f.val f.isLt, ← EReal.coe_mul, abs_coe])]

/-- The scale, from the greatest magnitude before the factor. -/
theorem scale_ker (x : ℕ → EReal) (h : ℕ → ℕ → EReal) (R : ℕ → EReal) (hR : Rep x h R) (M : EReal)
    (hM : ∀ y : EReal, M ≤ y ↔ ∀ f : Fin 6144, max (R f.val) (-R f.val) ≤ y) :
    (if M * (rho : EReal) = ((0 : ℝ) : EReal) then ((1 : ℝ) : EReal) else Ideal.div (M * (rho : EReal)) ((7 : ℝ) : EReal)) = sc x h := by
  unfold sc
  by_cases hb : bad x h
  · obtain ⟨f, hf, hi⟩ := hR.2 hb
    have e : M = ⊤ := by
      have := (hM M).mp le_rfl ⟨f, hf⟩
      rw [inf_abs hi] at this
      exact top_le_iff.mp this
    rw [e, if_pos hb, EReal.top_mul_coe_of_pos rho_pos, if_neg (by simp), top_div]
  · rw [if_neg hb, ← scale_eq, eq_mx (rl x) (rl2 h) M fun y => (hM y).trans (forall_congr' fun f => by
      rw [hR.1 hb f.val f.isLt, abs_coe]), ← EReal.coe_mul]

/-- Zero is clamped to the code zero. -/
theorem clip_zero : min (((7 : ℝ) : EReal)) (max (((-7 : ℝ)) : EReal) (Ideal.liftRound Ideal.roundHalfEven 0)) = (((0 : ℤ) : ℝ) : EReal) := by
  have e : Ideal.roundHalfEven 0 = 0 := by simp [Ideal.roundHalfEven]
  have := clip_lo 0
  rw [e] at this
  exact this

/-- A code, from the row's entry times the reciprocal. -/
theorem code_ker (x : ℕ → EReal) (h : ℕ → ℕ → EReal) (R : ℕ → EReal) (hR : Rep x h R) (f : ℕ) (hf : f < 6144) :
    min (((7 : ℝ) : EReal)) (max (((-7 : ℝ)) : EReal) (Ideal.liftRound Ideal.roundHalfEven (R f * Ideal.div (rho : EReal) (sc x h))))
      = (((cd x h f : ℤ) : ℝ) : EReal) := by
  unfold sc cd
  by_cases hb : bad x h
  · rw [if_pos hb, if_pos hb, div_top, mul_zero, clip_zero]
  · rw [if_neg hb, if_neg hb, hR.1 hb f hf, div_real _ _ (scR_pos _ _).ne', ← EReal.coe_mul, ← mul_div_assoc, clip_lo]
    rfl

/-- A code, from the scaled row's entry divided by the scale. -/
theorem code_ref (x : ℕ → EReal) (h : ℕ → ℕ → EReal) (R : ℕ → EReal) (hR : Rep x h R) (f : ℕ) (hf : f < 6144) :
    min (((7 : ℝ) : EReal)) (max (((-7 : ℝ)) : EReal) (Ideal.liftRound Ideal.roundHalfEven (Ideal.div (R f * (rho : EReal)) (sc x h))))
      = (((cd x h f : ℤ) : ℝ) : EReal) := by
  unfold sc cd
  by_cases hb : bad x h
  · rw [if_pos hb, if_pos hb, div_top, clip_zero]
  · rw [if_neg hb, if_neg hb, hR.1 hb f hf, ← EReal.coe_mul, div_real _ _ (scR_pos _ _).ne', clip_lo]
    rfl

/-- A product that is no infinity is the product of the real parts. -/
theorem mul_of_not_inf {a b : EReal} (h : ¬inf (a * b)) : a * b = ((a.toReal * b.toReal : ℝ) : EReal) := by
  rw [← EReal.toReal_mul]; exact coe_of_not_inf h

/-- A sign is not zero. -/
theorem sg_ne (n : ℕ) : ((sg n : ℝ) : EReal) ≠ 0 := by
  unfold sg; split_ifs <;> simp

/-- The entry of the Sylvester matrix from the count of common ones. -/
theorem sg_word : ∀ b : BitVec 8,
    (1#32 - 2#32 * (BitVec.ofNat 32 ((b.setWidth 32).cpop.toNat) &&& 1#32)).toInt = if par b.toNat then -1 else 1 := by decide

end Cert.Own
end
end
-- ==== Proof.Pay.lean ====
module

public import proofs.«01_k».proof.Proof.RunValue
public import proofs.«01_k».proof.Proof.Spec
public import Idealize.ShloMosaic.Lib.Pointwise

@[expose] public section
set_option maxRecDepth 16384
noncomputable section
namespace Cert.KernelIdeal.Own
open Cert.KernelIdeal Cert.KernelIdeal.Gen Cert.Own Idealize.ShloMosaic Idealize.ShloMosaic.TcCoe

/-! The payloads of the kernel's stores at one index, over arbitrary operands. -/

/-- The transposed block, entry by entry. -/
theorem pay235 (v : FVec Ideal S128x128 .bf16) (i0 : Fin 1) (i1 : Fin 16) (i2 : Fin 8) (i3 : Fin 128) :
    k0_pay235 (F := Ideal) v (ix4 i0 i1 i2 i3) = v (ix2 i3 ⟨i1.val * 8 + i2.val, by omega⟩) := by
  pointwise [k0_pay235]

/-- The first rotation of one pair of slices, its first slice. -/
theorem pay296 (a b : FVec Ideal S24x1x8x128 .f32) (c : FVec Ideal S192x192 .bf16) (i0 : Fin 24) (i1 : Fin 1) (i2 : Fin 8) (i3 : Fin 128) :
    k0_pay296 (F := Ideal) a b c (ix4 i0 i1 i2 i3)
      = ∑ m : Fin 192, c (ix2 ⟨i0.val * 8 + i2.val, by omega⟩ m) * a (ix4 ⟨m.val / 8, by omega⟩ 0 ⟨m.val % 8, by omega⟩ i3) := by
  pointwise [k0_pay296, k0_pay295]

/-- Its second slice. -/
theorem pay297 (a b : FVec Ideal S24x1x8x128 .f32) (c : FVec Ideal S192x192 .bf16) (i0 : Fin 24) (i1 : Fin 1) (i2 : Fin 8) (i3 : Fin 128) :
    k0_pay297 (F := Ideal) a b c (ix4 i0 i1 i2 i3)
      = ∑ m : Fin 192, c (ix2 ⟨i0.val * 8 + i2.val, by omega⟩ m) * b (ix4 ⟨m.val / 8, by omega⟩ 0 ⟨m.val % 8, by omega⟩ i3) := by
  pointwise [k0_pay297, k0_pay295]

/-- The scale, from a bound on the largest magnitude. -/
theorem pay354 (v : FVec Ideal S8x128 .f32) (x : ℕ → EReal) (h : ℕ → ℕ → EReal) (R : ℕ → EReal) (hR : Rep x h R) (i0 : Fin 1) (i1 : Fin 128)
    (hv : ∀ y : EReal, (∀ s : Fin 8, v (ix2 s i1) ≤ y) ↔ ∀ f : Fin 6144, max (R f.val) (-R f.val) ≤ y) :
    k0_pay354 (F := Ideal) v (ix2 i0 i1) = sc x h := by
  have hM : ∀ y : EReal, Finset.fold max (Ideal.ofBits FTy.f32 4286578688#32) (fun s : Fin 8 => v (ix2 s i1)) Finset.univ ≤ y
      ↔ ∀ f : Fin 6144, max (R f.val) (-R f.val) ≤ y := fun y => by
    rw [Finset.fold_max_le, ofBits_neg_inf, ← hv]
    exact ⟨fun g s => g.2 s (Finset.mem_univ s), fun g => ⟨bot_le, fun s _ => g s⟩⟩
  pointwise [k0_pay354]
  rw [ofBits_rho, ofBits_seven]
  exact scale_ker x h R hR _ hM
/-- The scale as it is stored. -/
theorem pay355 (v : FVec Ideal S8x128 .f32) (i0 i1 : Fin 1) (i2 : Fin 128) :
    k0_pay355 (F := Ideal) v (ix3 i0 i1 i2) = k0_pay354 (F := Ideal) v (ix2 0 i2) := by
  unfold k0_pay355
  generalize k0_pay354 (F := Ideal) v = w
  pointwise []
/-- The reciprocal of the scale. -/
theorem pay356 (v : FVec Ideal S8x128 .f32) (i0 : Fin 1) (i1 : Fin 128) :
    k0_pay356 (F := Ideal) v (ix2 i0 i1) = Ideal.div (rho : EReal) (k0_pay354 (F := Ideal) v (ix2 i0 i1)) := by
  unfold k0_pay356
  generalize k0_pay354 (F := Ideal) v = w
  pointwise []
  rw [ofBits_rho]
/-- A code, from a rotated entry and the reciprocal. -/
theorem pay359 (a : FVec Ideal S1x128 .f32) (v : FVec Ideal S1x16x8x128 .f32) (x : ℕ → EReal) (h : ℕ → ℕ → EReal) (R : ℕ → EReal) (hR : Rep x h R) (i0 i1 : Fin 128) (f : ℕ) (hf : f < 6144)
    (ha : a (ix2 0 i0) = Ideal.div (rho : EReal) (sc x h))
    (hv : v (ix4 0 ⟨i1.val / 8, by omega⟩ ⟨i1.val % 8, by omega⟩ i0) = R f) :
    k0_pay359 (F := Ideal) a v (ix2 i0 i1) = BitVec.ofInt 8 (cd x h f) := by
  pointwise [k0_pay359]
  rw [ha, hv]
  have e1 : (((7#32).toInt : ℝ) : EReal) = ((7 : ℝ) : EReal) := by
    rw [show (7#32).toInt = 7 from by decide]; norm_num
  have e2 : (((4294967289#32).toInt : ℝ) : EReal) = ((-7 : ℝ) : EReal) := by
    rw [show (4294967289#32).toInt = -7 from by decide]; norm_num
  rw [e1, e2, code_ker x h R hR f hf]
  exact toInt_of_int 8 (by norm_num) _ (cd_bounds x h f).1 (cd_bounds x h f).2
/-- A code read back as an integer. -/
theorem code_toInt (x : ℕ → EReal) (h : ℕ → ℕ → EReal) (f : ℕ) : (BitVec.ofInt 8 (cd x h f)).toInt = cd x h f := by
  have := cd_bounds x h f
  rw [BitVec.toInt_ofInt]
  exact Int.bmod_eq_of_le (by norm_num; omega) (by norm_num; omega)
/-- The code as the product's operand. -/
theorem pay360 (a : FVec Ideal S1x128 .f32) (v : FVec Ideal S1x16x8x128 .f32) (i0 i1 : Fin 128) :
    k0_pay360 (F := Ideal) a v (ix2 i0 i1) = (((k0_pay359 (F := Ideal) a v (ix2 i0 i1)).toInt : ℝ) : EReal) := by
  unfold k0_pay360
  generalize k0_pay359 (F := Ideal) a v = w
  pointwise []
  rfl
/-- The scaled product at the left half of its columns. -/
theorem pay473 (s : FVec Ideal S1x128 .f32) (v : FVec Ideal S128x6144 .fp8e4m3) (w : FVec Ideal S6144x256 .fp8e4m3) (z : FVec Ideal S1x128 .f32) (i0 i1 : Fin 128) :
    k0_pay473 (F := Ideal) s v w z (ix2 i0 i1) = ((∑ f : Fin 6144, v (ix2 i0 f) * w (ix2 f ⟨i1.val, by omega⟩)) * s (ix2 0 i0)) * z (ix2 0 i1) := by
  pointwise [k0_pay473, k0_pay472, k0_pay471]
/-- The scaled product at the right half of its columns. -/
theorem pay474 (s : FVec Ideal S1x128 .f32) (v : FVec Ideal S128x6144 .fp8e4m3) (w : FVec Ideal S6144x256 .fp8e4m3) (z : FVec Ideal S1x128 .f32) (i0 i1 : Fin 128) :
    k0_pay474 (F := Ideal) s v w z (ix2 i0 i1) = ((∑ f : Fin 6144, v (ix2 i0 f) * w (ix2 f ⟨128 + i1.val, by omega⟩)) * s (ix2 0 i0)) * z (ix2 0 i1) := by
  pointwise [k0_pay474, k0_pay472, k0_pay471]

end Cert.KernelIdeal.Own
end
end
-- ==== Proof.KXt.lean ====
module

public import proofs.«01_k».proof.Proof.Pay
public import Idealize.ShloMosaic.Lib.Pointwise
public import Idealize.ShloMosaic.Lib.Pipeline.ReadBack

@[expose] public section
set_option maxRecDepth 16384
noncomputable section
namespace Cert.KernelIdeal.Own
open Cert.KernelIdeal Cert.KernelIdeal.Gen Cert.Own Idealize.ShloMosaic Idealize.ShloMosaic.TcCoe

/-- One more store that is a block of `G`. -/
theorem pcons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

/-- The activations transposed: feature group, position in the group's run of eight, token. -/
def xtG (X : FVec Ideal S128x6144 .bf16) : FVec Ideal S24x32x8x128 .f32 := fun y =>
  X (ix2 (n0 := 128) (n1 := 6144) (y 3) ⟨(y 0).val * 256 + (y 1).val * 8 + (y 2).val, by
    have h0 : (y 0).val < 24 := (y 0).isLt
    have h1 : (y 1).val < 32 := (y 1).isLt
    have h2 : (y 2).val < 8 := (y 2).isLt
    omega⟩)

/-- The first rotation of the transposed activations by the matrix `C`. -/
def rG (C : FVec Ideal S192x192 .bf16) (X : FVec Ideal S128x6144 .bf16) : FVec Ideal S24x32x8x128 .f32 := fun y =>
  ∑ m : Fin 192, C (ix2 (n0 := 192) (n1 := 192) ⟨(y 0).val * 8 + (y 2).val, by
    have h0 : (y 0).val < 24 := (y 0).isLt
    have h2 : (y 2).val < 8 := (y 2).isLt
    omega⟩ m) * xtG X (ix4 (n0 := 24) (n1 := 32) (n2 := 8) (n3 := 128) ⟨m.val / 8, by omega⟩ (y 1) ⟨m.val % 8, by omega⟩ (y 3))

/-- One stored piece of the transposed block. -/
theorem xt_piece (v : FVec Ideal S128x128 .bf16) (X : FVec Ideal S128x6144 .bf16) (k b n : ℕ) (hn : n = k * 256 + b * 8)
    (inb : ∀ a, (![0, n] : Fin 2 → ℕ) a + S128x128.size a ≤ S128x6144.size a)
    (hv : v = View.ld (Val := Elt Ideal) (e' := .bf16) X (Rect.unit (s := S128x6144) ![0, n] S128x128.size inb))
    (inb' : ∀ a, (![k, b, 0, 0] : Fin 4 → ℕ) a + S1x16x8x128.size a ≤ S24x32x8x128.size a) (x : S1x16x8x128.Idx) :
    k0_pay235 (F := Ideal) v x = xtG X ((Rect.unit (s := S24x32x8x128) ![k, b, 0, 0] S1x16x8x128.size inb').emb x) := by
  subst hv
  obtain ⟨i0, i1, i2, i3, rfl⟩ : ∃ (i0 : Fin 1) (i1 : Fin 16) (i2 : Fin 8) (i3 : Fin 128), x = ix4 i0 i1 i2 i3 :=
    ⟨x 0, x 1, x 2, x 3, eq_ix4 x⟩
  rw [pay235]
  refine congrArg X (funext fun a => Fin.ext ?_)
  have h0 : i0.val = 0 := by omega
  fin_cases a
  · show 0 + 1 * i3.val = 0 + 1 * i3.val
    rfl
  · show n + 1 * (i1.val * 8 + i2.val) = (k + 1 * i0.val) * 256 + (b + 1 * i1.val) * 8 + (0 + 1 * i2.val)
    omega

/-- One stored piece of the first rotation, from the first slice of a pair. -/
theorem rE_piece (C : FVec Ideal S192x192 .bf16) (X : FVec Ideal S128x6144 .bf16) (a d : FVec Ideal S24x1x8x128 .f32) (b : ℕ)
    (inb : ∀ a, (![0, b, 0, 0] : Fin 4 → ℕ) a + S24x1x8x128.size a ≤ S24x32x8x128.size a)
    (ha : a = View.ld (Val := Elt Ideal) (e' := .f32) (xtG X) (Rect.unit (s := S24x32x8x128) ![0, b, 0, 0] S24x1x8x128.size inb)) (x : S24x1x8x128.Idx) :
    k0_pay296 (F := Ideal) a d C x = rG C X ((Rect.unit (s := S24x32x8x128) ![0, b, 0, 0] S24x1x8x128.size inb).emb x) := by
  subst ha
  obtain ⟨i0, i1, i2, i3, rfl⟩ : ∃ (i0 : Fin 24) (i1 : Fin 1) (i2 : Fin 8) (i3 : Fin 128), x = ix4 i0 i1 i2 i3 :=
    ⟨x 0, x 1, x 2, x 3, eq_ix4 x⟩
  rw [pay296]
  unfold rG
  have h1 : i1.val = 0 := by omega
  refine Finset.sum_congr rfl fun m _ => congrArg₂ (· * ·) (congrArg C (funext fun q => Fin.ext ?_)) (congrArg (xtG X) (funext fun q => Fin.ext ?_))
  · fin_cases q
    · show i0.val * 8 + i2.val = (0 + 1 * i0.val) * 8 + (0 + 1 * i2.val)
      omega
    · rfl
  · fin_cases q
    · show 0 + 1 * (m.val / 8) = m.val / 8
      omega
    · show b + 1 * 0 = b + 1 * i1.val
      omega
    · show 0 + 1 * (m.val % 8) = m.val % 8
      omega
    · rfl

/-- One stored piece of the first rotation, from the second slice of a pair. -/
theorem rO_piece (C : FVec Ideal S192x192 .bf16) (X : FVec Ideal S128x6144 .bf16) (a d : FVec Ideal S24x1x8x128 .f32) (b : ℕ)
    (inb : ∀ a, (![0, b, 0, 0] : Fin 4 → ℕ) a + S24x1x8x128.size a ≤ S24x32x8x128.size a)
    (ha : d = View.ld (Val := Elt Ideal) (e' := .f32) (xtG X) (Rect.unit (s := S24x32x8x128) ![0, b, 0, 0] S24x1x8x128.size inb)) (x : S24x1x8x128.Idx) :
    k0_pay297 (F := Ideal) a d C x = rG C X ((Rect.unit (s := S24x32x8x128) ![0, b, 0, 0] S24x1x8x128.size inb).emb x) := by
  rw [← rE_piece C X d a b inb ha x]
  obtain ⟨i0, i1, i2, i3, rfl⟩ : ∃ (i0 : Fin 24) (i1 : Fin 1) (i2 : Fin 8) (i3 : Fin 128), x = ix4 i0 i1 i2 i3 :=
    ⟨x 0, x 1, x 2, x 3, eq_ix4 x⟩
  rw [pay297, pay296]

/-- Every stored piece holds the transposed block. -/
theorem xt_pieces_A (c : Dev nD) (arg1 : Memref sig .tc .vmem S128x6144 .bf16) (harg1 : arg1.IsWhole) (x0 : Vec Ideal S128x6144 .bf16) :
    View.PiecesOf (xtG x0) (kernelRun0_A.sl.HS2_48 (F := Ideal) c arg1 harg1 x0) := by
  have hr : arg1.view.read (Elt Ideal) (harg1.unread x0) = x0 := harg1.read_unread x0
  unfold kernelRun0_A.sl.HS2_48
  refine pcons (xt_piece _ x0 23 16 6016 rfl inb_S128x6144_S128x128_0_6016 ((View.readAt_eq_ld _ _ _).trans (congrArg (fun z => View.ld (Val := Elt Ideal) (e' := .bf16) z _) hr)) inb_S24x32x8x128_S1x16x8x128_23_16_0_0) ?_
  refine pcons (xt_piece _ x0 23 0 5888 rfl inb_S128x6144_S128x128_0_5888 ((View.readAt_eq_ld _ _ _).trans (congrArg (fun z => View.ld (Val := Elt Ideal) (e' := .bf16) z _) hr)) inb_S24x32x8x128_S1x16x8x128_23_0_0_0) ?_
  refine pcons (xt_piece _ x0 22 16 5760 rfl inb_S128x6144_S128x128_0_5760 ((View.readAt_eq_ld _ _ _).trans (congrArg (fun z => View.ld (Val := Elt Ideal) (e' := .bf16) z _) hr)) inb_S24x32x8x128_S1x16x8x128_22_16_0_0) ?_
  refine pcons (xt_piece _ x0 22 0 5632 rfl inb_S128x6144_S128x128_0_5632 ((View.readAt_eq_ld _ _ _).trans (congrArg (fun z => View.ld (Val := Elt Ideal) (e' := .bf16) z _) hr)) inb_S24x32x8x128_S1x16x8x128_22_0_0_0) ?_
  refine pcons (xt_piece _ x0 21 16 5504 rfl inb_S128x6144_S128x128_0_5504 ((View.readAt_eq_ld _ _ _).trans (congrArg (fun z => View.ld (Val := Elt Ideal) (e' := .bf16) z _) hr)) inb_S24x32x8x128_S1x16x8x128_21_16_0_0) ?_
  refine pcons (xt_piece _ x0 21 0 5376 rfl inb_S128x6144_S128x128_0_5376 ((View.readAt_eq_ld _ _ _).trans (congrArg (fun z => View.ld (Val := Elt Ideal) (e' := .bf16) z _) hr)) inb_S24x32x8x128_S1x16x8x128_21_0_0_0) ?_
  refine pcons (xt_piece _ x0 20 16 5248 rfl inb_S128x6144_S128x128_0_5248 ((View.readAt_eq_ld _ _ _).trans (congrArg (fun z => View.ld (Val := Elt Ideal) (e' := .bf16) z _) hr)) inb_S24x32x8x128_S1x16x8x128_20_16_0_0) ?_
  refine pcons (xt_piece _ x0 20 0 5120 rfl inb_S128x6144_S128x128_0_5120 ((View.readAt_eq_ld _ _ _).trans (congrArg (fun z => View.ld (Val := Elt Ideal) (e' := .bf16) z _) hr)) inb_S24x32x8x128_S1x16x8x128_20_0_0_0) ?_
  refine pcons (xt_piece _ x0 19 16 4992 rfl inb_S128x6144_S128x128_0_4992 ((View.readAt_eq_ld _ _ _).trans (congrArg (fun z => View.ld (Val := Elt Ideal) (e' := .bf16) z _) hr)) inb_S24x32x8x128_S1x16x8x128_19_16_0_0) ?_
  refine pcons (xt_piece _ x0 19 0 4864 rfl inb_S128x6144_S128x128_0_4864 ((View.readAt_eq_ld _ _ _).trans (congrArg (fun z => View.ld (Val := Elt Ideal) (e' := .bf16) z _) hr)) inb_S24x32x8x128_S1x16x8x128_19_0_0_0) ?_
  refine pcons (xt_piece _ x0 18 16 4736 rfl inb_S128x6144_S128x128_0_4736 ((View.readAt_eq_ld _ _ _).trans (congrArg (fun z => View.ld (Val := Elt Ideal) (e' := .bf16) z _) hr)) inb_S24x32x8x128_S1x16x8x128_18_16_0_0) ?_
  refine pcons (xt_piece _ x0 18 0 4608 rfl inb_S128x6144_S128x128_0_4608 ((View.readAt_eq_ld _ _ _).trans (congrArg (fun z => View.ld (Val := Elt Ideal) (e' := .bf16) z _) hr)) inb_S24x32x8x128_S1x16x8x128_18_0_0_0) ?_
  refine pcons (xt_piece _ x0 17 16 4480 rfl inb_S128x6144_S128x128_0_4480 ((View.readAt_eq_ld _ _ _).trans (congrArg (fun z => View.ld (Val := Elt Ideal) (e' := .bf16) z _) hr)) inb_S24x32x8x128_S1x16x8x128_17_16_0_0) ?_
  refine pcons (xt_piece _ x0 17 0 4352 rfl inb_S128x6144_S128x128_0_4352 ((View.readAt_eq_ld _ _ _).trans (congrArg (fun z => View.ld (Val := Elt Ideal) (e' := .bf16) z _) hr)) inb_S24x32x8x128_S1x16x8x128_17_0_0_0) ?_
  refine pcons (xt_piece _ x0 16 16 4224 rfl inb_S128x6144_S128x128_0_4224 ((View.readAt_eq_ld _ _ _).trans (congrArg (fun z => View.ld (Val := Elt Ideal) (e' := .bf16) z _) hr)) inb_S24x32x8x128_S1x16x8x128_16_16_0_0) ?_
  refine pcons (xt_piece _ x0 16 0 4096 rfl inb_S128x6144_S128x128_0_4096 ((View.readAt_eq_ld _ _ _).trans (congrArg (fun z => View.ld (Val := Elt Ideal) (e' := .bf16) z _) hr)) inb_S24x32x8x128_S1x16x8x128_16_0_0_0) ?_
  refine pcons (xt_piece _ x0 15 16 3968 rfl inb_S128x6144_S128x128_0_3968 ((View.readAt_eq_ld _ _ _).trans (congrArg (fun z => View.ld (Val := Elt Ideal) (e' := .bf16) z _) hr)) inb_S24x32x8x128_S1x16x8x128_15_16_0_0) ?_
  refine pcons (xt_piece _ x0 15 0 3840 rfl inb_S128x6144_S128x128_0_3840 ((View.readAt_eq_ld _ _ _).trans (congrArg (fun z => View.ld (Val := Elt Ideal) (e' := .bf16) z _) hr)) inb_S24x32x8x128_S1x16x8x128_15_0_0_0) ?_
  refine pcons (xt_piece _ x0 14 16 3712 rfl inb_S128x6144_S128x128_0_3712 ((View.readAt_eq_ld _ _ _).trans (congrArg (fun z => View.ld (Val := Elt Ideal) (e' := .bf16) z _) hr)) inb_S24x32x8x128_S1x16x8x128_14_16_0_0) ?_
  refine pcons (xt_piece _ x0 14 0 3584 rfl inb_S128x6144_S128x128_0_3584 ((View.readAt_eq_ld _ _ _).trans (congrArg (fun z => View.ld (Val := Elt Ideal) (e' := .bf16) z _) hr)) inb_S24x32x8x128_S1x16x8x128_14_0_0_0) ?_
  refine pcons (xt_piece _ x0 13 16 3456 rfl inb_S128x6144_S128x128_0_3456 ((View.readAt_eq_ld _ _ _).trans (congrArg (fun z => View.ld (Val := Elt Ideal) (e' := .bf16) z _) hr)) inb_S24x32x8x128_S1x16x8x128_13_16_0_0) ?_
  refine pcons (xt_piece _ x0 13 0 3328 rfl inb_S128x6144_S128x128_0_3328 ((View.readAt_eq_ld _ _ _).trans (congrArg (fun z => View.ld (Val := Elt Ideal) (e' := .bf16) z _) hr)) inb_S24x32x8x128_S1x16x8x128_13_0_0_0) ?_
  refine pcons (xt_piece _ x0 12 16 3200 rfl inb_S128x6144_S128x128_0_3200 ((View.readAt_eq_ld _ _ _).trans (congrArg (fun z => View.ld (Val := Elt Ideal) (e' := .bf16) z _) hr)) inb_S24x32x8x128_S1x16x8x128_12_16_0_0) ?_
  refine pcons (xt_piece _ x0 12 0 3072 rfl inb_S128x6144_S128x128_0_3072 ((View.readAt_eq_ld _ _ _).trans (congrArg (fun z => View.ld (Val := Elt Ideal) (e' := .bf16) z _) hr)) inb_S24x32x8x128_S1x16x8x128_12_0_0_0) ?_
  refine pcons (xt_piece _ x0 11 16 2944 rfl inb_S128x6144_S128x128_0_2944 ((View.readAt_eq_ld _ _ _).trans (congrArg (fun z => View.ld (Val := Elt Ideal) (e' := .bf16) z _) hr)) inb_S24x32x8x128_S1x16x8x128_11_16_0_0) ?_
  refine pcons (xt_piece _ x0 11 0 2816 rfl inb_S128x6144_S128x128_0_2816 ((View.readAt_eq_ld _ _ _).trans (congrArg (fun z => View.ld (Val := Elt Ideal) (e' := .bf16) z _) hr)) inb_S24x32x8x128_S1x16x8x128_11_0_0_0) ?_
  refine pcons (xt_piece _ x0 10 16 2688 rfl inb_S128x6144_S128x128_0_2688 ((View.readAt_eq_ld _ _ _).trans (congrArg (fun z => View.ld (Val := Elt Ideal) (e' := .bf16) z _) hr)) inb_S24x32x8x128_S1x16x8x128_10_16_0_0) ?_
  refine pcons (xt_piece _ x0 10 0 2560 rfl inb_S128x6144_S128x128_0_2560 ((View.readAt_eq_ld _ _ _).trans (congrArg (fun z => View.ld (Val := Elt Ideal) (e' := .bf16) z _) hr)) inb_S24x32x8x128_S1x16x8x128_10_0_0_0) ?_
  refine pcons (xt_piece _ x0 9 16 2432 rfl inb_S128x6144_S128x128_0_2432 ((View.readAt_eq_ld _ _ _).trans (congrArg (fun z => View.ld (Val := Elt Ideal) (e' := .bf16) z _) hr)) inb_S24x32x8x128_S1x16x8x128_9_16_0_0) ?_
  refine pcons (xt_piece _ x0 9 0 2304 rfl inb_S128x6144_S128x128_0_2304 ((View.readAt_eq_ld _ _ _).trans (congrArg (fun z => View.ld (Val := Elt Ideal) (e' := .bf16) z _) hr)) inb_S24x32x8x128_S1x16x8x128_9_0_0_0) ?_
  refine pcons (xt_piece _ x0 8 16 2176 rfl inb_S128x6144_S128x128_0_2176 ((View.readAt_eq_ld _ _ _).trans (congrArg (fun z => View.ld (Val := Elt Ideal) (e' := .bf16) z _) hr)) inb_S24x32x8x128_S1x16x8x128_8_16_0_0) ?_
  refine pcons (xt_piece _ x0 8 0 2048 rfl inb_S128x6144_S128x128_0_2048 ((View.readAt_eq_ld _ _ _).trans (congrArg (fun z => View.ld (Val := Elt Ideal) (e' := .bf16) z _) hr)) inb_S24x32x8x128_S1x16x8x128_8_0_0_0) ?_
  refine pcons (xt_piece _ x0 7 16 1920 rfl inb_S128x6144_S128x128_0_1920 ((View.readAt_eq_ld _ _ _).trans (congrArg (fun z => View.ld (Val := Elt Ideal) (e' := .bf16) z _) hr)) inb_S24x32x8x128_S1x16x8x128_7_16_0_0) ?_
  refine pcons (xt_piece _ x0 7 0 1792 rfl inb_S128x6144_S128x128_0_1792 ((View.readAt_eq_ld _ _ _).trans (congrArg (fun z => View.ld (Val := Elt Ideal) (e' := .bf16) z _) hr)) inb_S24x32x8x128_S1x16x8x128_7_0_0_0) ?_
  refine pcons (xt_piece _ x0 6 16 1664 rfl inb_S128x6144_S128x128_0_1664 ((View.readAt_eq_ld _ _ _).trans (congrArg (fun z => View.ld (Val := Elt Ideal) (e' := .bf16) z _) hr)) inb_S24x32x8x128_S1x16x8x128_6_16_0_0) ?_
  refine pcons (xt_piece _ x0 6 0 1536 rfl inb_S128x6144_S128x128_0_1536 ((View.readAt_eq_ld _ _ _).trans (congrArg (fun z => View.ld (Val := Elt Ideal) (e' := .bf16) z _) hr)) inb_S24x32x8x128_S1x16x8x128_6_0_0_0) ?_
  refine pcons (xt_piece _ x0 5 16 1408 rfl inb_S128x6144_S128x128_0_1408 ((View.readAt_eq_ld _ _ _).trans (congrArg (fun z => View.ld (Val := Elt Ideal) (e' := .bf16) z _) hr)) inb_S24x32x8x128_S1x16x8x128_5_16_0_0) ?_
  refine pcons (xt_piece _ x0 5 0 1280 rfl inb_S128x6144_S128x128_0_1280 ((View.readAt_eq_ld _ _ _).trans (congrArg (fun z => View.ld (Val := Elt Ideal) (e' := .bf16) z _) hr)) inb_S24x32x8x128_S1x16x8x128_5_0_0_0) ?_
  refine pcons (xt_piece _ x0 4 16 1152 rfl inb_S128x6144_S128x128_0_1152 ((View.readAt_eq_ld _ _ _).trans (congrArg (fun z => View.ld (Val := Elt Ideal) (e' := .bf16) z _) hr)) inb_S24x32x8x128_S1x16x8x128_4_16_0_0) ?_
  refine pcons (xt_piece _ x0 4 0 1024 rfl inb_S128x6144_S128x128_0_1024 ((View.readAt_eq_ld _ _ _).trans (congrArg (fun z => View.ld (Val := Elt Ideal) (e' := .bf16) z _) hr)) inb_S24x32x8x128_S1x16x8x128_4_0_0_0) ?_
  refine pcons (xt_piece _ x0 3 16 896 rfl inb_S128x6144_S128x128_0_896 ((View.readAt_eq_ld _ _ _).trans (congrArg (fun z => View.ld (Val := Elt Ideal) (e' := .bf16) z _) hr)) inb_S24x32x8x128_S1x16x8x128_3_16_0_0) ?_
  refine pcons (xt_piece _ x0 3 0 768 rfl inb_S128x6144_S128x128_0_768 ((View.readAt_eq_ld _ _ _).trans (congrArg (fun z => View.ld (Val := Elt Ideal) (e' := .bf16) z _) hr)) inb_S24x32x8x128_S1x16x8x128_3_0_0_0) ?_
  refine pcons (xt_piece _ x0 2 16 640 rfl inb_S128x6144_S128x128_0_640 ((View.readAt_eq_ld _ _ _).trans (congrArg (fun z => View.ld (Val := Elt Ideal) (e' := .bf16) z _) hr)) inb_S24x32x8x128_S1x16x8x128_2_16_0_0) ?_
  refine pcons (xt_piece _ x0 2 0 512 rfl inb_S128x6144_S128x128_0_512 ((View.readAt_eq_ld _ _ _).trans (congrArg (fun z => View.ld (Val := Elt Ideal) (e' := .bf16) z _) hr)) inb_S24x32x8x128_S1x16x8x128_2_0_0_0) ?_
  refine pcons (xt_piece _ x0 1 16 384 rfl inb_S128x6144_S128x128_0_384 ((View.readAt_eq_ld _ _ _).trans (congrArg (fun z => View.ld (Val := Elt Ideal) (e' := .bf16) z _) hr)) inb_S24x32x8x128_S1x16x8x128_1_16_0_0) ?_
  refine pcons (xt_piece _ x0 1 0 256 rfl inb_S128x6144_S128x128_0_256 ((View.readAt_eq_ld _ _ _).trans (congrArg (fun z => View.ld (Val := Elt Ideal) (e' := .bf16) z _) hr)) inb_S24x32x8x128_S1x16x8x128_1_0_0_0) ?_
  refine pcons (xt_piece _ x0 0 16 128 rfl inb_S128x6144_S128x128_0_128 ((View.readAt_eq_ld _ _ _).trans (congrArg (fun z => View.ld (Val := Elt Ideal) (e' := .bf16) z _) hr)) inb_S24x32x8x128_S1x16x8x128_0_16_0_0) ?_
  refine pcons (xt_piece _ x0 0 0 0 rfl inb_S128x6144_S128x128_0_0 ((View.readAt_eq_ld _ _ _).trans (congrArg (fun z => View.ld (Val := Elt Ideal) (e' := .bf16) z _) hr)) inb_S24x32x8x128_S1x16x8x128_0_0_0_0) ?_
  exact trivial

/-- The scratch holds the transposed block. -/
theorem xt_canon_A (c : Dev nD) (arg1 : Memref sig .tc .vmem S128x6144 .bf16) (harg1 : arg1.IsWhole) (x0 : Vec Ideal S128x6144 .bf16) :
    View.canon (kernelRun0_A.sl.HS2_48 (F := Ideal) c arg1 harg1 x0) = xtG x0 := funext fun y =>
  View.canon_apply_of_pieces _ _ (xt_pieces_A c arg1 harg1 x0).mem y
    (View.cover_of_tiledL (kernelRun0_A.sl.HS2_48 (F := Ideal) c arg1 harg1 x0) S1x16x8x128.size (by sl_kernel_rfl) y)

/-- Every read of the scratch reads the transposed block. -/
theorem xt_read_A (c : Dev nD) (arg1 : Memref sig .tc .vmem S128x6144 .bf16) (harg1 : arg1.IsWhole) (arg11 : Memref sig .tc .vmem S24x32x8x128 .f32)
    (x0 : Vec Ideal S128x6144 .bf16) (r : Rect S24x32x8x128) :
    arg11.view.readCov (kernelRun0_A.sl.HS2_48 (F := Ideal) c arg1 harg1 x0) r.toLoadRect = View.ld (Val := Elt Ideal) (e' := .f32) (xtG x0) r := by
  rw [View.readCov_eq_canon', xt_canon_A]

/-- Every stored piece holds the first rotation. -/
theorem r_pieces_A (c : Dev nD) (arg1 : Memref sig .tc .vmem S128x6144 .bf16) (harg1 : arg1.IsWhole) (arg2 : Memref sig .tc .vmem S24x24 .f32) (harg2 : arg2.IsWhole) (arg10 : Memref sig .tc .vmem S192x192 .bf16) (arg11 : Memref sig .tc .vmem S24x32x8x128 .f32) (x0 : Vec Ideal S128x6144 .bf16) (x1 : Vec Ideal S24x24 .f32) :
    View.PiecesOf (rG (kernelRun0_A.sl.v395 (F := Ideal) c arg2 harg2 arg10 x1) x0)
      (kernelRun0_A.sl.HS3_32 (F := Ideal) c arg1 harg1 arg2 harg2 arg10 arg11 x0 x1) := by
  unfold kernelRun0_A.sl.HS3_32
  refine pcons (rO_piece _ x0 (kernelRun0_A.sl.v687 (F := Ideal) c arg1 harg1 arg11 x0) (kernelRun0_A.sl.v690 (F := Ideal) c arg1 harg1 arg11 x0) 31 inb_S24x32x8x128_S24x1x8x128_0_31_0_0 (xt_read_A c arg1 harg1 arg11 x0 _)) ?_
  refine pcons (rE_piece _ x0 (kernelRun0_A.sl.v687 (F := Ideal) c arg1 harg1 arg11 x0) (kernelRun0_A.sl.v690 (F := Ideal) c arg1 harg1 arg11 x0) 30 inb_S24x32x8x128_S24x1x8x128_0_30_0_0 (xt_read_A c arg1 harg1 arg11 x0 _)) ?_
  refine pcons (rO_piece _ x0 (kernelRun0_A.sl.v667 (F := Ideal) c arg1 harg1 arg11 x0) (kernelRun0_A.sl.v670 (F := Ideal) c arg1 harg1 arg11 x0) 29 inb_S24x32x8x128_S24x1x8x128_0_29_0_0 (xt_read_A c arg1 harg1 arg11 x0 _)) ?_
  refine pcons (rE_piece _ x0 (kernelRun0_A.sl.v667 (F := Ideal) c arg1 harg1 arg11 x0) (kernelRun0_A.sl.v670 (F := Ideal) c arg1 harg1 arg11 x0) 28 inb_S24x32x8x128_S24x1x8x128_0_28_0_0 (xt_read_A c arg1 harg1 arg11 x0 _)) ?_
  refine pcons (rO_piece _ x0 (kernelRun0_A.sl.v647 (F := Ideal) c arg1 harg1 arg11 x0) (kernelRun0_A.sl.v650 (F := Ideal) c arg1 harg1 arg11 x0) 27 inb_S24x32x8x128_S24x1x8x128_0_27_0_0 (xt_read_A c arg1 harg1 arg11 x0 _)) ?_
  refine pcons (rE_piece _ x0 (kernelRun0_A.sl.v647 (F := Ideal) c arg1 harg1 arg11 x0) (kernelRun0_A.sl.v650 (F := Ideal) c arg1 harg1 arg11 x0) 26 inb_S24x32x8x128_S24x1x8x128_0_26_0_0 (xt_read_A c arg1 harg1 arg11 x0 _)) ?_
  refine pcons (rO_piece _ x0 (kernelRun0_A.sl.v627 (F := Ideal) c arg1 harg1 arg11 x0) (kernelRun0_A.sl.v630 (F := Ideal) c arg1 harg1 arg11 x0) 25 inb_S24x32x8x128_S24x1x8x128_0_25_0_0 (xt_read_A c arg1 harg1 arg11 x0 _)) ?_
  refine pcons (rE_piece _ x0 (kernelRun0_A.sl.v627 (F := Ideal) c arg1 harg1 arg11 x0) (kernelRun0_A.sl.v630 (F := Ideal) c arg1 harg1 arg11 x0) 24 inb_S24x32x8x128_S24x1x8x128_0_24_0_0 (xt_read_A c arg1 harg1 arg11 x0 _)) ?_
  refine pcons (rO_piece _ x0 (kernelRun0_A.sl.v607 (F := Ideal) c arg1 harg1 arg11 x0) (kernelRun0_A.sl.v610 (F := Ideal) c arg1 harg1 arg11 x0) 23 inb_S24x32x8x128_S24x1x8x128_0_23_0_0 (xt_read_A c arg1 harg1 arg11 x0 _)) ?_
  refine pcons (rE_piece _ x0 (kernelRun0_A.sl.v607 (F := Ideal) c arg1 harg1 arg11 x0) (kernelRun0_A.sl.v610 (F := Ideal) c arg1 harg1 arg11 x0) 22 inb_S24x32x8x128_S24x1x8x128_0_22_0_0 (xt_read_A c arg1 harg1 arg11 x0 _)) ?_
  refine pcons (rO_piece _ x0 (kernelRun0_A.sl.v587 (F := Ideal) c arg1 harg1 arg11 x0) (kernelRun0_A.sl.v590 (F := Ideal) c arg1 harg1 arg11 x0) 21 inb_S24x32x8x128_S24x1x8x128_0_21_0_0 (xt_read_A c arg1 harg1 arg11 x0 _)) ?_
  refine pcons (rE_piece _ x0 (kernelRun0_A.sl.v587 (F := Ideal) c arg1 harg1 arg11 x0) (kernelRun0_A.sl.v590 (F := Ideal) c arg1 harg1 arg11 x0) 20 inb_S24x32x8x128_S24x1x8x128_0_20_0_0 (xt_read_A c arg1 harg1 arg11 x0 _)) ?_
  refine pcons (rO_piece _ x0 (kernelRun0_A.sl.v567 (F := Ideal) c arg1 harg1 arg11 x0) (kernelRun0_A.sl.v570 (F := Ideal) c arg1 harg1 arg11 x0) 19 inb_S24x32x8x128_S24x1x8x128_0_19_0_0 (xt_read_A c arg1 harg1 arg11 x0 _)) ?_
  refine pcons (rE_piece _ x0 (kernelRun0_A.sl.v567 (F := Ideal) c arg1 harg1 arg11 x0) (kernelRun0_A.sl.v570 (F := Ideal) c arg1 harg1 arg11 x0) 18 inb_S24x32x8x128_S24x1x8x128_0_18_0_0 (xt_read_A c arg1 harg1 arg11 x0 _)) ?_
  refine pcons (rO_piece _ x0 (kernelRun0_A.sl.v547 (F := Ideal) c arg1 harg1 arg11 x0) (kernelRun0_A.sl.v550 (F := Ideal) c arg1 harg1 arg11 x0) 17 inb_S24x32x8x128_S24x1x8x128_0_17_0_0 (xt_read_A c arg1 harg1 arg11 x0 _)) ?_
  refine pcons (rE_piece _ x0 (kernelRun0_A.sl.v547 (F := Ideal) c arg1 harg1 arg11 x0) (kernelRun0_A.sl.v550 (F := Ideal) c arg1 harg1 arg11 x0) 16 inb_S24x32x8x128_S24x1x8x128_0_16_0_0 (xt_read_A c arg1 harg1 arg11 x0 _)) ?_
  refine pcons (rO_piece _ x0 (kernelRun0_A.sl.v527 (F := Ideal) c arg1 harg1 arg11 x0) (kernelRun0_A.sl.v530 (F := Ideal) c arg1 harg1 arg11 x0) 15 inb_S24x32x8x128_S24x1x8x128_0_15_0_0 (xt_read_A c arg1 harg1 arg11 x0 _)) ?_
  refine pcons (rE_piece _ x0 (kernelRun0_A.sl.v527 (F := Ideal) c arg1 harg1 arg11 x0) (kernelRun0_A.sl.v530 (F := Ideal) c arg1 harg1 arg11 x0) 14 inb_S24x32x8x128_S24x1x8x128_0_14_0_0 (xt_read_A c arg1 harg1 arg11 x0 _)) ?_
  refine pcons (rO_piece _ x0 (kernelRun0_A.sl.v507 (F := Ideal) c arg1 harg1 arg11 x0) (kernelRun0_A.sl.v510 (F := Ideal) c arg1 harg1 arg11 x0) 13 inb_S24x32x8x128_S24x1x8x128_0_13_0_0 (xt_read_A c arg1 harg1 arg11 x0 _)) ?_
  refine pcons (rE_piece _ x0 (kernelRun0_A.sl.v507 (F := Ideal) c arg1 harg1 arg11 x0) (kernelRun0_A.sl.v510 (F := Ideal) c arg1 harg1 arg11 x0) 12 inb_S24x32x8x128_S24x1x8x128_0_12_0_0 (xt_read_A c arg1 harg1 arg11 x0 _)) ?_
  refine pcons (rO_piece _ x0 (kernelRun0_A.sl.v487 (F := Ideal) c arg1 harg1 arg11 x0) (kernelRun0_A.sl.v490 (F := Ideal) c arg1 harg1 arg11 x0) 11 inb_S24x32x8x128_S24x1x8x128_0_11_0_0 (xt_read_A c arg1 harg1 arg11 x0 _)) ?_
  refine pcons (rE_piece _ x0 (kernelRun0_A.sl.v487 (F := Ideal) c arg1 harg1 arg11 x0) (kernelRun0_A.sl.v490 (F := Ideal) c arg1 harg1 arg11 x0) 10 inb_S24x32x8x128_S24x1x8x128_0_10_0_0 (xt_read_A c arg1 harg1 arg11 x0 _)) ?_
  refine pcons (rO_piece _ x0 (kernelRun0_A.sl.v467 (F := Ideal) c arg1 harg1 arg11 x0) (kernelRun0_A.sl.v470 (F := Ideal) c arg1 harg1 arg11 x0) 9 inb_S24x32x8x128_S24x1x8x128_0_9_0_0 (xt_read_A c arg1 harg1 arg11 x0 _)) ?_
  refine pcons (rE_piece _ x0 (kernelRun0_A.sl.v467 (F := Ideal) c arg1 harg1 arg11 x0) (kernelRun0_A.sl.v470 (F := Ideal) c arg1 harg1 arg11 x0) 8 inb_S24x32x8x128_S24x1x8x128_0_8_0_0 (xt_read_A c arg1 harg1 arg11 x0 _)) ?_
  refine pcons (rO_piece _ x0 (kernelRun0_A.sl.v447 (F := Ideal) c arg1 harg1 arg11 x0) (kernelRun0_A.sl.v450 (F := Ideal) c arg1 harg1 arg11 x0) 7 inb_S24x32x8x128_S24x1x8x128_0_7_0_0 (xt_read_A c arg1 harg1 arg11 x0 _)) ?_
  refine pcons (rE_piece _ x0 (kernelRun0_A.sl.v447 (F := Ideal) c arg1 harg1 arg11 x0) (kernelRun0_A.sl.v450 (F := Ideal) c arg1 harg1 arg11 x0) 6 inb_S24x32x8x128_S24x1x8x128_0_6_0_0 (xt_read_A c arg1 harg1 arg11 x0 _)) ?_
  refine pcons (rO_piece _ x0 (kernelRun0_A.sl.v427 (F := Ideal) c arg1 harg1 arg11 x0) (kernelRun0_A.sl.v430 (F := Ideal) c arg1 harg1 arg11 x0) 5 inb_S24x32x8x128_S24x1x8x128_0_5_0_0 (xt_read_A c arg1 harg1 arg11 x0 _)) ?_
  refine pcons (rE_piece _ x0 (kernelRun0_A.sl.v427 (F := Ideal) c arg1 harg1 arg11 x0) (kernelRun0_A.sl.v430 (F := Ideal) c arg1 harg1 arg11 x0) 4 inb_S24x32x8x128_S24x1x8x128_0_4_0_0 (xt_read_A c arg1 harg1 arg11 x0 _)) ?_
  refine pcons (rO_piece _ x0 (kernelRun0_A.sl.v407 (F := Ideal) c arg1 harg1 arg11 x0) (kernelRun0_A.sl.v410 (F := Ideal) c arg1 harg1 arg11 x0) 3 inb_S24x32x8x128_S24x1x8x128_0_3_0_0 (xt_read_A c arg1 harg1 arg11 x0 _)) ?_
  refine pcons (rE_piece _ x0 (kernelRun0_A.sl.v407 (F := Ideal) c arg1 harg1 arg11 x0) (kernelRun0_A.sl.v410 (F := Ideal) c arg1 harg1 arg11 x0) 2 inb_S24x32x8x128_S24x1x8x128_0_2_0_0 (xt_read_A c arg1 harg1 arg11 x0 _)) ?_
  refine pcons (rO_piece _ x0 (kernelRun0_A.sl.v387 (F := Ideal) c arg1 harg1 arg11 x0) (kernelRun0_A.sl.v390 (F := Ideal) c arg1 harg1 arg11 x0) 1 inb_S24x32x8x128_S24x1x8x128_0_1_0_0 (xt_read_A c arg1 harg1 arg11 x0 _)) ?_
  refine pcons (rE_piece _ x0 (kernelRun0_A.sl.v387 (F := Ideal) c arg1 harg1 arg11 x0) (kernelRun0_A.sl.v390 (F := Ideal) c arg1 harg1 arg11 x0) 0 inb_S24x32x8x128_S24x1x8x128_0_0_0_0 (xt_read_A c arg1 harg1 arg11 x0 _)) ?_
  exact trivial

/-- Every read of the second scratch reads the first rotation. -/
theorem r_read_A (c : Dev nD) (arg1 : Memref sig .tc .vmem S128x6144 .bf16) (harg1 : arg1.IsWhole) (arg2 : Memref sig .tc .vmem S24x24 .f32) (harg2 : arg2.IsWhole) (arg10 : Memref sig .tc .vmem S192x192 .bf16) (arg11 : Memref sig .tc .vmem S24x32x8x128 .f32) (x0 : Vec Ideal S128x6144 .bf16) (x1 : Vec Ideal S24x24 .f32) (arg12 : Memref sig .tc .vmem S24x32x8x128 .f32) (f : BufTy.Contents (Elt Ideal) arg12.view.ty) (y : S24x32x8x128.Idx) :
    arg12.view.read (Elt Ideal) (arg12.view.writes (Elt Ideal) f (kernelRun0_A.sl.HS3_32 (F := Ideal) c arg1 harg1 arg2 harg2 arg10 arg11 x0 x1)) y
      = rG (kernelRun0_A.sl.v395 (F := Ideal) c arg2 harg2 arg10 x1) x0 y :=
  View.read_writes_apply_of_pieces arg12.view f (rG (kernelRun0_A.sl.v395 (F := Ideal) c arg2 harg2 arg10 x1) x0) _ (r_pieces_A c arg1 harg1 arg2 harg2 arg10 arg11 x0 x1).mem y
    (View.cover_of_tiledL (kernelRun0_A.sl.HS3_32 (F := Ideal) c arg1 harg1 arg2 harg2 arg10 arg11 x0 x1) S24x1x8x128.size (by sl_kernel_rfl) y)

/-- Every stored piece holds the transposed block. -/
theorem xt_pieces_B (c : Dev nD) (arg1 : Memref sig .tc .vmem S128x6144 .bf16) (harg1 : arg1.IsWhole) (x0 : Vec Ideal S128x6144 .bf16) :
    View.PiecesOf (xtG x0) (kernelRun0_B.sl.HS2_48 (F := Ideal) c arg1 harg1 x0) := by
  have hr : arg1.view.read (Elt Ideal) (harg1.unread x0) = x0 := harg1.read_unread x0
  unfold kernelRun0_B.sl.HS2_48
  refine pcons (xt_piece _ x0 23 16 6016 rfl inb_S128x6144_S128x128_0_6016 ((View.readAt_eq_ld _ _ _).trans (congrArg (fun z => View.ld (Val := Elt Ideal) (e' := .bf16) z _) hr)) inb_S24x32x8x128_S1x16x8x128_23_16_0_0) ?_
  refine pcons (xt_piece _ x0 23 0 5888 rfl inb_S128x6144_S128x128_0_5888 ((View.readAt_eq_ld _ _ _).trans (congrArg (fun z => View.ld (Val := Elt Ideal) (e' := .bf16) z _) hr)) inb_S24x32x8x128_S1x16x8x128_23_0_0_0) ?_
  refine pcons (xt_piece _ x0 22 16 5760 rfl inb_S128x6144_S128x128_0_5760 ((View.readAt_eq_ld _ _ _).trans (congrArg (fun z => View.ld (Val := Elt Ideal) (e' := .bf16) z _) hr)) inb_S24x32x8x128_S1x16x8x128_22_16_0_0) ?_
  refine pcons (xt_piece _ x0 22 0 5632 rfl inb_S128x6144_S128x128_0_5632 ((View.readAt_eq_ld _ _ _).trans (congrArg (fun z => View.ld (Val := Elt Ideal) (e' := .bf16) z _) hr)) inb_S24x32x8x128_S1x16x8x128_22_0_0_0) ?_
  refine pcons (xt_piece _ x0 21 16 5504 rfl inb_S128x6144_S128x128_0_5504 ((View.readAt_eq_ld _ _ _).trans (congrArg (fun z => View.ld (Val := Elt Ideal) (e' := .bf16) z _) hr)) inb_S24x32x8x128_S1x16x8x128_21_16_0_0) ?_
  refine pcons (xt_piece _ x0 21 0 5376 rfl inb_S128x6144_S128x128_0_5376 ((View.readAt_eq_ld _ _ _).trans (congrArg (fun z => View.ld (Val := Elt Ideal) (e' := .bf16) z _) hr)) inb_S24x32x8x128_S1x16x8x128_21_0_0_0) ?_
  refine pcons (xt_piece _ x0 20 16 5248 rfl inb_S128x6144_S128x128_0_5248 ((View.readAt_eq_ld _ _ _).trans (congrArg (fun z => View.ld (Val := Elt Ideal) (e' := .bf16) z _) hr)) inb_S24x32x8x128_S1x16x8x128_20_16_0_0) ?_
  refine pcons (xt_piece _ x0 20 0 5120 rfl inb_S128x6144_S128x128_0_5120 ((View.readAt_eq_ld _ _ _).trans (congrArg (fun z => View.ld (Val := Elt Ideal) (e' := .bf16) z _) hr)) inb_S24x32x8x128_S1x16x8x128_20_0_0_0) ?_
  refine pcons (xt_piece _ x0 19 16 4992 rfl inb_S128x6144_S128x128_0_4992 ((View.readAt_eq_ld _ _ _).trans (congrArg (fun z => View.ld (Val := Elt Ideal) (e' := .bf16) z _) hr)) inb_S24x32x8x128_S1x16x8x128_19_16_0_0) ?_
  refine pcons (xt_piece _ x0 19 0 4864 rfl inb_S128x6144_S128x128_0_4864 ((View.readAt_eq_ld _ _ _).trans (congrArg (fun z => View.ld (Val := Elt Ideal) (e' := .bf16) z _) hr)) inb_S24x32x8x128_S1x16x8x128_19_0_0_0) ?_
  refine pcons (xt_piece _ x0 18 16 4736 rfl inb_S128x6144_S128x128_0_4736 ((View.readAt_eq_ld _ _ _).trans (congrArg (fun z => View.ld (Val := Elt Ideal) (e' := .bf16) z _) hr)) inb_S24x32x8x128_S1x16x8x128_18_16_0_0) ?_
  refine pcons (xt_piece _ x0 18 0 4608 rfl inb_S128x6144_S128x128_0_4608 ((View.readAt_eq_ld _ _ _).trans (congrArg (fun z => View.ld (Val := Elt Ideal) (e' := .bf16) z _) hr)) inb_S24x32x8x128_S1x16x8x128_18_0_0_0) ?_
  refine pcons (xt_piece _ x0 17 16 4480 rfl inb_S128x6144_S128x128_0_4480 ((View.readAt_eq_ld _ _ _).trans (congrArg (fun z => View.ld (Val := Elt Ideal) (e' := .bf16) z _) hr)) inb_S24x32x8x128_S1x16x8x128_17_16_0_0) ?_
  refine pcons (xt_piece _ x0 17 0 4352 rfl inb_S128x6144_S128x128_0_4352 ((View.readAt_eq_ld _ _ _).trans (congrArg (fun z => View.ld (Val := Elt Ideal) (e' := .bf16) z _) hr)) inb_S24x32x8x128_S1x16x8x128_17_0_0_0) ?_
  refine pcons (xt_piece _ x0 16 16 4224 rfl inb_S128x6144_S128x128_0_4224 ((View.readAt_eq_ld _ _ _).trans (congrArg (fun z => View.ld (Val := Elt Ideal) (e' := .bf16) z _) hr)) inb_S24x32x8x128_S1x16x8x128_16_16_0_0) ?_
  refine pcons (xt_piece _ x0 16 0 4096 rfl inb_S128x6144_S128x128_0_4096 ((View.readAt_eq_ld _ _ _).trans (congrArg (fun z => View.ld (Val := Elt Ideal) (e' := .bf16) z _) hr)) inb_S24x32x8x128_S1x16x8x128_16_0_0_0) ?_
  refine pcons (xt_piece _ x0 15 16 3968 rfl inb_S128x6144_S128x128_0_3968 ((View.readAt_eq_ld _ _ _).trans (congrArg (fun z => View.ld (Val := Elt Ideal) (e' := .bf16) z _) hr)) inb_S24x32x8x128_S1x16x8x128_15_16_0_0) ?_
  refine pcons (xt_piece _ x0 15 0 3840 rfl inb_S128x6144_S128x128_0_3840 ((View.readAt_eq_ld _ _ _).trans (congrArg (fun z => View.ld (Val := Elt Ideal) (e' := .bf16) z _) hr)) inb_S24x32x8x128_S1x16x8x128_15_0_0_0) ?_
  refine pcons (xt_piece _ x0 14 16 3712 rfl inb_S128x6144_S128x128_0_3712 ((View.readAt_eq_ld _ _ _).trans (congrArg (fun z => View.ld (Val := Elt Ideal) (e' := .bf16) z _) hr)) inb_S24x32x8x128_S1x16x8x128_14_16_0_0) ?_
  refine pcons (xt_piece _ x0 14 0 3584 rfl inb_S128x6144_S128x128_0_3584 ((View.readAt_eq_ld _ _ _).trans (congrArg (fun z => View.ld (Val := Elt Ideal) (e' := .bf16) z _) hr)) inb_S24x32x8x128_S1x16x8x128_14_0_0_0) ?_
  refine pcons (xt_piece _ x0 13 16 3456 rfl inb_S128x6144_S128x128_0_3456 ((View.readAt_eq_ld _ _ _).trans (congrArg (fun z => View.ld (Val := Elt Ideal) (e' := .bf16) z _) hr)) inb_S24x32x8x128_S1x16x8x128_13_16_0_0) ?_
  refine pcons (xt_piece _ x0 13 0 3328 rfl inb_S128x6144_S128x128_0_3328 ((View.readAt_eq_ld _ _ _).trans (congrArg (fun z => View.ld (Val := Elt Ideal) (e' := .bf16) z _) hr)) inb_S24x32x8x128_S1x16x8x128_13_0_0_0) ?_
  refine pcons (xt_piece _ x0 12 16 3200 rfl inb_S128x6144_S128x128_0_3200 ((View.readAt_eq_ld _ _ _).trans (congrArg (fun z => View.ld (Val := Elt Ideal) (e' := .bf16) z _) hr)) inb_S24x32x8x128_S1x16x8x128_12_16_0_0) ?_
  refine pcons (xt_piece _ x0 12 0 3072 rfl inb_S128x6144_S128x128_0_3072 ((View.readAt_eq_ld _ _ _).trans (congrArg (fun z => View.ld (Val := Elt Ideal) (e' := .bf16) z _) hr)) inb_S24x32x8x128_S1x16x8x128_12_0_0_0) ?_
  refine pcons (xt_piece _ x0 11 16 2944 rfl inb_S128x6144_S128x128_0_2944 ((View.readAt_eq_ld _ _ _).trans (congrArg (fun z => View.ld (Val := Elt Ideal) (e' := .bf16) z _) hr)) inb_S24x32x8x128_S1x16x8x128_11_16_0_0) ?_
  refine pcons (xt_piece _ x0 11 0 2816 rfl inb_S128x6144_S128x128_0_2816 ((View.readAt_eq_ld _ _ _).trans (congrArg (fun z => View.ld (Val := Elt Ideal) (e' := .bf16) z _) hr)) inb_S24x32x8x128_S1x16x8x128_11_0_0_0) ?_
  refine pcons (xt_piece _ x0 10 16 2688 rfl inb_S128x6144_S128x128_0_2688 ((View.readAt_eq_ld _ _ _).trans (congrArg (fun z => View.ld (Val := Elt Ideal) (e' := .bf16) z _) hr)) inb_S24x32x8x128_S1x16x8x128_10_16_0_0) ?_
  refine pcons (xt_piece _ x0 10 0 2560 rfl inb_S128x6144_S128x128_0_2560 ((View.readAt_eq_ld _ _ _).trans (congrArg (fun z => View.ld (Val := Elt Ideal) (e' := .bf16) z _) hr)) inb_S24x32x8x128_S1x16x8x128_10_0_0_0) ?_
  refine pcons (xt_piece _ x0 9 16 2432 rfl inb_S128x6144_S128x128_0_2432 ((View.readAt_eq_ld _ _ _).trans (congrArg (fun z => View.ld (Val := Elt Ideal) (e' := .bf16) z _) hr)) inb_S24x32x8x128_S1x16x8x128_9_16_0_0) ?_
  refine pcons (xt_piece _ x0 9 0 2304 rfl inb_S128x6144_S128x128_0_2304 ((View.readAt_eq_ld _ _ _).trans (congrArg (fun z => View.ld (Val := Elt Ideal) (e' := .bf16) z _) hr)) inb_S24x32x8x128_S1x16x8x128_9_0_0_0) ?_
  refine pcons (xt_piece _ x0 8 16 2176 rfl inb_S128x6144_S128x128_0_2176 ((View.readAt_eq_ld _ _ _).trans (congrArg (fun z => View.ld (Val := Elt Ideal) (e' := .bf16) z _) hr)) inb_S24x32x8x128_S1x16x8x128_8_16_0_0) ?_
  refine pcons (xt_piece _ x0 8 0 2048 rfl inb_S128x6144_S128x128_0_2048 ((View.readAt_eq_ld _ _ _).trans (congrArg (fun z => View.ld (Val := Elt Ideal) (e' := .bf16) z _) hr)) inb_S24x32x8x128_S1x16x8x128_8_0_0_0) ?_
  refine pcons (xt_piece _ x0 7 16 1920 rfl inb_S128x6144_S128x128_0_1920 ((View.readAt_eq_ld _ _ _).trans (congrArg (fun z => View.ld (Val := Elt Ideal) (e' := .bf16) z _) hr)) inb_S24x32x8x128_S1x16x8x128_7_16_0_0) ?_
  refine pcons (xt_piece _ x0 7 0 1792 rfl inb_S128x6144_S128x128_0_1792 ((View.readAt_eq_ld _ _ _).trans (congrArg (fun z => View.ld (Val := Elt Ideal) (e' := .bf16) z _) hr)) inb_S24x32x8x128_S1x16x8x128_7_0_0_0) ?_
  refine pcons (xt_piece _ x0 6 16 1664 rfl inb_S128x6144_S128x128_0_1664 ((View.readAt_eq_ld _ _ _).trans (congrArg (fun z => View.ld (Val := Elt Ideal) (e' := .bf16) z _) hr)) inb_S24x32x8x128_S1x16x8x128_6_16_0_0) ?_
  refine pcons (xt_piece _ x0 6 0 1536 rfl inb_S128x6144_S128x128_0_1536 ((View.readAt_eq_ld _ _ _).trans (congrArg (fun z => View.ld (Val := Elt Ideal) (e' := .bf16) z _) hr)) inb_S24x32x8x128_S1x16x8x128_6_0_0_0) ?_
  refine pcons (xt_piece _ x0 5 16 1408 rfl inb_S128x6144_S128x128_0_1408 ((View.readAt_eq_ld _ _ _).trans (congrArg (fun z => View.ld (Val := Elt Ideal) (e' := .bf16) z _) hr)) inb_S24x32x8x128_S1x16x8x128_5_16_0_0) ?_
  refine pcons (xt_piece _ x0 5 0 1280 rfl inb_S128x6144_S128x128_0_1280 ((View.readAt_eq_ld _ _ _).trans (congrArg (fun z => View.ld (Val := Elt Ideal) (e' := .bf16) z _) hr)) inb_S24x32x8x128_S1x16x8x128_5_0_0_0) ?_
  refine pcons (xt_piece _ x0 4 16 1152 rfl inb_S128x6144_S128x128_0_1152 ((View.readAt_eq_ld _ _ _).trans (congrArg (fun z => View.ld (Val := Elt Ideal) (e' := .bf16) z _) hr)) inb_S24x32x8x128_S1x16x8x128_4_16_0_0) ?_
  refine pcons (xt_piece _ x0 4 0 1024 rfl inb_S128x6144_S128x128_0_1024 ((View.readAt_eq_ld _ _ _).trans (congrArg (fun z => View.ld (Val := Elt Ideal) (e' := .bf16) z _) hr)) inb_S24x32x8x128_S1x16x8x128_4_0_0_0) ?_
  refine pcons (xt_piece _ x0 3 16 896 rfl inb_S128x6144_S128x128_0_896 ((View.readAt_eq_ld _ _ _).trans (congrArg (fun z => View.ld (Val := Elt Ideal) (e' := .bf16) z _) hr)) inb_S24x32x8x128_S1x16x8x128_3_16_0_0) ?_
  refine pcons (xt_piece _ x0 3 0 768 rfl inb_S128x6144_S128x128_0_768 ((View.readAt_eq_ld _ _ _).trans (congrArg (fun z => View.ld (Val := Elt Ideal) (e' := .bf16) z _) hr)) inb_S24x32x8x128_S1x16x8x128_3_0_0_0) ?_
  refine pcons (xt_piece _ x0 2 16 640 rfl inb_S128x6144_S128x128_0_640 ((View.readAt_eq_ld _ _ _).trans (congrArg (fun z => View.ld (Val := Elt Ideal) (e' := .bf16) z _) hr)) inb_S24x32x8x128_S1x16x8x128_2_16_0_0) ?_
  refine pcons (xt_piece _ x0 2 0 512 rfl inb_S128x6144_S128x128_0_512 ((View.readAt_eq_ld _ _ _).trans (congrArg (fun z => View.ld (Val := Elt Ideal) (e' := .bf16) z _) hr)) inb_S24x32x8x128_S1x16x8x128_2_0_0_0) ?_
  refine pcons (xt_piece _ x0 1 16 384 rfl inb_S128x6144_S128x128_0_384 ((View.readAt_eq_ld _ _ _).trans (congrArg (fun z => View.ld (Val := Elt Ideal) (e' := .bf16) z _) hr)) inb_S24x32x8x128_S1x16x8x128_1_16_0_0) ?_
  refine pcons (xt_piece _ x0 1 0 256 rfl inb_S128x6144_S128x128_0_256 ((View.readAt_eq_ld _ _ _).trans (congrArg (fun z => View.ld (Val := Elt Ideal) (e' := .bf16) z _) hr)) inb_S24x32x8x128_S1x16x8x128_1_0_0_0) ?_
  refine pcons (xt_piece _ x0 0 16 128 rfl inb_S128x6144_S128x128_0_128 ((View.readAt_eq_ld _ _ _).trans (congrArg (fun z => View.ld (Val := Elt Ideal) (e' := .bf16) z _) hr)) inb_S24x32x8x128_S1x16x8x128_0_16_0_0) ?_
  refine pcons (xt_piece _ x0 0 0 0 rfl inb_S128x6144_S128x128_0_0 ((View.readAt_eq_ld _ _ _).trans (congrArg (fun z => View.ld (Val := Elt Ideal) (e' := .bf16) z _) hr)) inb_S24x32x8x128_S1x16x8x128_0_0_0_0) ?_
  exact trivial

/-- The scratch holds the transposed block. -/
theorem xt_canon_B (c : Dev nD) (arg1 : Memref sig .tc .vmem S128x6144 .bf16) (harg1 : arg1.IsWhole) (x0 : Vec Ideal S128x6144 .bf16) :
    View.canon (kernelRun0_B.sl.HS2_48 (F := Ideal) c arg1 harg1 x0) = xtG x0 := funext fun y =>
  View.canon_apply_of_pieces _ _ (xt_pieces_B c arg1 harg1 x0).mem y
    (View.cover_of_tiledL (kernelRun0_B.sl.HS2_48 (F := Ideal) c arg1 harg1 x0) S1x16x8x128.size (by sl_kernel_rfl) y)

/-- Every read of the scratch reads the transposed block. -/
theorem xt_read_B (c : Dev nD) (arg1 : Memref sig .tc .vmem S128x6144 .bf16) (harg1 : arg1.IsWhole) (arg11 : Memref sig .tc .vmem S24x32x8x128 .f32)
    (x0 : Vec Ideal S128x6144 .bf16) (r : Rect S24x32x8x128) :
    arg11.view.readCov (kernelRun0_B.sl.HS2_48 (F := Ideal) c arg1 harg1 x0) r.toLoadRect = View.ld (Val := Elt Ideal) (e' := .f32) (xtG x0) r := by
  rw [View.readCov_eq_canon', xt_canon_B]

/-- Every stored piece holds the first rotation. -/
theorem r_pieces_B (c : Dev nD) (arg1 : Memref sig .tc .vmem S128x6144 .bf16) (harg1 : arg1.IsWhole) (arg10 : Memref sig .tc .vmem S192x192 .bf16) (harg10 : arg10.IsWhole) (arg11 : Memref sig .tc .vmem S24x32x8x128 .f32) (x0 : Vec Ideal S128x6144 .bf16) (xs1 : Vec Ideal S192x192 .bf16) :
    View.PiecesOf (rG (View.readAt (Elt Ideal) arg10.view (Rect.unit (s := S192x192) ![0, 0] S192x192.size inb_S192x192_S192x192_0_0).toLoadRect (harg10.unread xs1)) x0)
      (kernelRun0_B.sl.HS3_32 (F := Ideal) c arg1 harg1 arg10 harg10 arg11 x0 xs1) := by
  unfold kernelRun0_B.sl.HS3_32
  refine pcons (rO_piece _ x0 (kernelRun0_B.sl.v687 (F := Ideal) c arg1 harg1 arg11 x0) (kernelRun0_B.sl.v690 (F := Ideal) c arg1 harg1 arg11 x0) 31 inb_S24x32x8x128_S24x1x8x128_0_31_0_0 (xt_read_B c arg1 harg1 arg11 x0 _)) ?_
  refine pcons (rE_piece _ x0 (kernelRun0_B.sl.v687 (F := Ideal) c arg1 harg1 arg11 x0) (kernelRun0_B.sl.v690 (F := Ideal) c arg1 harg1 arg11 x0) 30 inb_S24x32x8x128_S24x1x8x128_0_30_0_0 (xt_read_B c arg1 harg1 arg11 x0 _)) ?_
  refine pcons (rO_piece _ x0 (kernelRun0_B.sl.v667 (F := Ideal) c arg1 harg1 arg11 x0) (kernelRun0_B.sl.v670 (F := Ideal) c arg1 harg1 arg11 x0) 29 inb_S24x32x8x128_S24x1x8x128_0_29_0_0 (xt_read_B c arg1 harg1 arg11 x0 _)) ?_
  refine pcons (rE_piece _ x0 (kernelRun0_B.sl.v667 (F := Ideal) c arg1 harg1 arg11 x0) (kernelRun0_B.sl.v670 (F := Ideal) c arg1 harg1 arg11 x0) 28 inb_S24x32x8x128_S24x1x8x128_0_28_0_0 (xt_read_B c arg1 harg1 arg11 x0 _)) ?_
  refine pcons (rO_piece _ x0 (kernelRun0_B.sl.v647 (F := Ideal) c arg1 harg1 arg11 x0) (kernelRun0_B.sl.v650 (F := Ideal) c arg1 harg1 arg11 x0) 27 inb_S24x32x8x128_S24x1x8x128_0_27_0_0 (xt_read_B c arg1 harg1 arg11 x0 _)) ?_
  refine pcons (rE_piece _ x0 (kernelRun0_B.sl.v647 (F := Ideal) c arg1 harg1 arg11 x0) (kernelRun0_B.sl.v650 (F := Ideal) c arg1 harg1 arg11 x0) 26 inb_S24x32x8x128_S24x1x8x128_0_26_0_0 (xt_read_B c arg1 harg1 arg11 x0 _)) ?_
  refine pcons (rO_piece _ x0 (kernelRun0_B.sl.v627 (F := Ideal) c arg1 harg1 arg11 x0) (kernelRun0_B.sl.v630 (F := Ideal) c arg1 harg1 arg11 x0) 25 inb_S24x32x8x128_S24x1x8x128_0_25_0_0 (xt_read_B c arg1 harg1 arg11 x0 _)) ?_
  refine pcons (rE_piece _ x0 (kernelRun0_B.sl.v627 (F := Ideal) c arg1 harg1 arg11 x0) (kernelRun0_B.sl.v630 (F := Ideal) c arg1 harg1 arg11 x0) 24 inb_S24x32x8x128_S24x1x8x128_0_24_0_0 (xt_read_B c arg1 harg1 arg11 x0 _)) ?_
  refine pcons (rO_piece _ x0 (kernelRun0_B.sl.v607 (F := Ideal) c arg1 harg1 arg11 x0) (kernelRun0_B.sl.v610 (F := Ideal) c arg1 harg1 arg11 x0) 23 inb_S24x32x8x128_S24x1x8x128_0_23_0_0 (xt_read_B c arg1 harg1 arg11 x0 _)) ?_
  refine pcons (rE_piece _ x0 (kernelRun0_B.sl.v607 (F := Ideal) c arg1 harg1 arg11 x0) (kernelRun0_B.sl.v610 (F := Ideal) c arg1 harg1 arg11 x0) 22 inb_S24x32x8x128_S24x1x8x128_0_22_0_0 (xt_read_B c arg1 harg1 arg11 x0 _)) ?_
  refine pcons (rO_piece _ x0 (kernelRun0_B.sl.v587 (F := Ideal) c arg1 harg1 arg11 x0) (kernelRun0_B.sl.v590 (F := Ideal) c arg1 harg1 arg11 x0) 21 inb_S24x32x8x128_S24x1x8x128_0_21_0_0 (xt_read_B c arg1 harg1 arg11 x0 _)) ?_
  refine pcons (rE_piece _ x0 (kernelRun0_B.sl.v587 (F := Ideal) c arg1 harg1 arg11 x0) (kernelRun0_B.sl.v590 (F := Ideal) c arg1 harg1 arg11 x0) 20 inb_S24x32x8x128_S24x1x8x128_0_20_0_0 (xt_read_B c arg1 harg1 arg11 x0 _)) ?_
  refine pcons (rO_piece _ x0 (kernelRun0_B.sl.v567 (F := Ideal) c arg1 harg1 arg11 x0) (kernelRun0_B.sl.v570 (F := Ideal) c arg1 harg1 arg11 x0) 19 inb_S24x32x8x128_S24x1x8x128_0_19_0_0 (xt_read_B c arg1 harg1 arg11 x0 _)) ?_
  refine pcons (rE_piece _ x0 (kernelRun0_B.sl.v567 (F := Ideal) c arg1 harg1 arg11 x0) (kernelRun0_B.sl.v570 (F := Ideal) c arg1 harg1 arg11 x0) 18 inb_S24x32x8x128_S24x1x8x128_0_18_0_0 (xt_read_B c arg1 harg1 arg11 x0 _)) ?_
  refine pcons (rO_piece _ x0 (kernelRun0_B.sl.v547 (F := Ideal) c arg1 harg1 arg11 x0) (kernelRun0_B.sl.v550 (F := Ideal) c arg1 harg1 arg11 x0) 17 inb_S24x32x8x128_S24x1x8x128_0_17_0_0 (xt_read_B c arg1 harg1 arg11 x0 _)) ?_
  refine pcons (rE_piece _ x0 (kernelRun0_B.sl.v547 (F := Ideal) c arg1 harg1 arg11 x0) (kernelRun0_B.sl.v550 (F := Ideal) c arg1 harg1 arg11 x0) 16 inb_S24x32x8x128_S24x1x8x128_0_16_0_0 (xt_read_B c arg1 harg1 arg11 x0 _)) ?_
  refine pcons (rO_piece _ x0 (kernelRun0_B.sl.v527 (F := Ideal) c arg1 harg1 arg11 x0) (kernelRun0_B.sl.v530 (F := Ideal) c arg1 harg1 arg11 x0) 15 inb_S24x32x8x128_S24x1x8x128_0_15_0_0 (xt_read_B c arg1 harg1 arg11 x0 _)) ?_
  refine pcons (rE_piece _ x0 (kernelRun0_B.sl.v527 (F := Ideal) c arg1 harg1 arg11 x0) (kernelRun0_B.sl.v530 (F := Ideal) c arg1 harg1 arg11 x0) 14 inb_S24x32x8x128_S24x1x8x128_0_14_0_0 (xt_read_B c arg1 harg1 arg11 x0 _)) ?_
  refine pcons (rO_piece _ x0 (kernelRun0_B.sl.v507 (F := Ideal) c arg1 harg1 arg11 x0) (kernelRun0_B.sl.v510 (F := Ideal) c arg1 harg1 arg11 x0) 13 inb_S24x32x8x128_S24x1x8x128_0_13_0_0 (xt_read_B c arg1 harg1 arg11 x0 _)) ?_
  refine pcons (rE_piece _ x0 (kernelRun0_B.sl.v507 (F := Ideal) c arg1 harg1 arg11 x0) (kernelRun0_B.sl.v510 (F := Ideal) c arg1 harg1 arg11 x0) 12 inb_S24x32x8x128_S24x1x8x128_0_12_0_0 (xt_read_B c arg1 harg1 arg11 x0 _)) ?_
  refine pcons (rO_piece _ x0 (kernelRun0_B.sl.v487 (F := Ideal) c arg1 harg1 arg11 x0) (kernelRun0_B.sl.v490 (F := Ideal) c arg1 harg1 arg11 x0) 11 inb_S24x32x8x128_S24x1x8x128_0_11_0_0 (xt_read_B c arg1 harg1 arg11 x0 _)) ?_
  refine pcons (rE_piece _ x0 (kernelRun0_B.sl.v487 (F := Ideal) c arg1 harg1 arg11 x0) (kernelRun0_B.sl.v490 (F := Ideal) c arg1 harg1 arg11 x0) 10 inb_S24x32x8x128_S24x1x8x128_0_10_0_0 (xt_read_B c arg1 harg1 arg11 x0 _)) ?_
  refine pcons (rO_piece _ x0 (kernelRun0_B.sl.v467 (F := Ideal) c arg1 harg1 arg11 x0) (kernelRun0_B.sl.v470 (F := Ideal) c arg1 harg1 arg11 x0) 9 inb_S24x32x8x128_S24x1x8x128_0_9_0_0 (xt_read_B c arg1 harg1 arg11 x0 _)) ?_
  refine pcons (rE_piece _ x0 (kernelRun0_B.sl.v467 (F := Ideal) c arg1 harg1 arg11 x0) (kernelRun0_B.sl.v470 (F := Ideal) c arg1 harg1 arg11 x0) 8 inb_S24x32x8x128_S24x1x8x128_0_8_0_0 (xt_read_B c arg1 harg1 arg11 x0 _)) ?_
  refine pcons (rO_piece _ x0 (kernelRun0_B.sl.v447 (F := Ideal) c arg1 harg1 arg11 x0) (kernelRun0_B.sl.v450 (F := Ideal) c arg1 harg1 arg11 x0) 7 inb_S24x32x8x128_S24x1x8x128_0_7_0_0 (xt_read_B c arg1 harg1 arg11 x0 _)) ?_
  refine pcons (rE_piece _ x0 (kernelRun0_B.sl.v447 (F := Ideal) c arg1 harg1 arg11 x0) (kernelRun0_B.sl.v450 (F := Ideal) c arg1 harg1 arg11 x0) 6 inb_S24x32x8x128_S24x1x8x128_0_6_0_0 (xt_read_B c arg1 harg1 arg11 x0 _)) ?_
  refine pcons (rO_piece _ x0 (kernelRun0_B.sl.v427 (F := Ideal) c arg1 harg1 arg11 x0) (kernelRun0_B.sl.v430 (F := Ideal) c arg1 harg1 arg11 x0) 5 inb_S24x32x8x128_S24x1x8x128_0_5_0_0 (xt_read_B c arg1 harg1 arg11 x0 _)) ?_
  refine pcons (rE_piece _ x0 (kernelRun0_B.sl.v427 (F := Ideal) c arg1 harg1 arg11 x0) (kernelRun0_B.sl.v430 (F := Ideal) c arg1 harg1 arg11 x0) 4 inb_S24x32x8x128_S24x1x8x128_0_4_0_0 (xt_read_B c arg1 harg1 arg11 x0 _)) ?_
  refine pcons (rO_piece _ x0 (kernelRun0_B.sl.v407 (F := Ideal) c arg1 harg1 arg11 x0) (kernelRun0_B.sl.v410 (F := Ideal) c arg1 harg1 arg11 x0) 3 inb_S24x32x8x128_S24x1x8x128_0_3_0_0 (xt_read_B c arg1 harg1 arg11 x0 _)) ?_
  refine pcons (rE_piece _ x0 (kernelRun0_B.sl.v407 (F := Ideal) c arg1 harg1 arg11 x0) (kernelRun0_B.sl.v410 (F := Ideal) c arg1 harg1 arg11 x0) 2 inb_S24x32x8x128_S24x1x8x128_0_2_0_0 (xt_read_B c arg1 harg1 arg11 x0 _)) ?_
  refine pcons (rO_piece _ x0 (kernelRun0_B.sl.v387 (F := Ideal) c arg1 harg1 arg11 x0) (kernelRun0_B.sl.v390 (F := Ideal) c arg1 harg1 arg11 x0) 1 inb_S24x32x8x128_S24x1x8x128_0_1_0_0 (xt_read_B c arg1 harg1 arg11 x0 _)) ?_
  refine pcons (rE_piece _ x0 (kernelRun0_B.sl.v387 (F := Ideal) c arg1 harg1 arg11 x0) (kernelRun0_B.sl.v390 (F := Ideal) c arg1 harg1 arg11 x0) 0 inb_S24x32x8x128_S24x1x8x128_0_0_0_0 (xt_read_B c arg1 harg1 arg11 x0 _)) ?_
  exact trivial

/-- Every read of the second scratch reads the first rotation. -/
theorem r_read_B (c : Dev nD) (arg1 : Memref sig .tc .vmem S128x6144 .bf16) (harg1 : arg1.IsWhole) (arg10 : Memref sig .tc .vmem S192x192 .bf16) (harg10 : arg10.IsWhole) (arg11 : Memref sig .tc .vmem S24x32x8x128 .f32) (x0 : Vec Ideal S128x6144 .bf16) (xs1 : Vec Ideal S192x192 .bf16) (arg12 : Memref sig .tc .vmem S24x32x8x128 .f32) (f : BufTy.Contents (Elt Ideal) arg12.view.ty) (y : S24x32x8x128.Idx) :
    arg12.view.read (Elt Ideal) (arg12.view.writes (Elt Ideal) f (kernelRun0_B.sl.HS3_32 (F := Ideal) c arg1 harg1 arg10 harg10 arg11 x0 xs1)) y
      = rG (View.readAt (Elt Ideal) arg10.view (Rect.unit (s := S192x192) ![0, 0] S192x192.size inb_S192x192_S192x192_0_0).toLoadRect (harg10.unread xs1)) x0 y :=
  View.read_writes_apply_of_pieces arg12.view f (rG (View.readAt (Elt Ideal) arg10.view (Rect.unit (s := S192x192) ![0, 0] S192x192.size inb_S192x192_S192x192_0_0).toLoadRect (harg10.unread xs1)) x0) _ (r_pieces_B c arg1 harg1 arg10 harg10 arg11 x0 xs1).mem y
    (View.cover_of_tiledL (kernelRun0_B.sl.HS3_32 (F := Ideal) c arg1 harg1 arg10 harg10 arg11 x0 xs1) S24x1x8x128.size (by sl_kernel_rfl) y)

end Cert.KernelIdeal.Own
end
end
-- ==== Proof.Fly.lean ====
module

public import proofs.«01_k».proof.Proof.Gen.KernelIdeal.Loops
public import proofs.«01_k».proof.Proof.Spec
public import Idealize.ShloMosaic.Lib.Pointwise

@[expose] public section
set_option maxRecDepth 16384
noncomputable section
namespace Cert.KernelIdeal.Own
open Cert.KernelIdeal Cert.KernelIdeal.Gen Cert.Own Idealize.ShloMosaic Idealize.ShloMosaic.TcCoe

/-- A load of one block of one row reads the buffer there. -/
theorem rd (arg12 : Memref sig .tc .vmem S24x32x8x128 .f32) (f : BufTy.Contents (Elt Ideal) arg12.view.ty)
    (off : Fin 4 → ℕ) (k b : ℕ) (hk : k < 24) (hb : b < 32) (ho : off = ![k, b, 0, 0])
    (h : ∀ a, off a + S1x1x8x128.size a ≤ S24x32x8x128.size a) (i2 : Fin 8) (i3 : Fin 128) :
    View.readAt (Elt Ideal) arg12.view (Rect.unit (s := S24x32x8x128) off S1x1x8x128.size h).toLoadRect f (ix4 0 0 i2 i3)
      = arg12.view.read (Elt Ideal) f (ix4 ⟨k, hk⟩ ⟨b, hb⟩ i2 i3) := by
  subst ho
  refine congrArg (arg12.view.read (Elt Ideal) f) (funext fun a => Fin.ext ?_)
  match a with
  | ⟨0, _⟩ => exact (Nat.add_zero k)
  | ⟨1, _⟩ => exact (Nat.add_zero b)
  | ⟨2, _⟩ => exact (Nat.zero_add _).trans (Nat.one_mul _)
  | ⟨3, _⟩ => exact (Nat.zero_add _).trans (Nat.one_mul _)

/-- The offsets of the loop's 32 reads and stores. -/
theorem off_0 (k : Fin k0_t2_loop.trips) : k0_off4 k = ![k.val, 0, 0, 0] := by revert k; decide
theorem off_1 (k : Fin k0_t2_loop.trips) : k0_off5 k = ![k.val, 1, 0, 0] := by revert k; decide
theorem off_2 (k : Fin k0_t2_loop.trips) : k0_off6 k = ![k.val, 2, 0, 0] := by revert k; decide
theorem off_3 (k : Fin k0_t2_loop.trips) : k0_off7 k = ![k.val, 3, 0, 0] := by revert k; decide
theorem off_4 (k : Fin k0_t2_loop.trips) : k0_off8 k = ![k.val, 4, 0, 0] := by revert k; decide
theorem off_5 (k : Fin k0_t2_loop.trips) : k0_off9 k = ![k.val, 5, 0, 0] := by revert k; decide
theorem off_6 (k : Fin k0_t2_loop.trips) : k0_off10 k = ![k.val, 6, 0, 0] := by revert k; decide
theorem off_7 (k : Fin k0_t2_loop.trips) : k0_off11 k = ![k.val, 7, 0, 0] := by revert k; decide
theorem off_8 (k : Fin k0_t2_loop.trips) : k0_off12 k = ![k.val, 8, 0, 0] := by revert k; decide
theorem off_9 (k : Fin k0_t2_loop.trips) : k0_off13 k = ![k.val, 9, 0, 0] := by revert k; decide
theorem off_10 (k : Fin k0_t2_loop.trips) : k0_off14 k = ![k.val, 10, 0, 0] := by revert k; decide
theorem off_11 (k : Fin k0_t2_loop.trips) : k0_off15 k = ![k.val, 11, 0, 0] := by revert k; decide
theorem off_12 (k : Fin k0_t2_loop.trips) : k0_off16 k = ![k.val, 12, 0, 0] := by revert k; decide
theorem off_13 (k : Fin k0_t2_loop.trips) : k0_off17 k = ![k.val, 13, 0, 0] := by revert k; decide
theorem off_14 (k : Fin k0_t2_loop.trips) : k0_off18 k = ![k.val, 14, 0, 0] := by revert k; decide
theorem off_15 (k : Fin k0_t2_loop.trips) : k0_off19 k = ![k.val, 15, 0, 0] := by revert k; decide
theorem off_16 (k : Fin k0_t2_loop.trips) : k0_off20 k = ![k.val, 16, 0, 0] := by revert k; decide
theorem off_17 (k : Fin k0_t2_loop.trips) : k0_off21 k = ![k.val, 17, 0, 0] := by revert k; decide
theorem off_18 (k : Fin k0_t2_loop.trips) : k0_off22 k = ![k.val, 18, 0, 0] := by revert k; decide
theorem off_19 (k : Fin k0_t2_loop.trips) : k0_off23 k = ![k.val, 19, 0, 0] := by revert k; decide
theorem off_20 (k : Fin k0_t2_loop.trips) : k0_off24 k = ![k.val, 20, 0, 0] := by revert k; decide
theorem off_21 (k : Fin k0_t2_loop.trips) : k0_off25 k = ![k.val, 21, 0, 0] := by revert k; decide
theorem off_22 (k : Fin k0_t2_loop.trips) : k0_off26 k = ![k.val, 22, 0, 0] := by revert k; decide
theorem off_23 (k : Fin k0_t2_loop.trips) : k0_off27 k = ![k.val, 23, 0, 0] := by revert k; decide
theorem off_24 (k : Fin k0_t2_loop.trips) : k0_off28 k = ![k.val, 24, 0, 0] := by revert k; decide
theorem off_25 (k : Fin k0_t2_loop.trips) : k0_off29 k = ![k.val, 25, 0, 0] := by revert k; decide
theorem off_26 (k : Fin k0_t2_loop.trips) : k0_off30 k = ![k.val, 26, 0, 0] := by revert k; decide
theorem off_27 (k : Fin k0_t2_loop.trips) : k0_off31 k = ![k.val, 27, 0, 0] := by revert k; decide
theorem off_28 (k : Fin k0_t2_loop.trips) : k0_off32 k = ![k.val, 28, 0, 0] := by revert k; decide
theorem off_29 (k : Fin k0_t2_loop.trips) : k0_off33 k = ![k.val, 29, 0, 0] := by revert k; decide
theorem off_30 (k : Fin k0_t2_loop.trips) : k0_off34 k = ![k.val, 30, 0, 0] := by revert k; decide
theorem off_31 (k : Fin k0_t2_loop.trips) : k0_off35 k = ![k.val, 31, 0, 0] := by revert k; decide
theorem rd_0 (arg12 : Memref sig .tc .vmem S24x32x8x128 .f32) (k : Fin k0_t2_loop.trips)
    (f : BufTy.Contents (Elt Ideal) arg12.view.ty) (h : ∀ a, (k0_off4 k) a + (![1, 1, 8, 128] : Fin 4 → ℕ) a ≤ S24x32x8x128.size a)
    (i2 : Fin 8) (i3 : Fin 128) :
    View.readAt (Elt Ideal) arg12.view (Rect.unit (s := S24x32x8x128) (k0_off4 k) ![1, 1, 8, 128] h).toLoadRect f (ix4 0 0 i2 i3)
      = arg12.view.read (Elt Ideal) f (ix4 (k : Fin 24) (0 : Fin 32) i2 i3) :=
  rd arg12 f _ k.val 0 k.isLt (by decide) (off_0 k) h i2 i3
theorem rd_1 (arg12 : Memref sig .tc .vmem S24x32x8x128 .f32) (k : Fin k0_t2_loop.trips)
    (f : BufTy.Contents (Elt Ideal) arg12.view.ty) (h : ∀ a, (k0_off5 k) a + (![1, 1, 8, 128] : Fin 4 → ℕ) a ≤ S24x32x8x128.size a)
    (i2 : Fin 8) (i3 : Fin 128) :
    View.readAt (Elt Ideal) arg12.view (Rect.unit (s := S24x32x8x128) (k0_off5 k) ![1, 1, 8, 128] h).toLoadRect f (ix4 0 0 i2 i3)
      = arg12.view.read (Elt Ideal) f (ix4 (k : Fin 24) (1 : Fin 32) i2 i3) :=
  rd arg12 f _ k.val 1 k.isLt (by decide) (off_1 k) h i2 i3
theorem rd_2 (arg12 : Memref sig .tc .vmem S24x32x8x128 .f32) (k : Fin k0_t2_loop.trips)
    (f : BufTy.Contents (Elt Ideal) arg12.view.ty) (h : ∀ a, (k0_off6 k) a + (![1, 1, 8, 128] : Fin 4 → ℕ) a ≤ S24x32x8x128.size a)
    (i2 : Fin 8) (i3 : Fin 128) :
    View.readAt (Elt Ideal) arg12.view (Rect.unit (s := S24x32x8x128) (k0_off6 k) ![1, 1, 8, 128] h).toLoadRect f (ix4 0 0 i2 i3)
      = arg12.view.read (Elt Ideal) f (ix4 (k : Fin 24) (2 : Fin 32) i2 i3) :=
  rd arg12 f _ k.val 2 k.isLt (by decide) (off_2 k) h i2 i3
theorem rd_3 (arg12 : Memref sig .tc .vmem S24x32x8x128 .f32) (k : Fin k0_t2_loop.trips)
    (f : BufTy.Contents (Elt Ideal) arg12.view.ty) (h : ∀ a, (k0_off7 k) a + (![1, 1, 8, 128] : Fin 4 → ℕ) a ≤ S24x32x8x128.size a)
    (i2 : Fin 8) (i3 : Fin 128) :
    View.readAt (Elt Ideal) arg12.view (Rect.unit (s := S24x32x8x128) (k0_off7 k) ![1, 1, 8, 128] h).toLoadRect f (ix4 0 0 i2 i3)
      = arg12.view.read (Elt Ideal) f (ix4 (k : Fin 24) (3 : Fin 32) i2 i3) :=
  rd arg12 f _ k.val 3 k.isLt (by decide) (off_3 k) h i2 i3
theorem rd_4 (arg12 : Memref sig .tc .vmem S24x32x8x128 .f32) (k : Fin k0_t2_loop.trips)
    (f : BufTy.Contents (Elt Ideal) arg12.view.ty) (h : ∀ a, (k0_off8 k) a + (![1, 1, 8, 128] : Fin 4 → ℕ) a ≤ S24x32x8x128.size a)
    (i2 : Fin 8) (i3 : Fin 128) :
    View.readAt (Elt Ideal) arg12.view (Rect.unit (s := S24x32x8x128) (k0_off8 k) ![1, 1, 8, 128] h).toLoadRect f (ix4 0 0 i2 i3)
      = arg12.view.read (Elt Ideal) f (ix4 (k : Fin 24) (4 : Fin 32) i2 i3) :=
  rd arg12 f _ k.val 4 k.isLt (by decide) (off_4 k) h i2 i3
theorem rd_5 (arg12 : Memref sig .tc .vmem S24x32x8x128 .f32) (k : Fin k0_t2_loop.trips)
    (f : BufTy.Contents (Elt Ideal) arg12.view.ty) (h : ∀ a, (k0_off9 k) a + (![1, 1, 8, 128] : Fin 4 → ℕ) a ≤ S24x32x8x128.size a)
    (i2 : Fin 8) (i3 : Fin 128) :
    View.readAt (Elt Ideal) arg12.view (Rect.unit (s := S24x32x8x128) (k0_off9 k) ![1, 1, 8, 128] h).toLoadRect f (ix4 0 0 i2 i3)
      = arg12.view.read (Elt Ideal) f (ix4 (k : Fin 24) (5 : Fin 32) i2 i3) :=
  rd arg12 f _ k.val 5 k.isLt (by decide) (off_5 k) h i2 i3
theorem rd_6 (arg12 : Memref sig .tc .vmem S24x32x8x128 .f32) (k : Fin k0_t2_loop.trips)
    (f : BufTy.Contents (Elt Ideal) arg12.view.ty) (h : ∀ a, (k0_off10 k) a + (![1, 1, 8, 128] : Fin 4 → ℕ) a ≤ S24x32x8x128.size a)
    (i2 : Fin 8) (i3 : Fin 128) :
    View.readAt (Elt Ideal) arg12.view (Rect.unit (s := S24x32x8x128) (k0_off10 k) ![1, 1, 8, 128] h).toLoadRect f (ix4 0 0 i2 i3)
      = arg12.view.read (Elt Ideal) f (ix4 (k : Fin 24) (6 : Fin 32) i2 i3) :=
  rd arg12 f _ k.val 6 k.isLt (by decide) (off_6 k) h i2 i3
theorem rd_7 (arg12 : Memref sig .tc .vmem S24x32x8x128 .f32) (k : Fin k0_t2_loop.trips)
    (f : BufTy.Contents (Elt Ideal) arg12.view.ty) (h : ∀ a, (k0_off11 k) a + (![1, 1, 8, 128] : Fin 4 → ℕ) a ≤ S24x32x8x128.size a)
    (i2 : Fin 8) (i3 : Fin 128) :
    View.readAt (Elt Ideal) arg12.view (Rect.unit (s := S24x32x8x128) (k0_off11 k) ![1, 1, 8, 128] h).toLoadRect f (ix4 0 0 i2 i3)
      = arg12.view.read (Elt Ideal) f (ix4 (k : Fin 24) (7 : Fin 32) i2 i3) :=
  rd arg12 f _ k.val 7 k.isLt (by decide) (off_7 k) h i2 i3
theorem rd_8 (arg12 : Memref sig .tc .vmem S24x32x8x128 .f32) (k : Fin k0_t2_loop.trips)
    (f : BufTy.Contents (Elt Ideal) arg12.view.ty) (h : ∀ a, (k0_off12 k) a + (![1, 1, 8, 128] : Fin 4 → ℕ) a ≤ S24x32x8x128.size a)
    (i2 : Fin 8) (i3 : Fin 128) :
    View.readAt (Elt Ideal) arg12.view (Rect.unit (s := S24x32x8x128) (k0_off12 k) ![1, 1, 8, 128] h).toLoadRect f (ix4 0 0 i2 i3)
      = arg12.view.read (Elt Ideal) f (ix4 (k : Fin 24) (8 : Fin 32) i2 i3) :=
  rd arg12 f _ k.val 8 k.isLt (by decide) (off_8 k) h i2 i3
theorem rd_9 (arg12 : Memref sig .tc .vmem S24x32x8x128 .f32) (k : Fin k0_t2_loop.trips)
    (f : BufTy.Contents (Elt Ideal) arg12.view.ty) (h : ∀ a, (k0_off13 k) a + (![1, 1, 8, 128] : Fin 4 → ℕ) a ≤ S24x32x8x128.size a)
    (i2 : Fin 8) (i3 : Fin 128) :
    View.readAt (Elt Ideal) arg12.view (Rect.unit (s := S24x32x8x128) (k0_off13 k) ![1, 1, 8, 128] h).toLoadRect f (ix4 0 0 i2 i3)
      = arg12.view.read (Elt Ideal) f (ix4 (k : Fin 24) (9 : Fin 32) i2 i3) :=
  rd arg12 f _ k.val 9 k.isLt (by decide) (off_9 k) h i2 i3
theorem rd_10 (arg12 : Memref sig .tc .vmem S24x32x8x128 .f32) (k : Fin k0_t2_loop.trips)
    (f : BufTy.Contents (Elt Ideal) arg12.view.ty) (h : ∀ a, (k0_off14 k) a + (![1, 1, 8, 128] : Fin 4 → ℕ) a ≤ S24x32x8x128.size a)
    (i2 : Fin 8) (i3 : Fin 128) :
    View.readAt (Elt Ideal) arg12.view (Rect.unit (s := S24x32x8x128) (k0_off14 k) ![1, 1, 8, 128] h).toLoadRect f (ix4 0 0 i2 i3)
      = arg12.view.read (Elt Ideal) f (ix4 (k : Fin 24) (10 : Fin 32) i2 i3) :=
  rd arg12 f _ k.val 10 k.isLt (by decide) (off_10 k) h i2 i3
theorem rd_11 (arg12 : Memref sig .tc .vmem S24x32x8x128 .f32) (k : Fin k0_t2_loop.trips)
    (f : BufTy.Contents (Elt Ideal) arg12.view.ty) (h : ∀ a, (k0_off15 k) a + (![1, 1, 8, 128] : Fin 4 → ℕ) a ≤ S24x32x8x128.size a)
    (i2 : Fin 8) (i3 : Fin 128) :
    View.readAt (Elt Ideal) arg12.view (Rect.unit (s := S24x32x8x128) (k0_off15 k) ![1, 1, 8, 128] h).toLoadRect f (ix4 0 0 i2 i3)
      = arg12.view.read (Elt Ideal) f (ix4 (k : Fin 24) (11 : Fin 32) i2 i3) :=
  rd arg12 f _ k.val 11 k.isLt (by decide) (off_11 k) h i2 i3
theorem rd_12 (arg12 : Memref sig .tc .vmem S24x32x8x128 .f32) (k : Fin k0_t2_loop.trips)
    (f : BufTy.Contents (Elt Ideal) arg12.view.ty) (h : ∀ a, (k0_off16 k) a + (![1, 1, 8, 128] : Fin 4 → ℕ) a ≤ S24x32x8x128.size a)
    (i2 : Fin 8) (i3 : Fin 128) :
    View.readAt (Elt Ideal) arg12.view (Rect.unit (s := S24x32x8x128) (k0_off16 k) ![1, 1, 8, 128] h).toLoadRect f (ix4 0 0 i2 i3)
      = arg12.view.read (Elt Ideal) f (ix4 (k : Fin 24) (12 : Fin 32) i2 i3) :=
  rd arg12 f _ k.val 12 k.isLt (by decide) (off_12 k) h i2 i3
theorem rd_13 (arg12 : Memref sig .tc .vmem S24x32x8x128 .f32) (k : Fin k0_t2_loop.trips)
    (f : BufTy.Contents (Elt Ideal) arg12.view.ty) (h : ∀ a, (k0_off17 k) a + (![1, 1, 8, 128] : Fin 4 → ℕ) a ≤ S24x32x8x128.size a)
    (i2 : Fin 8) (i3 : Fin 128) :
    View.readAt (Elt Ideal) arg12.view (Rect.unit (s := S24x32x8x128) (k0_off17 k) ![1, 1, 8, 128] h).toLoadRect f (ix4 0 0 i2 i3)
      = arg12.view.read (Elt Ideal) f (ix4 (k : Fin 24) (13 : Fin 32) i2 i3) :=
  rd arg12 f _ k.val 13 k.isLt (by decide) (off_13 k) h i2 i3
theorem rd_14 (arg12 : Memref sig .tc .vmem S24x32x8x128 .f32) (k : Fin k0_t2_loop.trips)
    (f : BufTy.Contents (Elt Ideal) arg12.view.ty) (h : ∀ a, (k0_off18 k) a + (![1, 1, 8, 128] : Fin 4 → ℕ) a ≤ S24x32x8x128.size a)
    (i2 : Fin 8) (i3 : Fin 128) :
    View.readAt (Elt Ideal) arg12.view (Rect.unit (s := S24x32x8x128) (k0_off18 k) ![1, 1, 8, 128] h).toLoadRect f (ix4 0 0 i2 i3)
      = arg12.view.read (Elt Ideal) f (ix4 (k : Fin 24) (14 : Fin 32) i2 i3) :=
  rd arg12 f _ k.val 14 k.isLt (by decide) (off_14 k) h i2 i3
theorem rd_15 (arg12 : Memref sig .tc .vmem S24x32x8x128 .f32) (k : Fin k0_t2_loop.trips)
    (f : BufTy.Contents (Elt Ideal) arg12.view.ty) (h : ∀ a, (k0_off19 k) a + (![1, 1, 8, 128] : Fin 4 → ℕ) a ≤ S24x32x8x128.size a)
    (i2 : Fin 8) (i3 : Fin 128) :
    View.readAt (Elt Ideal) arg12.view (Rect.unit (s := S24x32x8x128) (k0_off19 k) ![1, 1, 8, 128] h).toLoadRect f (ix4 0 0 i2 i3)
      = arg12.view.read (Elt Ideal) f (ix4 (k : Fin 24) (15 : Fin 32) i2 i3) :=
  rd arg12 f _ k.val 15 k.isLt (by decide) (off_15 k) h i2 i3
theorem rd_16 (arg12 : Memref sig .tc .vmem S24x32x8x128 .f32) (k : Fin k0_t2_loop.trips)
    (f : BufTy.Contents (Elt Ideal) arg12.view.ty) (h : ∀ a, (k0_off20 k) a + (![1, 1, 8, 128] : Fin 4 → ℕ) a ≤ S24x32x8x128.size a)
    (i2 : Fin 8) (i3 : Fin 128) :
    View.readAt (Elt Ideal) arg12.view (Rect.unit (s := S24x32x8x128) (k0_off20 k) ![1, 1, 8, 128] h).toLoadRect f (ix4 0 0 i2 i3)
      = arg12.view.read (Elt Ideal) f (ix4 (k : Fin 24) (16 : Fin 32) i2 i3) :=
  rd arg12 f _ k.val 16 k.isLt (by decide) (off_16 k) h i2 i3
theorem rd_17 (arg12 : Memref sig .tc .vmem S24x32x8x128 .f32) (k : Fin k0_t2_loop.trips)
    (f : BufTy.Contents (Elt Ideal) arg12.view.ty) (h : ∀ a, (k0_off21 k) a + (![1, 1, 8, 128] : Fin 4 → ℕ) a ≤ S24x32x8x128.size a)
    (i2 : Fin 8) (i3 : Fin 128) :
    View.readAt (Elt Ideal) arg12.view (Rect.unit (s := S24x32x8x128) (k0_off21 k) ![1, 1, 8, 128] h).toLoadRect f (ix4 0 0 i2 i3)
      = arg12.view.read (Elt Ideal) f (ix4 (k : Fin 24) (17 : Fin 32) i2 i3) :=
  rd arg12 f _ k.val 17 k.isLt (by decide) (off_17 k) h i2 i3
theorem rd_18 (arg12 : Memref sig .tc .vmem S24x32x8x128 .f32) (k : Fin k0_t2_loop.trips)
    (f : BufTy.Contents (Elt Ideal) arg12.view.ty) (h : ∀ a, (k0_off22 k) a + (![1, 1, 8, 128] : Fin 4 → ℕ) a ≤ S24x32x8x128.size a)
    (i2 : Fin 8) (i3 : Fin 128) :
    View.readAt (Elt Ideal) arg12.view (Rect.unit (s := S24x32x8x128) (k0_off22 k) ![1, 1, 8, 128] h).toLoadRect f (ix4 0 0 i2 i3)
      = arg12.view.read (Elt Ideal) f (ix4 (k : Fin 24) (18 : Fin 32) i2 i3) :=
  rd arg12 f _ k.val 18 k.isLt (by decide) (off_18 k) h i2 i3
theorem rd_19 (arg12 : Memref sig .tc .vmem S24x32x8x128 .f32) (k : Fin k0_t2_loop.trips)
    (f : BufTy.Contents (Elt Ideal) arg12.view.ty) (h : ∀ a, (k0_off23 k) a + (![1, 1, 8, 128] : Fin 4 → ℕ) a ≤ S24x32x8x128.size a)
    (i2 : Fin 8) (i3 : Fin 128) :
    View.readAt (Elt Ideal) arg12.view (Rect.unit (s := S24x32x8x128) (k0_off23 k) ![1, 1, 8, 128] h).toLoadRect f (ix4 0 0 i2 i3)
      = arg12.view.read (Elt Ideal) f (ix4 (k : Fin 24) (19 : Fin 32) i2 i3) :=
  rd arg12 f _ k.val 19 k.isLt (by decide) (off_19 k) h i2 i3
theorem rd_20 (arg12 : Memref sig .tc .vmem S24x32x8x128 .f32) (k : Fin k0_t2_loop.trips)
    (f : BufTy.Contents (Elt Ideal) arg12.view.ty) (h : ∀ a, (k0_off24 k) a + (![1, 1, 8, 128] : Fin 4 → ℕ) a ≤ S24x32x8x128.size a)
    (i2 : Fin 8) (i3 : Fin 128) :
    View.readAt (Elt Ideal) arg12.view (Rect.unit (s := S24x32x8x128) (k0_off24 k) ![1, 1, 8, 128] h).toLoadRect f (ix4 0 0 i2 i3)
      = arg12.view.read (Elt Ideal) f (ix4 (k : Fin 24) (20 : Fin 32) i2 i3) :=
  rd arg12 f _ k.val 20 k.isLt (by decide) (off_20 k) h i2 i3
theorem rd_21 (arg12 : Memref sig .tc .vmem S24x32x8x128 .f32) (k : Fin k0_t2_loop.trips)
    (f : BufTy.Contents (Elt Ideal) arg12.view.ty) (h : ∀ a, (k0_off25 k) a + (![1, 1, 8, 128] : Fin 4 → ℕ) a ≤ S24x32x8x128.size a)
    (i2 : Fin 8) (i3 : Fin 128) :
    View.readAt (Elt Ideal) arg12.view (Rect.unit (s := S24x32x8x128) (k0_off25 k) ![1, 1, 8, 128] h).toLoadRect f (ix4 0 0 i2 i3)
      = arg12.view.read (Elt Ideal) f (ix4 (k : Fin 24) (21 : Fin 32) i2 i3) :=
  rd arg12 f _ k.val 21 k.isLt (by decide) (off_21 k) h i2 i3
theorem rd_22 (arg12 : Memref sig .tc .vmem S24x32x8x128 .f32) (k : Fin k0_t2_loop.trips)
    (f : BufTy.Contents (Elt Ideal) arg12.view.ty) (h : ∀ a, (k0_off26 k) a + (![1, 1, 8, 128] : Fin 4 → ℕ) a ≤ S24x32x8x128.size a)
    (i2 : Fin 8) (i3 : Fin 128) :
    View.readAt (Elt Ideal) arg12.view (Rect.unit (s := S24x32x8x128) (k0_off26 k) ![1, 1, 8, 128] h).toLoadRect f (ix4 0 0 i2 i3)
      = arg12.view.read (Elt Ideal) f (ix4 (k : Fin 24) (22 : Fin 32) i2 i3) :=
  rd arg12 f _ k.val 22 k.isLt (by decide) (off_22 k) h i2 i3
theorem rd_23 (arg12 : Memref sig .tc .vmem S24x32x8x128 .f32) (k : Fin k0_t2_loop.trips)
    (f : BufTy.Contents (Elt Ideal) arg12.view.ty) (h : ∀ a, (k0_off27 k) a + (![1, 1, 8, 128] : Fin 4 → ℕ) a ≤ S24x32x8x128.size a)
    (i2 : Fin 8) (i3 : Fin 128) :
    View.readAt (Elt Ideal) arg12.view (Rect.unit (s := S24x32x8x128) (k0_off27 k) ![1, 1, 8, 128] h).toLoadRect f (ix4 0 0 i2 i3)
      = arg12.view.read (Elt Ideal) f (ix4 (k : Fin 24) (23 : Fin 32) i2 i3) :=
  rd arg12 f _ k.val 23 k.isLt (by decide) (off_23 k) h i2 i3
theorem rd_24 (arg12 : Memref sig .tc .vmem S24x32x8x128 .f32) (k : Fin k0_t2_loop.trips)
    (f : BufTy.Contents (Elt Ideal) arg12.view.ty) (h : ∀ a, (k0_off28 k) a + (![1, 1, 8, 128] : Fin 4 → ℕ) a ≤ S24x32x8x128.size a)
    (i2 : Fin 8) (i3 : Fin 128) :
    View.readAt (Elt Ideal) arg12.view (Rect.unit (s := S24x32x8x128) (k0_off28 k) ![1, 1, 8, 128] h).toLoadRect f (ix4 0 0 i2 i3)
      = arg12.view.read (Elt Ideal) f (ix4 (k : Fin 24) (24 : Fin 32) i2 i3) :=
  rd arg12 f _ k.val 24 k.isLt (by decide) (off_24 k) h i2 i3
theorem rd_25 (arg12 : Memref sig .tc .vmem S24x32x8x128 .f32) (k : Fin k0_t2_loop.trips)
    (f : BufTy.Contents (Elt Ideal) arg12.view.ty) (h : ∀ a, (k0_off29 k) a + (![1, 1, 8, 128] : Fin 4 → ℕ) a ≤ S24x32x8x128.size a)
    (i2 : Fin 8) (i3 : Fin 128) :
    View.readAt (Elt Ideal) arg12.view (Rect.unit (s := S24x32x8x128) (k0_off29 k) ![1, 1, 8, 128] h).toLoadRect f (ix4 0 0 i2 i3)
      = arg12.view.read (Elt Ideal) f (ix4 (k : Fin 24) (25 : Fin 32) i2 i3) :=
  rd arg12 f _ k.val 25 k.isLt (by decide) (off_25 k) h i2 i3
theorem rd_26 (arg12 : Memref sig .tc .vmem S24x32x8x128 .f32) (k : Fin k0_t2_loop.trips)
    (f : BufTy.Contents (Elt Ideal) arg12.view.ty) (h : ∀ a, (k0_off30 k) a + (![1, 1, 8, 128] : Fin 4 → ℕ) a ≤ S24x32x8x128.size a)
    (i2 : Fin 8) (i3 : Fin 128) :
    View.readAt (Elt Ideal) arg12.view (Rect.unit (s := S24x32x8x128) (k0_off30 k) ![1, 1, 8, 128] h).toLoadRect f (ix4 0 0 i2 i3)
      = arg12.view.read (Elt Ideal) f (ix4 (k : Fin 24) (26 : Fin 32) i2 i3) :=
  rd arg12 f _ k.val 26 k.isLt (by decide) (off_26 k) h i2 i3
theorem rd_27 (arg12 : Memref sig .tc .vmem S24x32x8x128 .f32) (k : Fin k0_t2_loop.trips)
    (f : BufTy.Contents (Elt Ideal) arg12.view.ty) (h : ∀ a, (k0_off31 k) a + (![1, 1, 8, 128] : Fin 4 → ℕ) a ≤ S24x32x8x128.size a)
    (i2 : Fin 8) (i3 : Fin 128) :
    View.readAt (Elt Ideal) arg12.view (Rect.unit (s := S24x32x8x128) (k0_off31 k) ![1, 1, 8, 128] h).toLoadRect f (ix4 0 0 i2 i3)
      = arg12.view.read (Elt Ideal) f (ix4 (k : Fin 24) (27 : Fin 32) i2 i3) :=
  rd arg12 f _ k.val 27 k.isLt (by decide) (off_27 k) h i2 i3
theorem rd_28 (arg12 : Memref sig .tc .vmem S24x32x8x128 .f32) (k : Fin k0_t2_loop.trips)
    (f : BufTy.Contents (Elt Ideal) arg12.view.ty) (h : ∀ a, (k0_off32 k) a + (![1, 1, 8, 128] : Fin 4 → ℕ) a ≤ S24x32x8x128.size a)
    (i2 : Fin 8) (i3 : Fin 128) :
    View.readAt (Elt Ideal) arg12.view (Rect.unit (s := S24x32x8x128) (k0_off32 k) ![1, 1, 8, 128] h).toLoadRect f (ix4 0 0 i2 i3)
      = arg12.view.read (Elt Ideal) f (ix4 (k : Fin 24) (28 : Fin 32) i2 i3) :=
  rd arg12 f _ k.val 28 k.isLt (by decide) (off_28 k) h i2 i3
theorem rd_29 (arg12 : Memref sig .tc .vmem S24x32x8x128 .f32) (k : Fin k0_t2_loop.trips)
    (f : BufTy.Contents (Elt Ideal) arg12.view.ty) (h : ∀ a, (k0_off33 k) a + (![1, 1, 8, 128] : Fin 4 → ℕ) a ≤ S24x32x8x128.size a)
    (i2 : Fin 8) (i3 : Fin 128) :
    View.readAt (Elt Ideal) arg12.view (Rect.unit (s := S24x32x8x128) (k0_off33 k) ![1, 1, 8, 128] h).toLoadRect f (ix4 0 0 i2 i3)
      = arg12.view.read (Elt Ideal) f (ix4 (k : Fin 24) (29 : Fin 32) i2 i3) :=
  rd arg12 f _ k.val 29 k.isLt (by decide) (off_29 k) h i2 i3
theorem rd_30 (arg12 : Memref sig .tc .vmem S24x32x8x128 .f32) (k : Fin k0_t2_loop.trips)
    (f : BufTy.Contents (Elt Ideal) arg12.view.ty) (h : ∀ a, (k0_off34 k) a + (![1, 1, 8, 128] : Fin 4 → ℕ) a ≤ S24x32x8x128.size a)
    (i2 : Fin 8) (i3 : Fin 128) :
    View.readAt (Elt Ideal) arg12.view (Rect.unit (s := S24x32x8x128) (k0_off34 k) ![1, 1, 8, 128] h).toLoadRect f (ix4 0 0 i2 i3)
      = arg12.view.read (Elt Ideal) f (ix4 (k : Fin 24) (30 : Fin 32) i2 i3) :=
  rd arg12 f _ k.val 30 k.isLt (by decide) (off_30 k) h i2 i3
theorem rd_31 (arg12 : Memref sig .tc .vmem S24x32x8x128 .f32) (k : Fin k0_t2_loop.trips)
    (f : BufTy.Contents (Elt Ideal) arg12.view.ty) (h : ∀ a, (k0_off35 k) a + (![1, 1, 8, 128] : Fin 4 → ℕ) a ≤ S24x32x8x128.size a)
    (i2 : Fin 8) (i3 : Fin 128) :
    View.readAt (Elt Ideal) arg12.view (Rect.unit (s := S24x32x8x128) (k0_off35 k) ![1, 1, 8, 128] h).toLoadRect f (ix4 0 0 i2 i3)
      = arg12.view.read (Elt Ideal) f (ix4 (k : Fin 24) (31 : Fin 32) i2 i3) :=
  rd arg12 f _ k.val 31 k.isLt (by decide) (off_31 k) h i2 i3
/-- A sum over 32 places, written out. -/
theorem sum32 (g : Fin 32 → ℝ) : ∑ b, g b = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 + g 31 := by
  simp only [Fin.sum_univ_castSucc]
  simp only [Finset.univ_eq_empty, Finset.sum_empty, zero_add]
  rfl

/-- A statement about 32 places, written out. -/
theorem forall32 (p : Fin 32 → Prop) : (∀ b, p b) ↔ p 0 ∧ p 1 ∧ p 2 ∧ p 3 ∧ p 4 ∧ p 5 ∧ p 6 ∧ p 7 ∧ p 8 ∧ p 9 ∧ p 10 ∧ p 11 ∧ p 12 ∧ p 13 ∧ p 14 ∧ p 15 ∧ p 16 ∧ p 17 ∧ p 18 ∧ p 19 ∧ p 20 ∧ p 21 ∧ p 22 ∧ p 23 ∧ p 24 ∧ p 25 ∧ p 26 ∧ p 27 ∧ p 28 ∧ p 29 ∧ p 30 ∧ p 31 := by
  constructor
  · intro h; exact ⟨h _, h _, h _, h _, h _, h _, h _, h _, h _, h _, h _, h _, h _, h _, h _, h _, h _, h _, h _, h _, h _, h _, h _, h _, h _, h _, h _, h _, h _, h _, h _, h _⟩
  · rintro ⟨h0, h1, h2, h3, h4, h5, h6, h7, h8, h9, h10, h11, h12, h13, h14, h15, h16, h17, h18, h19, h20, h21, h22, h23, h24, h25, h26, h27, h28, h29, h30, h31⟩ b
    fin_cases b <;> assumption

/-- The value at place `q` of the 32-point transform of `x`. -/
def fly (x : Fin 32 → ℝ) (q : ℕ) : ℝ := ∑ b : Fin 32, sg (q &&& b.val) * x b

/-- One step of the butterfly on places `step` apart: their sum and their difference. -/
def stage {α : Type} [Add α] [Sub α] (step : ℕ) (v : ℕ → α) (q : ℕ) : α :=
  if q / step % 2 = 0 then v q + v (q + step) else v (q - step) - v q

/-- The butterfly of 32 extended reals, at place `q`. -/
def flyE (x : Fin 32 → EReal) (q : ℕ) : EReal :=
  stage 16 (stage 8 (stage 4 (stage 2 (stage 1 fun n => x (Fin.ofNat 32 n))))) q

variable (arg12 : Memref sig .tc .vmem S24x32x8x128 .f32) (k : Fin k0_t2_loop.trips)
    (f : BufTy.Contents (Elt Ideal) arg12.view.ty) (i2 : Fin 8) (i3 : Fin 128) (x : Fin 32 → EReal)
    (hx : ∀ b : Fin 32, arg12.view.read (Elt Ideal) f (ix4 (k : Fin 24) b i2 i3) = x b)

set_option maxHeartbeats 8000000 in
include hx in
/-- The values a trip of the loop computes are the butterfly of the 32 entries it reads. -/
theorem fly_all :
    trip_k0_t2.sl.r_69 arg12 k f (ix2 i2 i3) = flyE x 0
      ∧ trip_k0_t2.sl.r_71 arg12 k f (ix2 i2 i3) = flyE x 1
      ∧ trip_k0_t2.sl.r_73 arg12 k f (ix2 i2 i3) = flyE x 2
      ∧ trip_k0_t2.sl.r_75 arg12 k f (ix2 i2 i3) = flyE x 3
      ∧ trip_k0_t2.sl.r_77 arg12 k f (ix2 i2 i3) = flyE x 4
      ∧ trip_k0_t2.sl.r_79 arg12 k f (ix2 i2 i3) = flyE x 5
      ∧ trip_k0_t2.sl.r_81 arg12 k f (ix2 i2 i3) = flyE x 6
      ∧ trip_k0_t2.sl.r_83 arg12 k f (ix2 i2 i3) = flyE x 7
      ∧ trip_k0_t2.sl.r_85 arg12 k f (ix2 i2 i3) = flyE x 8
      ∧ trip_k0_t2.sl.r_87 arg12 k f (ix2 i2 i3) = flyE x 9
      ∧ trip_k0_t2.sl.r_89 arg12 k f (ix2 i2 i3) = flyE x 10
      ∧ trip_k0_t2.sl.r_91 arg12 k f (ix2 i2 i3) = flyE x 11
      ∧ trip_k0_t2.sl.r_93 arg12 k f (ix2 i2 i3) = flyE x 12
      ∧ trip_k0_t2.sl.r_95 arg12 k f (ix2 i2 i3) = flyE x 13
      ∧ trip_k0_t2.sl.r_97 arg12 k f (ix2 i2 i3) = flyE x 14
      ∧ trip_k0_t2.sl.r_99 arg12 k f (ix2 i2 i3) = flyE x 15
      ∧ trip_k0_t2.sl.r_70 arg12 k f (ix2 i2 i3) = flyE x 16
      ∧ trip_k0_t2.sl.r_72 arg12 k f (ix2 i2 i3) = flyE x 17
      ∧ trip_k0_t2.sl.r_74 arg12 k f (ix2 i2 i3) = flyE x 18
      ∧ trip_k0_t2.sl.r_76 arg12 k f (ix2 i2 i3) = flyE x 19
      ∧ trip_k0_t2.sl.r_78 arg12 k f (ix2 i2 i3) = flyE x 20
      ∧ trip_k0_t2.sl.r_80 arg12 k f (ix2 i2 i3) = flyE x 21
      ∧ trip_k0_t2.sl.r_82 arg12 k f (ix2 i2 i3) = flyE x 22
      ∧ trip_k0_t2.sl.r_84 arg12 k f (ix2 i2 i3) = flyE x 23
      ∧ trip_k0_t2.sl.r_86 arg12 k f (ix2 i2 i3) = flyE x 24
      ∧ trip_k0_t2.sl.r_88 arg12 k f (ix2 i2 i3) = flyE x 25
      ∧ trip_k0_t2.sl.r_90 arg12 k f (ix2 i2 i3) = flyE x 26
      ∧ trip_k0_t2.sl.r_92 arg12 k f (ix2 i2 i3) = flyE x 27
      ∧ trip_k0_t2.sl.r_94 arg12 k f (ix2 i2 i3) = flyE x 28
      ∧ trip_k0_t2.sl.r_96 arg12 k f (ix2 i2 i3) = flyE x 29
      ∧ trip_k0_t2.sl.r_98 arg12 k f (ix2 i2 i3) = flyE x 30
      ∧ trip_k0_t2.sl.r_100 arg12 k f (ix2 i2 i3) = flyE x 31 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (sl_unfold_run_names; pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay350, k0_pay352, k0_pay353]; simp only [rd_0, rd_1, rd_2, rd_3, rd_4, rd_5, rd_6, rd_7, rd_8, rd_9, rd_10, rd_11, rd_12, rd_13, rd_14, rd_15, rd_16, rd_17, rd_18, rd_19, rd_20, rd_21, rd_22, rd_23, rd_24, rd_25, rd_26, rd_27, rd_28, rd_29, rd_30, rd_31, hx]; rfl)

include hx

/-- The same, one place at a time. -/
theorem fly_0 : trip_k0_t2.sl.r_69 arg12 k f (ix2 i2 i3) = flyE x 0 := (fly_all arg12 k f i2 i3 x hx).1
theorem fly_1 : trip_k0_t2.sl.r_71 arg12 k f (ix2 i2 i3) = flyE x 1 := (fly_all arg12 k f i2 i3 x hx).2.1
theorem fly_2 : trip_k0_t2.sl.r_73 arg12 k f (ix2 i2 i3) = flyE x 2 := (fly_all arg12 k f i2 i3 x hx).2.2.1
theorem fly_3 : trip_k0_t2.sl.r_75 arg12 k f (ix2 i2 i3) = flyE x 3 := (fly_all arg12 k f i2 i3 x hx).2.2.2.1
theorem fly_4 : trip_k0_t2.sl.r_77 arg12 k f (ix2 i2 i3) = flyE x 4 := (fly_all arg12 k f i2 i3 x hx).2.2.2.2.1
theorem fly_5 : trip_k0_t2.sl.r_79 arg12 k f (ix2 i2 i3) = flyE x 5 := (fly_all arg12 k f i2 i3 x hx).2.2.2.2.2.1
theorem fly_6 : trip_k0_t2.sl.r_81 arg12 k f (ix2 i2 i3) = flyE x 6 := (fly_all arg12 k f i2 i3 x hx).2.2.2.2.2.2.1
theorem fly_7 : trip_k0_t2.sl.r_83 arg12 k f (ix2 i2 i3) = flyE x 7 := (fly_all arg12 k f i2 i3 x hx).2.2.2.2.2.2.2.1
theorem fly_8 : trip_k0_t2.sl.r_85 arg12 k f (ix2 i2 i3) = flyE x 8 := (fly_all arg12 k f i2 i3 x hx).2.2.2.2.2.2.2.2.1
theorem fly_9 : trip_k0_t2.sl.r_87 arg12 k f (ix2 i2 i3) = flyE x 9 := (fly_all arg12 k f i2 i3 x hx).2.2.2.2.2.2.2.2.2.1
theorem fly_10 : trip_k0_t2.sl.r_89 arg12 k f (ix2 i2 i3) = flyE x 10 := (fly_all arg12 k f i2 i3 x hx).2.2.2.2.2.2.2.2.2.2.1
theorem fly_11 : trip_k0_t2.sl.r_91 arg12 k f (ix2 i2 i3) = flyE x 11 := (fly_all arg12 k f i2 i3 x hx).2.2.2.2.2.2.2.2.2.2.2.1
theorem fly_12 : trip_k0_t2.sl.r_93 arg12 k f (ix2 i2 i3) = flyE x 12 := (fly_all arg12 k f i2 i3 x hx).2.2.2.2.2.2.2.2.2.2.2.2.1
theorem fly_13 : trip_k0_t2.sl.r_95 arg12 k f (ix2 i2 i3) = flyE x 13 := (fly_all arg12 k f i2 i3 x hx).2.2.2.2.2.2.2.2.2.2.2.2.2.1
theorem fly_14 : trip_k0_t2.sl.r_97 arg12 k f (ix2 i2 i3) = flyE x 14 := (fly_all arg12 k f i2 i3 x hx).2.2.2.2.2.2.2.2.2.2.2.2.2.2.1
theorem fly_15 : trip_k0_t2.sl.r_99 arg12 k f (ix2 i2 i3) = flyE x 15 := (fly_all arg12 k f i2 i3 x hx).2.2.2.2.2.2.2.2.2.2.2.2.2.2.2.1
theorem fly_16 : trip_k0_t2.sl.r_70 arg12 k f (ix2 i2 i3) = flyE x 16 := (fly_all arg12 k f i2 i3 x hx).2.2.2.2.2.2.2.2.2.2.2.2.2.2.2.2.1
theorem fly_17 : trip_k0_t2.sl.r_72 arg12 k f (ix2 i2 i3) = flyE x 17 := (fly_all arg12 k f i2 i3 x hx).2.2.2.2.2.2.2.2.2.2.2.2.2.2.2.2.2.1
theorem fly_18 : trip_k0_t2.sl.r_74 arg12 k f (ix2 i2 i3) = flyE x 18 := (fly_all arg12 k f i2 i3 x hx).2.2.2.2.2.2.2.2.2.2.2.2.2.2.2.2.2.2.1
theorem fly_19 : trip_k0_t2.sl.r_76 arg12 k f (ix2 i2 i3) = flyE x 19 := (fly_all arg12 k f i2 i3 x hx).2.2.2.2.2.2.2.2.2.2.2.2.2.2.2.2.2.2.2.1
theorem fly_20 : trip_k0_t2.sl.r_78 arg12 k f (ix2 i2 i3) = flyE x 20 := (fly_all arg12 k f i2 i3 x hx).2.2.2.2.2.2.2.2.2.2.2.2.2.2.2.2.2.2.2.2.1
theorem fly_21 : trip_k0_t2.sl.r_80 arg12 k f (ix2 i2 i3) = flyE x 21 := (fly_all arg12 k f i2 i3 x hx).2.2.2.2.2.2.2.2.2.2.2.2.2.2.2.2.2.2.2.2.2.1
theorem fly_22 : trip_k0_t2.sl.r_82 arg12 k f (ix2 i2 i3) = flyE x 22 := (fly_all arg12 k f i2 i3 x hx).2.2.2.2.2.2.2.2.2.2.2.2.2.2.2.2.2.2.2.2.2.2.1
theorem fly_23 : trip_k0_t2.sl.r_84 arg12 k f (ix2 i2 i3) = flyE x 23 := (fly_all arg12 k f i2 i3 x hx).2.2.2.2.2.2.2.2.2.2.2.2.2.2.2.2.2.2.2.2.2.2.2.1
theorem fly_24 : trip_k0_t2.sl.r_86 arg12 k f (ix2 i2 i3) = flyE x 24 := (fly_all arg12 k f i2 i3 x hx).2.2.2.2.2.2.2.2.2.2.2.2.2.2.2.2.2.2.2.2.2.2.2.2.1
theorem fly_25 : trip_k0_t2.sl.r_88 arg12 k f (ix2 i2 i3) = flyE x 25 := (fly_all arg12 k f i2 i3 x hx).2.2.2.2.2.2.2.2.2.2.2.2.2.2.2.2.2.2.2.2.2.2.2.2.2.1
theorem fly_26 : trip_k0_t2.sl.r_90 arg12 k f (ix2 i2 i3) = flyE x 26 := (fly_all arg12 k f i2 i3 x hx).2.2.2.2.2.2.2.2.2.2.2.2.2.2.2.2.2.2.2.2.2.2.2.2.2.2.1
theorem fly_27 : trip_k0_t2.sl.r_92 arg12 k f (ix2 i2 i3) = flyE x 27 := (fly_all arg12 k f i2 i3 x hx).2.2.2.2.2.2.2.2.2.2.2.2.2.2.2.2.2.2.2.2.2.2.2.2.2.2.2.1
theorem fly_28 : trip_k0_t2.sl.r_94 arg12 k f (ix2 i2 i3) = flyE x 28 := (fly_all arg12 k f i2 i3 x hx).2.2.2.2.2.2.2.2.2.2.2.2.2.2.2.2.2.2.2.2.2.2.2.2.2.2.2.2.1
theorem fly_29 : trip_k0_t2.sl.r_96 arg12 k f (ix2 i2 i3) = flyE x 29 := (fly_all arg12 k f i2 i3 x hx).2.2.2.2.2.2.2.2.2.2.2.2.2.2.2.2.2.2.2.2.2.2.2.2.2.2.2.2.2.1
theorem fly_30 : trip_k0_t2.sl.r_98 arg12 k f (ix2 i2 i3) = flyE x 30 := (fly_all arg12 k f i2 i3 x hx).2.2.2.2.2.2.2.2.2.2.2.2.2.2.2.2.2.2.2.2.2.2.2.2.2.2.2.2.2.2.1
theorem fly_31 : trip_k0_t2.sl.r_100 arg12 k f (ix2 i2 i3) = flyE x 31 := (fly_all arg12 k f i2 i3 x hx).2.2.2.2.2.2.2.2.2.2.2.2.2.2.2.2.2.2.2.2.2.2.2.2.2.2.2.2.2.2.2

end Cert.KernelIdeal.Own
-- ==== Proof.Loop2.lean ====
module

public import proofs.«01_k».proof.Proof.Gen.KernelIdeal.Loops
public import proofs.«01_k».proof.Proof.Fly
public import Idealize.ShloMosaic.Lib.Pipeline.ReadBack
public import Idealize.ShloMosaic.Lib.Pointwise

@[expose] public section
set_option maxRecDepth 16384
set_option maxHeartbeats 1000000
noncomputable section
namespace Cert.KernelIdeal.Own
open Cert.KernelIdeal Cert.KernelIdeal.Gen Cert.Own Idealize.ShloMosaic Idealize.ShloMosaic.TcCoe

/-- What trip `k` stores at block `q` of row `k` is a block of the transformed row. -/
theorem pc (k : Fin 24) (q : Fin 32) (off : Fin 4 → ℕ) (ho : off = ![k.val, q.val, 0, 0])
    (h : ∀ a, off a + (![1, 1, 8, 128] : Fin 4 → ℕ) a ≤ S24x32x8x128.size a)
    (w : S1x1x8x128.Idx → EReal) (v : S8x128.Idx → EReal) (x : Fin 32 → Fin 8 → Fin 128 → EReal)
    (hw : ∀ i2 i3, w (ix4 0 0 i2 i3) = v (ix2 i2 i3))
    (hv : ∀ i2 i3, v (ix2 i2 i3) = flyE (fun b => x b i2 i3) q.val)
    (y : S1x1x8x128.Idx) :
    w y = (fun z : S24x32x8x128.Idx => flyE (fun b => x b (z 2) (z 3)) (z 1).val)
      ((Rect.unit (s := S24x32x8x128) off ![1, 1, 8, 128] h).emb y) := by
  subst ho
  obtain ⟨i2, i3, rfl⟩ : ∃ (i2 : Fin 8) (i3 : Fin 128), y = ix4 0 0 i2 i3 :=
    ⟨y 2, y 3, (eq_ix4 y).trans (by
      have h0 : y 0 = (0 : Fin 1) := Subsingleton.elim (α := Fin 1) _ _
      have h1 : y 1 = (0 : Fin 1) := Subsingleton.elim (α := Fin 1) _ _
      rw [h0, h1])⟩
  rw [hw, hv]
  have e : (Rect.unit (s := S24x32x8x128) ![k.val, q.val, 0, 0] ![1, 1, 8, 128] h).emb (ix4 0 0 i2 i3)
      = ix4 k q i2 i3 := by
    refine funext fun a => Fin.ext ?_
    match a with
    | ⟨0, _⟩ => exact (Nat.add_zero k.val)
    | ⟨1, _⟩ => exact (Nat.add_zero q.val)
    | ⟨2, _⟩ => exact (Nat.zero_add _).trans (Nat.one_mul _)
    | ⟨3, _⟩ => exact (Nat.zero_add _).trans (Nat.one_mul _)
  rw [e]
  rfl

/-- The 32 stored values are the 32 results of the butterfly. -/
theorem pay_0 (arg12 : Memref sig .tc .vmem S24x32x8x128 .f32) (k : Fin k0_t2_loop.trips)
    (f : BufTy.Contents (Elt Ideal) arg12.view.ty) (i2 : Fin 8) (i3 : Fin 128) :
    (trip_k0_t2.sl.r_101 arg12 k f) (ix4 0 0 i2 i3) = (trip_k0_t2.sl.r_69 arg12 k f) (ix2 i2 i3) := by
  unfold trip_k0_t2.sl.r_101
  unfold trip_k0_t2.sl.r_69
  pointwise [k0_pay197]
theorem pay_1 (arg12 : Memref sig .tc .vmem S24x32x8x128 .f32) (k : Fin k0_t2_loop.trips)
    (f : BufTy.Contents (Elt Ideal) arg12.view.ty) (i2 : Fin 8) (i3 : Fin 128) :
    (k0_pay198 (trip_k0_t2.sl.r_71 arg12 k f)) (ix4 0 0 i2 i3) = (trip_k0_t2.sl.r_71 arg12 k f) (ix2 i2 i3) := by
  pointwise [k0_pay198]
theorem pay_2 (arg12 : Memref sig .tc .vmem S24x32x8x128 .f32) (k : Fin k0_t2_loop.trips)
    (f : BufTy.Contents (Elt Ideal) arg12.view.ty) (i2 : Fin 8) (i3 : Fin 128) :
    (k0_pay199 (trip_k0_t2.sl.r_73 arg12 k f)) (ix4 0 0 i2 i3) = (trip_k0_t2.sl.r_73 arg12 k f) (ix2 i2 i3) := by
  pointwise [k0_pay199]
theorem pay_3 (arg12 : Memref sig .tc .vmem S24x32x8x128 .f32) (k : Fin k0_t2_loop.trips)
    (f : BufTy.Contents (Elt Ideal) arg12.view.ty) (i2 : Fin 8) (i3 : Fin 128) :
    (k0_pay200 (trip_k0_t2.sl.r_75 arg12 k f)) (ix4 0 0 i2 i3) = (trip_k0_t2.sl.r_75 arg12 k f) (ix2 i2 i3) := by
  pointwise [k0_pay200]
theorem pay_4 (arg12 : Memref sig .tc .vmem S24x32x8x128 .f32) (k : Fin k0_t2_loop.trips)
    (f : BufTy.Contents (Elt Ideal) arg12.view.ty) (i2 : Fin 8) (i3 : Fin 128) :
    (k0_pay201 (trip_k0_t2.sl.r_77 arg12 k f)) (ix4 0 0 i2 i3) = (trip_k0_t2.sl.r_77 arg12 k f) (ix2 i2 i3) := by
  pointwise [k0_pay201]
theorem pay_5 (arg12 : Memref sig .tc .vmem S24x32x8x128 .f32) (k : Fin k0_t2_loop.trips)
    (f : BufTy.Contents (Elt Ideal) arg12.view.ty) (i2 : Fin 8) (i3 : Fin 128) :
    (k0_pay202 (trip_k0_t2.sl.r_79 arg12 k f)) (ix4 0 0 i2 i3) = (trip_k0_t2.sl.r_79 arg12 k f) (ix2 i2 i3) := by
  pointwise [k0_pay202]
theorem pay_6 (arg12 : Memref sig .tc .vmem S24x32x8x128 .f32) (k : Fin k0_t2_loop.trips)
    (f : BufTy.Contents (Elt Ideal) arg12.view.ty) (i2 : Fin 8) (i3 : Fin 128) :
    (trip_k0_t2.sl.r_103 arg12 k f) (ix4 0 0 i2 i3) = (trip_k0_t2.sl.r_81 arg12 k f) (ix2 i2 i3) := by
  unfold trip_k0_t2.sl.r_103
  pointwise [k0_pay204]
theorem pay_7 (arg12 : Memref sig .tc .vmem S24x32x8x128 .f32) (k : Fin k0_t2_loop.trips)
    (f : BufTy.Contents (Elt Ideal) arg12.view.ty) (i2 : Fin 8) (i3 : Fin 128) :
    (k0_pay205 (trip_k0_t2.sl.r_83 arg12 k f)) (ix4 0 0 i2 i3) = (trip_k0_t2.sl.r_83 arg12 k f) (ix2 i2 i3) := by
  pointwise [k0_pay205]
theorem pay_8 (arg12 : Memref sig .tc .vmem S24x32x8x128 .f32) (k : Fin k0_t2_loop.trips)
    (f : BufTy.Contents (Elt Ideal) arg12.view.ty) (i2 : Fin 8) (i3 : Fin 128) :
    (k0_pay206 (trip_k0_t2.sl.r_85 arg12 k f)) (ix4 0 0 i2 i3) = (trip_k0_t2.sl.r_85 arg12 k f) (ix2 i2 i3) := by
  pointwise [k0_pay206]
theorem pay_9 (arg12 : Memref sig .tc .vmem S24x32x8x128 .f32) (k : Fin k0_t2_loop.trips)
    (f : BufTy.Contents (Elt Ideal) arg12.view.ty) (i2 : Fin 8) (i3 : Fin 128) :
    (k0_pay207 (trip_k0_t2.sl.r_87 arg12 k f)) (ix4 0 0 i2 i3) = (trip_k0_t2.sl.r_87 arg12 k f) (ix2 i2 i3) := by
  pointwise [k0_pay207]
theorem pay_10 (arg12 : Memref sig .tc .vmem S24x32x8x128 .f32) (k : Fin k0_t2_loop.trips)
    (f : BufTy.Contents (Elt Ideal) arg12.view.ty) (i2 : Fin 8) (i3 : Fin 128) :
    (k0_pay208 (trip_k0_t2.sl.r_89 arg12 k f)) (ix4 0 0 i2 i3) = (trip_k0_t2.sl.r_89 arg12 k f) (ix2 i2 i3) := by
  pointwise [k0_pay208]
theorem pay_11 (arg12 : Memref sig .tc .vmem S24x32x8x128 .f32) (k : Fin k0_t2_loop.trips)
    (f : BufTy.Contents (Elt Ideal) arg12.view.ty) (i2 : Fin 8) (i3 : Fin 128) :
    (k0_pay209 (trip_k0_t2.sl.r_91 arg12 k f)) (ix4 0 0 i2 i3) = (trip_k0_t2.sl.r_91 arg12 k f) (ix2 i2 i3) := by
  pointwise [k0_pay209]
theorem pay_12 (arg12 : Memref sig .tc .vmem S24x32x8x128 .f32) (k : Fin k0_t2_loop.trips)
    (f : BufTy.Contents (Elt Ideal) arg12.view.ty) (i2 : Fin 8) (i3 : Fin 128) :
    (trip_k0_t2.sl.r_105 arg12 k f) (ix4 0 0 i2 i3) = (trip_k0_t2.sl.r_93 arg12 k f) (ix2 i2 i3) := by
  unfold trip_k0_t2.sl.r_105
  pointwise [k0_pay211]
theorem pay_13 (arg12 : Memref sig .tc .vmem S24x32x8x128 .f32) (k : Fin k0_t2_loop.trips)
    (f : BufTy.Contents (Elt Ideal) arg12.view.ty) (i2 : Fin 8) (i3 : Fin 128) :
    (k0_pay212 (trip_k0_t2.sl.r_95 arg12 k f)) (ix4 0 0 i2 i3) = (trip_k0_t2.sl.r_95 arg12 k f) (ix2 i2 i3) := by
  pointwise [k0_pay212]
theorem pay_14 (arg12 : Memref sig .tc .vmem S24x32x8x128 .f32) (k : Fin k0_t2_loop.trips)
    (f : BufTy.Contents (Elt Ideal) arg12.view.ty) (i2 : Fin 8) (i3 : Fin 128) :
    (k0_pay213 (trip_k0_t2.sl.r_97 arg12 k f)) (ix4 0 0 i2 i3) = (trip_k0_t2.sl.r_97 arg12 k f) (ix2 i2 i3) := by
  pointwise [k0_pay213]
theorem pay_15 (arg12 : Memref sig .tc .vmem S24x32x8x128 .f32) (k : Fin k0_t2_loop.trips)
    (f : BufTy.Contents (Elt Ideal) arg12.view.ty) (i2 : Fin 8) (i3 : Fin 128) :
    (k0_pay214 (trip_k0_t2.sl.r_99 arg12 k f)) (ix4 0 0 i2 i3) = (trip_k0_t2.sl.r_99 arg12 k f) (ix2 i2 i3) := by
  pointwise [k0_pay214]
theorem pay_16 (arg12 : Memref sig .tc .vmem S24x32x8x128 .f32) (k : Fin k0_t2_loop.trips)
    (f : BufTy.Contents (Elt Ideal) arg12.view.ty) (i2 : Fin 8) (i3 : Fin 128) :
    (k0_pay215 (trip_k0_t2.sl.r_70 arg12 k f)) (ix4 0 0 i2 i3) = (trip_k0_t2.sl.r_70 arg12 k f) (ix2 i2 i3) := by
  pointwise [k0_pay215]
theorem pay_17 (arg12 : Memref sig .tc .vmem S24x32x8x128 .f32) (k : Fin k0_t2_loop.trips)
    (f : BufTy.Contents (Elt Ideal) arg12.view.ty) (i2 : Fin 8) (i3 : Fin 128) :
    (k0_pay216 (trip_k0_t2.sl.r_72 arg12 k f)) (ix4 0 0 i2 i3) = (trip_k0_t2.sl.r_72 arg12 k f) (ix2 i2 i3) := by
  pointwise [k0_pay216]
theorem pay_18 (arg12 : Memref sig .tc .vmem S24x32x8x128 .f32) (k : Fin k0_t2_loop.trips)
    (f : BufTy.Contents (Elt Ideal) arg12.view.ty) (i2 : Fin 8) (i3 : Fin 128) :
    (trip_k0_t2.sl.r_107 arg12 k f) (ix4 0 0 i2 i3) = (trip_k0_t2.sl.r_74 arg12 k f) (ix2 i2 i3) := by
  unfold trip_k0_t2.sl.r_107
  pointwise [k0_pay218]
theorem pay_19 (arg12 : Memref sig .tc .vmem S24x32x8x128 .f32) (k : Fin k0_t2_loop.trips)
    (f : BufTy.Contents (Elt Ideal) arg12.view.ty) (i2 : Fin 8) (i3 : Fin 128) :
    (k0_pay219 (trip_k0_t2.sl.r_76 arg12 k f)) (ix4 0 0 i2 i3) = (trip_k0_t2.sl.r_76 arg12 k f) (ix2 i2 i3) := by
  pointwise [k0_pay219]
theorem pay_20 (arg12 : Memref sig .tc .vmem S24x32x8x128 .f32) (k : Fin k0_t2_loop.trips)
    (f : BufTy.Contents (Elt Ideal) arg12.view.ty) (i2 : Fin 8) (i3 : Fin 128) :
    (k0_pay220 (trip_k0_t2.sl.r_78 arg12 k f)) (ix4 0 0 i2 i3) = (trip_k0_t2.sl.r_78 arg12 k f) (ix2 i2 i3) := by
  pointwise [k0_pay220]
theorem pay_21 (arg12 : Memref sig .tc .vmem S24x32x8x128 .f32) (k : Fin k0_t2_loop.trips)
    (f : BufTy.Contents (Elt Ideal) arg12.view.ty) (i2 : Fin 8) (i3 : Fin 128) :
    (k0_pay221 (trip_k0_t2.sl.r_80 arg12 k f)) (ix4 0 0 i2 i3) = (trip_k0_t2.sl.r_80 arg12 k f) (ix2 i2 i3) := by
  pointwise [k0_pay221]
theorem pay_22 (arg12 : Memref sig .tc .vmem S24x32x8x128 .f32) (k : Fin k0_t2_loop.trips)
    (f : BufTy.Contents (Elt Ideal) arg12.view.ty) (i2 : Fin 8) (i3 : Fin 128) :
    (k0_pay222 (trip_k0_t2.sl.r_82 arg12 k f)) (ix4 0 0 i2 i3) = (trip_k0_t2.sl.r_82 arg12 k f) (ix2 i2 i3) := by
  pointwise [k0_pay222]
theorem pay_23 (arg12 : Memref sig .tc .vmem S24x32x8x128 .f32) (k : Fin k0_t2_loop.trips)
    (f : BufTy.Contents (Elt Ideal) arg12.view.ty) (i2 : Fin 8) (i3 : Fin 128) :
    (k0_pay223 (trip_k0_t2.sl.r_84 arg12 k f)) (ix4 0 0 i2 i3) = (trip_k0_t2.sl.r_84 arg12 k f) (ix2 i2 i3) := by
  pointwise [k0_pay223]
theorem pay_24 (arg12 : Memref sig .tc .vmem S24x32x8x128 .f32) (k : Fin k0_t2_loop.trips)
    (f : BufTy.Contents (Elt Ideal) arg12.view.ty) (i2 : Fin 8) (i3 : Fin 128) :
    (trip_k0_t2.sl.r_109 arg12 k f) (ix4 0 0 i2 i3) = (trip_k0_t2.sl.r_86 arg12 k f) (ix2 i2 i3) := by
  unfold trip_k0_t2.sl.r_109
  pointwise [k0_pay225]
theorem pay_25 (arg12 : Memref sig .tc .vmem S24x32x8x128 .f32) (k : Fin k0_t2_loop.trips)
    (f : BufTy.Contents (Elt Ideal) arg12.view.ty) (i2 : Fin 8) (i3 : Fin 128) :
    (k0_pay226 (trip_k0_t2.sl.r_88 arg12 k f)) (ix4 0 0 i2 i3) = (trip_k0_t2.sl.r_88 arg12 k f) (ix2 i2 i3) := by
  pointwise [k0_pay226]
theorem pay_26 (arg12 : Memref sig .tc .vmem S24x32x8x128 .f32) (k : Fin k0_t2_loop.trips)
    (f : BufTy.Contents (Elt Ideal) arg12.view.ty) (i2 : Fin 8) (i3 : Fin 128) :
    (k0_pay227 (trip_k0_t2.sl.r_90 arg12 k f)) (ix4 0 0 i2 i3) = (trip_k0_t2.sl.r_90 arg12 k f) (ix2 i2 i3) := by
  pointwise [k0_pay227]
theorem pay_27 (arg12 : Memref sig .tc .vmem S24x32x8x128 .f32) (k : Fin k0_t2_loop.trips)
    (f : BufTy.Contents (Elt Ideal) arg12.view.ty) (i2 : Fin 8) (i3 : Fin 128) :
    (k0_pay228 (trip_k0_t2.sl.r_92 arg12 k f)) (ix4 0 0 i2 i3) = (trip_k0_t2.sl.r_92 arg12 k f) (ix2 i2 i3) := by
  pointwise [k0_pay228]
theorem pay_28 (arg12 : Memref sig .tc .vmem S24x32x8x128 .f32) (k : Fin k0_t2_loop.trips)
    (f : BufTy.Contents (Elt Ideal) arg12.view.ty) (i2 : Fin 8) (i3 : Fin 128) :
    (k0_pay229 (trip_k0_t2.sl.r_94 arg12 k f)) (ix4 0 0 i2 i3) = (trip_k0_t2.sl.r_94 arg12 k f) (ix2 i2 i3) := by
  pointwise [k0_pay229]
theorem pay_29 (arg12 : Memref sig .tc .vmem S24x32x8x128 .f32) (k : Fin k0_t2_loop.trips)
    (f : BufTy.Contents (Elt Ideal) arg12.view.ty) (i2 : Fin 8) (i3 : Fin 128) :
    (k0_pay230 (trip_k0_t2.sl.r_96 arg12 k f)) (ix4 0 0 i2 i3) = (trip_k0_t2.sl.r_96 arg12 k f) (ix2 i2 i3) := by
  pointwise [k0_pay230]
theorem pay_30 (arg12 : Memref sig .tc .vmem S24x32x8x128 .f32) (k : Fin k0_t2_loop.trips)
    (f : BufTy.Contents (Elt Ideal) arg12.view.ty) (i2 : Fin 8) (i3 : Fin 128) :
    (trip_k0_t2.sl.r_111 arg12 k f) (ix4 0 0 i2 i3) = (trip_k0_t2.sl.r_98 arg12 k f) (ix2 i2 i3) := by
  unfold trip_k0_t2.sl.r_111
  pointwise [k0_pay232]
theorem pay_31 (arg12 : Memref sig .tc .vmem S24x32x8x128 .f32) (k : Fin k0_t2_loop.trips)
    (f : BufTy.Contents (Elt Ideal) arg12.view.ty) (i2 : Fin 8) (i3 : Fin 128) :
    (k0_pay352 (trip_k0_t2.sl.r_100 arg12 k f)) (ix4 0 0 i2 i3) = (trip_k0_t2.sl.r_100 arg12 k f) (ix2 i2 i3) := by
  pointwise [k0_pay352]

set_option maxRecDepth 100000 in
/-- The stores of a trip are blocks of the transformed row. -/
theorem trip_pieces (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (k : Fin k0_t2_loop.trips) (acc : FVec Ideal S8x128 .f32)
    (f : BufTy.Contents (Elt Ideal) arg12.view.ty) (x : Fin 32 → Fin 8 → Fin 128 → EReal)
    (hx : ∀ b s t, arg12.view.read (Elt Ideal) f (ix4 (k : Fin 24) b s t) = x b s t) :
    View.PiecesOf (fun z : S24x32x8x128.Idx => flyE (fun b => x b (z 2) (z 3)) (z 1).val)
      (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 k acc f) := by
  unfold tripL_k0_t2 trip_k0_t2
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact pc k 31 _ (off_31 k) (k0_off35_inb k) _ _ x (pay_31 arg12 k f) (fun s t => fly_31 arg12 k f s t _ (fun b => hx b s t))
  · exact pc k 30 _ (off_30 k) (k0_off34_inb k) _ _ x (pay_30 arg12 k f) (fun s t => fly_30 arg12 k f s t _ (fun b => hx b s t))
  · exact pc k 29 _ (off_29 k) (k0_off33_inb k) _ _ x (pay_29 arg12 k f) (fun s t => fly_29 arg12 k f s t _ (fun b => hx b s t))
  · exact pc k 28 _ (off_28 k) (k0_off32_inb k) _ _ x (pay_28 arg12 k f) (fun s t => fly_28 arg12 k f s t _ (fun b => hx b s t))
  · exact pc k 27 _ (off_27 k) (k0_off31_inb k) _ _ x (pay_27 arg12 k f) (fun s t => fly_27 arg12 k f s t _ (fun b => hx b s t))
  · exact pc k 26 _ (off_26 k) (k0_off30_inb k) _ _ x (pay_26 arg12 k f) (fun s t => fly_26 arg12 k f s t _ (fun b => hx b s t))
  · exact pc k 25 _ (off_25 k) (k0_off29_inb k) _ _ x (pay_25 arg12 k f) (fun s t => fly_25 arg12 k f s t _ (fun b => hx b s t))
  · exact pc k 24 _ (off_24 k) (k0_off28_inb k) _ _ x (pay_24 arg12 k f) (fun s t => fly_24 arg12 k f s t _ (fun b => hx b s t))
  · exact pc k 23 _ (off_23 k) (k0_off27_inb k) _ _ x (pay_23 arg12 k f) (fun s t => fly_23 arg12 k f s t _ (fun b => hx b s t))
  · exact pc k 22 _ (off_22 k) (k0_off26_inb k) _ _ x (pay_22 arg12 k f) (fun s t => fly_22 arg12 k f s t _ (fun b => hx b s t))
  · exact pc k 21 _ (off_21 k) (k0_off25_inb k) _ _ x (pay_21 arg12 k f) (fun s t => fly_21 arg12 k f s t _ (fun b => hx b s t))
  · exact pc k 20 _ (off_20 k) (k0_off24_inb k) _ _ x (pay_20 arg12 k f) (fun s t => fly_20 arg12 k f s t _ (fun b => hx b s t))
  · exact pc k 19 _ (off_19 k) (k0_off23_inb k) _ _ x (pay_19 arg12 k f) (fun s t => fly_19 arg12 k f s t _ (fun b => hx b s t))
  · exact pc k 18 _ (off_18 k) (k0_off22_inb k) _ _ x (pay_18 arg12 k f) (fun s t => fly_18 arg12 k f s t _ (fun b => hx b s t))
  · exact pc k 17 _ (off_17 k) (k0_off21_inb k) _ _ x (pay_17 arg12 k f) (fun s t => fly_17 arg12 k f s t _ (fun b => hx b s t))
  · exact pc k 16 _ (off_16 k) (k0_off20_inb k) _ _ x (pay_16 arg12 k f) (fun s t => fly_16 arg12 k f s t _ (fun b => hx b s t))
  · exact pc k 15 _ (off_15 k) (k0_off19_inb k) _ _ x (pay_15 arg12 k f) (fun s t => fly_15 arg12 k f s t _ (fun b => hx b s t))
  · exact pc k 14 _ (off_14 k) (k0_off18_inb k) _ _ x (pay_14 arg12 k f) (fun s t => fly_14 arg12 k f s t _ (fun b => hx b s t))
  · exact pc k 13 _ (off_13 k) (k0_off17_inb k) _ _ x (pay_13 arg12 k f) (fun s t => fly_13 arg12 k f s t _ (fun b => hx b s t))
  · exact pc k 12 _ (off_12 k) (k0_off16_inb k) _ _ x (pay_12 arg12 k f) (fun s t => fly_12 arg12 k f s t _ (fun b => hx b s t))
  · exact pc k 11 _ (off_11 k) (k0_off15_inb k) _ _ x (pay_11 arg12 k f) (fun s t => fly_11 arg12 k f s t _ (fun b => hx b s t))
  · exact pc k 10 _ (off_10 k) (k0_off14_inb k) _ _ x (pay_10 arg12 k f) (fun s t => fly_10 arg12 k f s t _ (fun b => hx b s t))
  · exact pc k 9 _ (off_9 k) (k0_off13_inb k) _ _ x (pay_9 arg12 k f) (fun s t => fly_9 arg12 k f s t _ (fun b => hx b s t))
  · exact pc k 8 _ (off_8 k) (k0_off12_inb k) _ _ x (pay_8 arg12 k f) (fun s t => fly_8 arg12 k f s t _ (fun b => hx b s t))
  · exact pc k 7 _ (off_7 k) (k0_off11_inb k) _ _ x (pay_7 arg12 k f) (fun s t => fly_7 arg12 k f s t _ (fun b => hx b s t))
  · exact pc k 6 _ (off_6 k) (k0_off10_inb k) _ _ x (pay_6 arg12 k f) (fun s t => fly_6 arg12 k f s t _ (fun b => hx b s t))
  · exact pc k 5 _ (off_5 k) (k0_off9_inb k) _ _ x (pay_5 arg12 k f) (fun s t => fly_5 arg12 k f s t _ (fun b => hx b s t))
  · exact pc k 4 _ (off_4 k) (k0_off8_inb k) _ _ x (pay_4 arg12 k f) (fun s t => fly_4 arg12 k f s t _ (fun b => hx b s t))
  · exact pc k 3 _ (off_3 k) (k0_off7_inb k) _ _ x (pay_3 arg12 k f) (fun s t => fly_3 arg12 k f s t _ (fun b => hx b s t))
  · exact pc k 2 _ (off_2 k) (k0_off6_inb k) _ _ x (pay_2 arg12 k f) (fun s t => fly_2 arg12 k f s t _ (fun b => hx b s t))
  · exact pc k 1 _ (off_1 k) (k0_off5_inb k) _ _ x (pay_1 arg12 k f) (fun s t => fly_1 arg12 k f s t _ (fun b => hx b s t))
  · exact pc k 0 _ (off_0 k) (k0_off4_inb k) _ _ x (pay_0 arg12 k f) (fun s t => fly_0 arg12 k f s t _ (fun b => hx b s t))

/-- A place of block `q` of row `k` lies in the store there. -/
theorem in_row (k : Fin 24) (q : Fin 32) (s : Fin 8) (t : Fin 128) (off : Fin 4 → ℕ) (ho : off = ![k.val, q.val, 0, 0])
    (h : ∀ a, off a + (![1, 1, 8, 128] : Fin 4 → ℕ) a ≤ S24x32x8x128.size a) :
    (ix4 k q s t : S24x32x8x128.Idx) ∈ (Rect.unit (s := S24x32x8x128) off ![1, 1, 8, 128] h).set := by
  subst ho
  rw [Rect.mem_set_unit]
  intro a
  match a with
  | ⟨0, _⟩ => exact ⟨le_refl k.val, Nat.lt_succ_self k.val⟩
  | ⟨1, _⟩ => exact ⟨le_refl q.val, Nat.lt_succ_self q.val⟩
  | ⟨2, _⟩ => exact ⟨Nat.zero_le _, by have := s.isLt; exact lt_of_lt_of_eq this rfl⟩
  | ⟨3, _⟩ => exact ⟨Nat.zero_le _, by have := t.isLt; exact lt_of_lt_of_eq this rfl⟩

/-- A place of another row does not. -/
theorem out_row (k : Fin 24) (p : Fin 32) (j : Fin 24) (hj : j.val ≠ k.val) (q : Fin 32) (s : Fin 8) (t : Fin 128)
    (off : Fin 4 → ℕ) (ho : off = ![k.val, p.val, 0, 0])
    (h : ∀ a, off a + (![1, 1, 8, 128] : Fin 4 → ℕ) a ≤ S24x32x8x128.size a) :
    (ix4 j q s t : S24x32x8x128.Idx) ∉ (Rect.unit (s := S24x32x8x128) off ![1, 1, 8, 128] h).set := by
  subst ho
  rw [Rect.mem_set_unit]
  intro hm
  have h0 := hm 0
  have h1 : k.val ≤ j.val := h0.1
  have h2 : j.val < k.val + 1 := h0.2
  omega

set_option maxRecDepth 100000 in
/-- Every place of row `k` is stored by trip `k`. -/
theorem trip_covers (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (k : Fin k0_t2_loop.trips) (acc : FVec Ideal S8x128 .f32)
    (f : BufTy.Contents (Elt Ideal) arg12.view.ty) (q : Fin 32) (s : Fin 8) (t : Fin 128) :
    ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 k acc f, (ix4 (k : Fin 24) q s t : S24x32x8x128.Idx) ∈ p.1.set := by
  unfold tripL_k0_t2 trip_k0_t2
  dsimp only
  revert q
  rw [forall32]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), in_row k 0 s t _ (off_0 k) (k0_off4_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), in_row k 1 s t _ (off_1 k) (k0_off5_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), in_row k 2 s t _ (off_2 k) (k0_off6_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), in_row k 3 s t _ (off_3 k) (k0_off7_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), in_row k 4 s t _ (off_4 k) (k0_off8_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), in_row k 5 s t _ (off_5 k) (k0_off9_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), in_row k 6 s t _ (off_6 k) (k0_off10_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), in_row k 7 s t _ (off_7 k) (k0_off11_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), in_row k 8 s t _ (off_8 k) (k0_off12_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), in_row k 9 s t _ (off_9 k) (k0_off13_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), in_row k 10 s t _ (off_10 k) (k0_off14_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), in_row k 11 s t _ (off_11 k) (k0_off15_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), in_row k 12 s t _ (off_12 k) (k0_off16_inb k)⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), in_row k 13 s t _ (off_13 k) (k0_off17_inb k)⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), in_row k 14 s t _ (off_14 k) (k0_off18_inb k)⟩
  · exact ⟨_, .tail _ (.tail _ (.tail _ (.tail _ (.tail _ (.tail _ (.tail _ (.tail _ (.tail _ (.tail _ (.tail _ (.tail _ (.tail _ (.tail _ (.tail _ (.tail _ (.head _)))))))))))))))), in_row k 15 s t _ (off_15 k) (k0_off19_inb k)⟩
  · exact ⟨_, .tail _ (.tail _ (.tail _ (.tail _ (.tail _ (.tail _ (.tail _ (.tail _ (.tail _ (.tail _ (.tail _ (.tail _ (.tail _ (.tail _ (.tail _ (.head _))))))))))))))), in_row k 16 s t _ (off_16 k) (k0_off20_inb k)⟩
  · exact ⟨_, .tail _ (.tail _ (.tail _ (.tail _ (.tail _ (.tail _ (.tail _ (.tail _ (.tail _ (.tail _ (.tail _ (.tail _ (.tail _ (.tail _ (.head _)))))))))))))), in_row k 17 s t _ (off_17 k) (k0_off21_inb k)⟩
  · exact ⟨_, .tail _ (.tail _ (.tail _ (.tail _ (.tail _ (.tail _ (.tail _ (.tail _ (.tail _ (.tail _ (.tail _ (.tail _ (.tail _ (.head _))))))))))))), in_row k 18 s t _ (off_18 k) (k0_off22_inb k)⟩
  · exact ⟨_, .tail _ (.tail _ (.tail _ (.tail _ (.tail _ (.tail _ (.tail _ (.tail _ (.tail _ (.tail _ (.tail _ (.tail _ (.head _)))))))))))), in_row k 19 s t _ (off_19 k) (k0_off23_inb k)⟩
  · exact ⟨_, .tail _ (.tail _ (.tail _ (.tail _ (.tail _ (.tail _ (.tail _ (.tail _ (.tail _ (.tail _ (.tail _ (.head _))))))))))), in_row k 20 s t _ (off_20 k) (k0_off24_inb k)⟩
  · exact ⟨_, .tail _ (.tail _ (.tail _ (.tail _ (.tail _ (.tail _ (.tail _ (.tail _ (.tail _ (.tail _ (.head _)))))))))), in_row k 21 s t _ (off_21 k) (k0_off25_inb k)⟩
  · exact ⟨_, .tail _ (.tail _ (.tail _ (.tail _ (.tail _ (.tail _ (.tail _ (.tail _ (.tail _ (.head _))))))))), in_row k 22 s t _ (off_22 k) (k0_off26_inb k)⟩
  · exact ⟨_, .tail _ (.tail _ (.tail _ (.tail _ (.tail _ (.tail _ (.tail _ (.tail _ (.head _)))))))), in_row k 23 s t _ (off_23 k) (k0_off27_inb k)⟩
  · exact ⟨_, .tail _ (.tail _ (.tail _ (.tail _ (.tail _ (.tail _ (.tail _ (.head _))))))), in_row k 24 s t _ (off_24 k) (k0_off28_inb k)⟩
  · exact ⟨_, .tail _ (.tail _ (.tail _ (.tail _ (.tail _ (.tail _ (.head _)))))), in_row k 25 s t _ (off_25 k) (k0_off29_inb k)⟩
  · exact ⟨_, .tail _ (.tail _ (.tail _ (.tail _ (.tail _ (.head _))))), in_row k 26 s t _ (off_26 k) (k0_off30_inb k)⟩
  · exact ⟨_, .tail _ (.tail _ (.tail _ (.tail _ (.head _)))), in_row k 27 s t _ (off_27 k) (k0_off31_inb k)⟩
  · exact ⟨_, .tail _ (.tail _ (.tail _ (.head _))), in_row k 28 s t _ (off_28 k) (k0_off32_inb k)⟩
  · exact ⟨_, .tail _ (.tail _ (.head _)), in_row k 29 s t _ (off_29 k) (k0_off33_inb k)⟩
  · exact ⟨_, .tail _ (.head _), in_row k 30 s t _ (off_30 k) (k0_off34_inb k)⟩
  · exact ⟨_, .head _, in_row k 31 s t _ (off_31 k) (k0_off35_inb k)⟩

set_option maxRecDepth 100000 in
/-- No place of another row is stored by trip `k`. -/
theorem trip_misses (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (k : Fin k0_t2_loop.trips) (acc : FVec Ideal S8x128 .f32)
    (f : BufTy.Contents (Elt Ideal) arg12.view.ty) (j : Fin 24) (hj : j.val ≠ k.val) (q : Fin 32) (s : Fin 8) (t : Fin 128) :
    ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 k acc f, (ix4 j q s t : S24x32x8x128.Idx) ∉ p.1.set := by
  unfold tripL_k0_t2 trip_k0_t2
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, List.forall_mem_nil _⟩
  · exact out_row k 31 j hj q s t _ (off_31 k) (k0_off35_inb k)
  · exact out_row k 30 j hj q s t _ (off_30 k) (k0_off34_inb k)
  · exact out_row k 29 j hj q s t _ (off_29 k) (k0_off33_inb k)
  · exact out_row k 28 j hj q s t _ (off_28 k) (k0_off32_inb k)
  · exact out_row k 27 j hj q s t _ (off_27 k) (k0_off31_inb k)
  · exact out_row k 26 j hj q s t _ (off_26 k) (k0_off30_inb k)
  · exact out_row k 25 j hj q s t _ (off_25 k) (k0_off29_inb k)
  · exact out_row k 24 j hj q s t _ (off_24 k) (k0_off28_inb k)
  · exact out_row k 23 j hj q s t _ (off_23 k) (k0_off27_inb k)
  · exact out_row k 22 j hj q s t _ (off_22 k) (k0_off26_inb k)
  · exact out_row k 21 j hj q s t _ (off_21 k) (k0_off25_inb k)
  · exact out_row k 20 j hj q s t _ (off_20 k) (k0_off24_inb k)
  · exact out_row k 19 j hj q s t _ (off_19 k) (k0_off23_inb k)
  · exact out_row k 18 j hj q s t _ (off_18 k) (k0_off22_inb k)
  · exact out_row k 17 j hj q s t _ (off_17 k) (k0_off21_inb k)
  · exact out_row k 16 j hj q s t _ (off_16 k) (k0_off20_inb k)
  · exact out_row k 15 j hj q s t _ (off_15 k) (k0_off19_inb k)
  · exact out_row k 14 j hj q s t _ (off_14 k) (k0_off18_inb k)
  · exact out_row k 13 j hj q s t _ (off_13 k) (k0_off17_inb k)
  · exact out_row k 12 j hj q s t _ (off_12 k) (k0_off16_inb k)
  · exact out_row k 11 j hj q s t _ (off_11 k) (k0_off15_inb k)
  · exact out_row k 10 j hj q s t _ (off_10 k) (k0_off14_inb k)
  · exact out_row k 9 j hj q s t _ (off_9 k) (k0_off13_inb k)
  · exact out_row k 8 j hj q s t _ (off_8 k) (k0_off12_inb k)
  · exact out_row k 7 j hj q s t _ (off_7 k) (k0_off11_inb k)
  · exact out_row k 6 j hj q s t _ (off_6 k) (k0_off10_inb k)
  · exact out_row k 5 j hj q s t _ (off_5 k) (k0_off9_inb k)
  · exact out_row k 4 j hj q s t _ (off_4 k) (k0_off8_inb k)
  · exact out_row k 3 j hj q s t _ (off_3 k) (k0_off7_inb k)
  · exact out_row k 2 j hj q s t _ (off_2 k) (k0_off6_inb k)
  · exact out_row k 1 j hj q s t _ (off_1 k) (k0_off5_inb k)
  · exact out_row k 0 j hj q s t _ (off_0 k) (k0_off4_inb k)

/-- The maximum after a trip, by what bounds it. -/
theorem trip_max (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (k : Fin k0_t2_loop.trips) (acc : FVec Ideal S8x128 .f32)
    (f : BufTy.Contents (Elt Ideal) arg12.view.ty) (x : Fin 32 → Fin 8 → Fin 128 → EReal)
    (hx : ∀ b s t, arg12.view.read (Elt Ideal) f (ix4 (k : Fin 24) b s t) = x b s t)
    (s : Fin 8) (t : Fin 128) (y : EReal) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 k acc f (ix2 s t) ≤ y ↔ acc (ix2 s t) ≤ y ∧
      ∀ q : Fin 32, max (flyE (fun b => x b s t) q.val) (-flyE (fun b => x b s t) q.val) ≤ y := by
  unfold tripR_k0_t2 trip_k0_t2
  dsimp only
  unfold trip_k0_t2.sl.r_110 trip_k0_t2.sl.r_108 trip_k0_t2.sl.r_106 trip_k0_t2.sl.r_104 trip_k0_t2.sl.r_102
  pointwise [k0_pay353, k0_pay231, k0_pay224, k0_pay217, k0_pay210, k0_pay203]
  rw [forall32]
  simp only [fly_0 arg12 k f s t _ (fun b => hx b s t), fly_1 arg12 k f s t _ (fun b => hx b s t), fly_2 arg12 k f s t _ (fun b => hx b s t), fly_3 arg12 k f s t _ (fun b => hx b s t), fly_4 arg12 k f s t _ (fun b => hx b s t), fly_5 arg12 k f s t _ (fun b => hx b s t), fly_6 arg12 k f s t _ (fun b => hx b s t), fly_7 arg12 k f s t _ (fun b => hx b s t), fly_8 arg12 k f s t _ (fun b => hx b s t), fly_9 arg12 k f s t _ (fun b => hx b s t), fly_10 arg12 k f s t _ (fun b => hx b s t), fly_11 arg12 k f s t _ (fun b => hx b s t), fly_12 arg12 k f s t _ (fun b => hx b s t), fly_13 arg12 k f s t _ (fun b => hx b s t), fly_14 arg12 k f s t _ (fun b => hx b s t), fly_15 arg12 k f s t _ (fun b => hx b s t), fly_16 arg12 k f s t _ (fun b => hx b s t), fly_17 arg12 k f s t _ (fun b => hx b s t), fly_18 arg12 k f s t _ (fun b => hx b s t), fly_19 arg12 k f s t _ (fun b => hx b s t), fly_20 arg12 k f s t _ (fun b => hx b s t), fly_21 arg12 k f s t _ (fun b => hx b s t), fly_22 arg12 k f s t _ (fun b => hx b s t), fly_23 arg12 k f s t _ (fun b => hx b s t), fly_24 arg12 k f s t _ (fun b => hx b s t), fly_25 arg12 k f s t _ (fun b => hx b s t), fly_26 arg12 k f s t _ (fun b => hx b s t), fly_27 arg12 k f s t _ (fun b => hx b s t), fly_28 arg12 k f s t _ (fun b => hx b s t), fly_29 arg12 k f s t _ (fun b => hx b s t), fly_30 arg12 k f s t _ (fun b => hx b s t), fly_31 arg12 k f s t _ (fun b => hx b s t), Ideal.absf_def, max_le_iff, and_assoc]
  rfl

/-- The rows and the maximum after `n` trips: the first `n` rows transformed, the others as they were; the maximum is over
   the transformed rows. -/
theorem loop_inv (𝒱 : Variants) (c : Dev nD) (bd : Option 𝒱.V) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (G : BufTy.Contents (Elt Ideal) arg12.view.ty) (init : FVec Ideal S8x128 .f32)
    (x : Fin 24 → Fin 32 → Fin 8 → Fin 128 → EReal)
    (hx : ∀ j b s t, arg12.view.read (Elt Ideal) G (ix4 j b s t) = x j b s t) (n : ℕ) (hn : n ≤ 24) :
    (∀ (j : Fin 24) (q : Fin 32) (s : Fin 8) (t : Fin 128),
      arg12.view.read (Elt Ideal) (arg12.view.writes (Elt Ideal) G (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 G init n).2) (ix4 j q s t)
        = (if j.val < n then flyE (fun b => x j b s t) q.val else x j q s t))
    ∧ ∀ (s : Fin 8) (t : Fin 128) (y : EReal),
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 G init n).1 (ix2 s t) ≤ y ↔ init (ix2 s t) ≤ y ∧
        ∀ j : Fin 24, j.val < n → ∀ q : Fin 32,
          max (flyE (fun b => x j b s t) q.val) (-flyE (fun b => x j b s t) q.val) ≤ y := by
  induction n with
  | zero =>
    refine ⟨fun j q s t => ?_, fun s t y => ?_⟩
    · exact (hx j q s t).trans (by rw [if_neg (Nat.not_lt_zero _)])
    · rw [st_k0_t2_zero]
      exact ⟨fun h => ⟨h, fun j hj => absurd hj (Nat.not_lt_zero _)⟩, fun h => h.1⟩
  | succ n ih =>
    obtain ⟨ih1, ih2⟩ := ih (by omega)
    have ht : k0_t2_loop.trips = 24 := by decide
    have hlt : n < 24 := by omega
    have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 G init (⟨n, ht ▸ hlt⟩ : Fin k0_t2_loop.trips)
    have hrow : ∀ b s t, arg12.view.read (Elt Ideal) (arg12.view.writes (Elt Ideal) G (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v703 v704 G init n).2)
        (ix4 (⟨n, hlt⟩ : Fin 24) b s t) = x ⟨n, hlt⟩ b s t := by
      intro b s t
      rw [ih1, if_neg (Nat.lt_irrefl n)]
    rw [hs]
    refine ⟨fun j q s t => ?_, fun s t y => ?_⟩
    · dsimp only
      rw [View.writes_append]
      by_cases hj : j.val = n
      · have e : j = ⟨n, hlt⟩ := Fin.ext hj
        rw [e]
        refine (View.read_writes_apply_of_pieces arg12.view _ (fun z : S24x32x8x128.Idx => flyE (fun b => x ⟨n, hlt⟩ b (z 2) (z 3)) (z 1).val) _
          (trip_pieces 𝒱 c bd i arg1 harg1 arg2 harg2 arg3 harg3 arg4 harg4 arg5 harg5 arg6 harg6 arg7 harg7 arg8 harg8 arg9 harg9 arg10 harg10 arg11 harg11 arg12 harg12 arg13 harg13 v703 v704 ⟨n, hlt⟩ _ _ (x ⟨n, hlt⟩) hrow).mem _
          (trip_covers 𝒱 c bd i arg1 harg1 arg2 harg2 arg3 harg3 arg4 harg4 arg5 harg5 arg6 harg6 arg7 harg7 arg8 harg8 arg9 harg9 arg10 harg10 arg11 harg11 arg12 harg12 arg13 harg13 v703 v704 ⟨n, hlt⟩ _ _ q s t)).trans ?_
        rw [if_pos (Nat.lt_succ_self n)]
        rfl
      · refine (View.read_writes_apply_of_forall_not_mem arg12.view _ _ _
          (trip_misses 𝒱 c bd i arg1 harg1 arg2 harg2 arg3 harg3 arg4 harg4 arg5 harg5 arg6 harg6 arg7 harg7 arg8 harg8 arg9 harg9 arg10 harg10 arg11 harg11 arg12 harg12 arg13 harg13 v703 v704 ⟨n, hlt⟩ _ _ j hj q s t)).trans ((ih1 j q s t).trans ?_)
        by_cases h : j.val < n
        · rw [if_pos h, if_pos (by omega)]
        · rw [if_neg h, if_neg (by omega)]
    · dsimp only
      refine (trip_max 𝒱 c bd i arg1 harg1 arg2 harg2 arg3 harg3 arg4 harg4 arg5 harg5 arg6 harg6 arg7 harg7 arg8 harg8 arg9 harg9 arg10 harg10 arg11 harg11 arg12 harg12 arg13 harg13 v703 v704 ⟨n, hlt⟩ _ _ (x ⟨n, hlt⟩) hrow s t y).trans ?_
      refine (and_congr_left' (ih2 s t y)).trans ?_
      constructor
      · rintro ⟨⟨h1, h2⟩, h3⟩
        refine ⟨h1, fun j hj q => ?_⟩
        by_cases hjn : j.val = n
        · have e : j = ⟨n, hlt⟩ := Fin.ext hjn
          rw [e]
          exact h3 q
        · exact h2 j (by omega) q
      · rintro ⟨h1, h2⟩
        exact ⟨⟨h1, fun j hj => h2 j (by omega)⟩, fun q => h2 ⟨n, hlt⟩ (Nat.lt_succ_self n) q⟩

end Cert.KernelIdeal.Own
-- ==== Proof.FlyR.lean ====
module

public import proofs.«01_k».proof.Proof.Fly

@[expose] public section
set_option maxRecDepth 16384
noncomputable section
namespace Cert.KernelIdeal.Own
open Cert.KernelIdeal Cert.KernelIdeal.Gen Cert.Own Idealize.ShloMosaic Idealize.ShloMosaic.TcCoe

/-- One step of it on real numbers. -/
theorem stage_coe (step : ℕ) (v : ℕ → EReal) (u : ℕ → ℝ) (h : ∀ n, v n = ((u n : ℝ) : EReal)) (n : ℕ) :
    stage step v n = ((stage step u n : ℝ) : EReal) := by
  unfold stage
  simp only [h]
  split_ifs
  · rw [EReal.coe_add]
  · rw [EReal.coe_sub]

set_option maxHeartbeats 4000000 in
/-- The butterfly of real numbers is the transform. -/
theorem stages_fly (u : Fin 32 → ℝ) (q : Fin 32) :
    stage 16 (stage 8 (stage 4 (stage 2 (stage 1 fun n => u (Fin.ofNat 32 n))))) q.val = fly u q.val := by
  rw [fly, sum32]
  fin_cases q <;> (simp [stage, sg, par, Fin.ofNat]; try ring)

/-- The butterfly at a real column is the transform. -/
theorem flyE_coe (x : Fin 32 → EReal) (u : Fin 32 → ℝ) (h : ∀ b, x b = ((u b : ℝ) : EReal)) (q : Fin 32) :
    flyE x q.val = ((fly u q.val : ℝ) : EReal) := by
  rw [← stages_fly]
  exact stage_coe 16 _ _ (stage_coe 8 _ _ (stage_coe 4 _ _ (stage_coe 2 _ _ (stage_coe 1 _ _ fun n => h _)))) _

/-- The butterfly's first result is infinite if an entry is. -/
theorem flyE_inf (x : Fin 32 → EReal) (b : Fin 32) (h : inf (x b)) : inf (flyE x 0) := by
  simp only [flyE, stage, inf_add]
  revert h
  fin_cases b <;> (intro h; simp [Fin.ofNat, inf_add]; tauto)

end Cert.KernelIdeal.Own
-- ==== Proof.KQ.lean ====
module

public import proofs.«01_k».proof.Proof.KXt
public import proofs.«01_k».proof.Proof.Loop2
public import proofs.«01_k».proof.Proof.FlyR
public import proofs.«01_k».proof.Proof.Had
public import Idealize.ShloMosaic.Lib.Pointwise
public import Idealize.ShloMosaic.Lib.Pipeline.ReadBack

@[expose] public section
set_option maxRecDepth 16384
noncomputable section
namespace Cert.KernelIdeal.Own
open Cert.KernelIdeal Cert.KernelIdeal.Gen Cert.Own Idealize.ShloMosaic Idealize.ShloMosaic.TcCoe

/-- The first rotation of a block. -/
def r0 (xr : ℕ → ℕ → EReal) (h : ℕ → ℕ → EReal) (j : Fin 24) (b : Fin 32) (s : Fin 8) (t : Fin 128) : EReal :=
  ∑ m : Fin 192, (h j.val (m.val / 8) * ((sg (s.val &&& m.val % 8) : ℝ) : EReal)) * xr t.val (m.val / 8 * 256 + b.val * 8 + m.val % 8)

/-- A row as the kernel rotates it, by columns. -/
def rotK (xr : ℕ → ℕ → EReal) (h : ℕ → ℕ → EReal) (t : Fin 128) (f : ℕ) : EReal :=
  flyE (fun b => r0 xr h (Fin.ofNat 24 (f / 256)) b (Fin.ofNat 8 f) t) (f / 8 % 32)

/-- The rotated block: feature group, place in the group, token. -/
def rotG (xr : ℕ → ℕ → EReal) (h : ℕ → ℕ → EReal) : FVec Ideal S24x32x8x128 .f32 := fun y =>
  rotK xr h (y 3) ((y 0).val * 256 + (y 1).val * 8 + (y 2).val)

/-- The codes of a block. -/
def cdG (xr : ℕ → ℕ → EReal) (h : ℕ → ℕ → EReal) : IVec S128x6144 8 := fun y => BitVec.ofInt 8 (cd (xr (y 0).val) h (y 1).val)

/-- The codes of a block as numbers. -/
def cfG (xr : ℕ → ℕ → EReal) (h : ℕ → ℕ → EReal) : FVec Ideal S128x6144 .fp8e4m3 := fun y => (((cd (xr (y 0).val) h (y 1).val : ℤ) : ℝ) : EReal)

/-- An entry of the rotated array before the butterfly. -/
theorem rG_apply (C : FVec Ideal S192x192 .bf16) (X : FVec Ideal S128x6144 .bf16) (xr : ℕ → ℕ → EReal) (h : ℕ → ℕ → EReal)
    (hX : ∀ (t : Fin 128) (k : Fin 6144), X (ix2 t k) = xr t.val k.val)
    (hC : ∀ a b : Fin 192, C (ix2 a b) = h (a.val / 8) (b.val / 8) * ((sg (a.val % 8 &&& b.val % 8) : ℝ) : EReal))
    (j : Fin 24) (b : Fin 32) (s : Fin 8) (t : Fin 128) : rG C X (ix4 j b s t) = r0 xr h j b s t := by
  unfold rG r0
  refine Finset.sum_congr rfl fun m _ => ?_
  have e1 : (j.val * 8 + s.val) / 8 = j.val := by omega
  have e2 : (j.val * 8 + s.val) % 8 = s.val := by omega
  refine (congrArg₂ (· * ·) (hC ⟨j.val * 8 + s.val, by omega⟩ m) (hX t ⟨m.val / 8 * 256 + b.val * 8 + m.val % 8, by omega⟩)).trans ?_
  dsimp only
  rw [e1, e2]

/-- The butterfly of a column at its places. -/
theorem rotK_apply (xr : ℕ → ℕ → EReal) (h : ℕ → ℕ → EReal) (j : Fin 24) (q : Fin 32) (s : Fin 8) (t : Fin 128) :
    rotK xr h t (j.val * 256 + q.val * 8 + s.val) = flyE (fun b => r0 xr h j b s t) q.val := by
  unfold rotK
  have e1 : Fin.ofNat 24 ((j.val * 256 + q.val * 8 + s.val) / 256) = j := Fin.ext (by
    show (j.val * 256 + q.val * 8 + s.val) / 256 % 24 = j.val; omega)
  have e2 : Fin.ofNat 8 (j.val * 256 + q.val * 8 + s.val) = s := Fin.ext (by
    show (j.val * 256 + q.val * 8 + s.val) % 8 = s.val; omega)
  have e3 : (j.val * 256 + q.val * 8 + s.val) / 8 % 32 = q.val := by omega
  rw [e1, e2, e3]

/-- The first rotation of a row without infinities, in real numbers. -/
theorem r0_real (xr : ℕ → ℕ → EReal) (h : ℕ → ℕ → EReal) (t : Fin 128) (hb : ¬bad (xr t.val) h) (j : Fin 24) (b : Fin 32) (s : Fin 8) :
    r0 xr h j b s t = ((∑ m : Fin 192, rl2 h j.val (m.val / 8) * sg (s.val &&& m.val % 8)
      * rl (xr t.val) (m.val / 8 * 256 + b.val * 8 + m.val % 8) : ℝ) : EReal) := by
  unfold r0
  rw [coe_sum]
  refine Finset.sum_congr rfl fun m _ => ?_
  have hn : ¬inf (h j.val (m.val / 8) * xr t.val (m.val / 8 * 256 + b.val * 8 + m.val % 8)) := fun hi =>
    hb ⟨j, ⟨m.val / 8, by omega⟩, ⟨b.val * 8 + m.val % 8, by omega⟩, by rw [← Nat.add_assoc]; exact hi⟩
  rw [mul_right_comm, mul_of_not_inf hn, ← EReal.coe_mul]
  refine congrArg _ ?_
  unfold rl2 rl
  ring

/-- A row as the kernel rotates it: the rotation, or infinite somewhere. -/
theorem rotK_rep (xr : ℕ → ℕ → EReal) (h : ℕ → ℕ → EReal) (t : Fin 128) : Rep (xr t.val) h (rotK xr h t) := by
  refine ⟨fun hb f hf => ?_, fun ⟨j, k, p, hi⟩ => ?_⟩
  · have e : f = (⟨f / 256, by omega⟩ : Fin 24).val * 256 + (⟨f / 8 % 32, by omega⟩ : Fin 32).val * 8 + (⟨f % 8, by omega⟩ : Fin 8).val := by
      dsimp only; omega
    rw [e, rotK_apply, flyE_coe _ _ (fun b => r0_real xr h t hb _ b _)]
    refine congrArg _ ?_
    unfold fly rot
    dsimp only
    have e1 : (f / 256 * 256 + f / 8 % 32 * 8 + f % 8) = f := by omega
    rw [e1, ← had_math (rl2 h (f / 256)) (rl (xr t.val)) (f % 256) (by omega)]
    have e3 : f % 256 / 8 = f / 8 % 32 := by omega
    have e4 : f % 256 % 8 = f % 8 := by omega
    rw [e3, e4]
  · refine ⟨j.val * 256 + (0 : Fin 32).val * 8 + (0 : Fin 8).val, by have := j.isLt; show j.val * 256 + 0 * 8 + 0 < 6144; omega, ?_⟩
    rw [rotK_apply]
    refine flyE_inf _ ⟨p.val / 8, by omega⟩ ?_
    unfold r0
    rw [inf_sum]
    refine ⟨⟨k.val * 8 + p.val % 8, by omega⟩, Finset.mem_univ _, ?_⟩
    have e1 : (k.val * 8 + p.val % 8) / 8 = k.val := by omega
    have e2 : k.val * 256 + p.val / 8 * 8 + (k.val * 8 + p.val % 8) % 8 = k.val * 256 + p.val := by omega
    dsimp only
    rw [e1, e2, mul_right_comm, inf_mul]
    exact Or.inl ⟨hi, sg_ne _⟩

/-- A magnitude is not negative. -/
theorem abs_ge (v : EReal) : ((0 : ℝ) : EReal) ≤ max v (-v) := by
  rcases le_total 0 v with h | h
  · exact le_max_of_le_left h
  · exact le_max_of_le_right (EReal.neg_nonneg.mpr h)

/-- One stored piece of the codes. -/
theorem code_piece (a : FVec Ideal S1x128 .f32) (v : FVec Ideal S1x16x8x128 .f32) (xr : ℕ → ℕ → EReal) (h : ℕ → ℕ → EReal)
    (ha : ∀ t : Fin 128, a (ix2 0 t) = Ideal.div (rho : EReal) (sc (xr t.val) h)) (k b n : ℕ) (hn : n = k * 256 + b * 8)
    (inb : ∀ a, (![0, n] : Fin 2 → ℕ) a + S128x128.size a ≤ S128x6144.size a)
    (inb' : ∀ a, (![k, b, 0, 0] : Fin 4 → ℕ) a + S1x16x8x128.size a ≤ S24x32x8x128.size a)
    (hv : v = View.ld (Val := Elt Ideal) (e' := .f32) (rotG xr h) (Rect.unit (s := S24x32x8x128) ![k, b, 0, 0] S1x16x8x128.size inb'))
    (x : S128x128.Idx) :
    k0_pay359 (F := Ideal) a v x = cdG xr h ((Rect.unit (s := S128x6144) ![0, n] S128x128.size inb).emb x) := by
  obtain ⟨i0, i1, rfl⟩ : ∃ (i0 i1 : Fin 128), x = ix2 i0 i1 := ⟨x 0, x 1, eq_ix2 x⟩
  have hlt : n + 128 ≤ 6144 := inb 1
  refine (pay359 a v (xr i0.val) h (rotK xr h i0) (rotK_rep xr h i0) i0 i1 (n + i1.val) (by omega) (ha i0) ?_).trans ?_
  · rw [hv]
    show rotK xr h ⟨0 + 1 * i0.val, _⟩ ((k + 1 * 0) * 256 + (b + 1 * (i1.val / 8)) * 8 + (0 + 1 * (i1.val % 8))) = _
    exact congrArg₂ (rotK xr h) (Fin.ext (by show 0 + 1 * i0.val = i0.val; omega)) (by omega)
  · show _ = BitVec.ofInt 8 (cd (xr (0 + 1 * i0.val)) h (n + 1 * i1.val))
    rw [show 0 + 1 * i0.val = i0.val from by omega, Nat.one_mul]

/-- The same piece as the product's operand. -/
theorem cf_piece (a : FVec Ideal S1x128 .f32) (v : FVec Ideal S1x16x8x128 .f32) (xr : ℕ → ℕ → EReal) (h : ℕ → ℕ → EReal)
    (ha : ∀ t : Fin 128, a (ix2 0 t) = Ideal.div (rho : EReal) (sc (xr t.val) h)) (k b n : ℕ) (hn : n = k * 256 + b * 8)
    (inb : ∀ a, (![0, n] : Fin 2 → ℕ) a + S128x128.size a ≤ S128x6144.size a)
    (inb' : ∀ a, (![k, b, 0, 0] : Fin 4 → ℕ) a + S1x16x8x128.size a ≤ S24x32x8x128.size a)
    (hv : v = View.ld (Val := Elt Ideal) (e' := .f32) (rotG xr h) (Rect.unit (s := S24x32x8x128) ![k, b, 0, 0] S1x16x8x128.size inb'))
    (x : S128x128.Idx) :
    k0_pay360 (F := Ideal) a v x = cfG xr h ((Rect.unit (s := S128x6144) ![0, n] S128x128.size inb).emb x) := by
  obtain ⟨i0, i1, rfl⟩ : ∃ (i0 i1 : Fin 128), x = ix2 i0 i1 := ⟨x 0, x 1, eq_ix2 x⟩
  rw [pay360, code_piece a v xr h ha k b n hn inb inb' hv]
  unfold cdG
  rw [code_toInt]
  rfl

/-- What the kernel's scale payloads are, given the greatest magnitudes of the rows. -/
theorem scale_read (v : FVec Ideal S8x128 .f32) (xr : ℕ → ℕ → EReal) (h : ℕ → ℕ → EReal)
    (hv : ∀ (t : Fin 128) (y : EReal), (∀ s : Fin 8, v (ix2 s t) ≤ y) ↔ ∀ f : Fin 6144, max (rotK xr h t f.val) (-rotK xr h t f.val) ≤ y)
    (t : Fin 128) : k0_pay354 (F := Ideal) v (ix2 0 t) = sc (xr t.val) h :=
  pay354 v (xr t.val) h _ (rotK_rep xr h t) 0 t (hv t)

/-- The reciprocal the codes are multiplied by. -/
theorem inv_read (v : FVec Ideal S8x128 .f32) (xr : ℕ → ℕ → EReal) (h : ℕ → ℕ → EReal)
    (hv : ∀ (t : Fin 128) (y : EReal), (∀ s : Fin 8, v (ix2 s t) ≤ y) ↔ ∀ f : Fin 6144, max (rotK xr h t f.val) (-rotK xr h t f.val) ≤ y)
    (t : Fin 128) : k0_pay356 (F := Ideal) v (ix2 0 t) = Ideal.div (rho : EReal) (sc (xr t.val) h) := by
  rw [pay356, scale_read v xr h hv]

/-- The loop over the feature groups, from the first rotation of a block: the rotated block, and the rows' greatest magnitudes. -/
theorem loop_rot (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (v703 : FVec Ideal S24x8x128 .f32) (v704 : Vec Ideal S24x1x8x128 .f32) (G : BufTy.Contents (Elt Ideal) arg12.view.ty)
    (C : FVec Ideal S192x192 .bf16) (X : FVec Ideal S128x6144 .bf16) (xr : ℕ → ℕ → EReal) (h : ℕ → ℕ → EReal)
    (hX : ∀ (t : Fin 128) (k : Fin 6144), X (ix2 t k) = xr t.val k.val)
    (hC : ∀ a b : Fin 192, C (ix2 a b) = h (a.val / 8) (b.val / 8) * ((sg (a.val % 8 &&& b.val % 8) : ℝ) : EReal))
    (hG : ∀ y, arg12.view.read (Elt Ideal) G y = rG C X y) :
    (∀ y, arg12.view.read (Elt Ideal) (arg12.view.writes (Elt Ideal) G (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v703 v704 G k0_pay351 (Scf.trips k0_t2_loop.lb k0_t2_loop.ub k0_t2_loop.st)).2) y
        = rotG xr h y)
    ∧ ∀ (t : Fin 128) (y : EReal),
      (∀ s : Fin 8, (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v703 v704 G k0_pay351 (Scf.trips k0_t2_loop.lb k0_t2_loop.ub k0_t2_loop.st)).1 (ix2 s t) ≤ y)
        ↔ ∀ f : Fin 6144, max (rotK xr h t f.val) (-rotK xr h t f.val) ≤ y := by
  have ht : Scf.trips k0_t2_loop.lb k0_t2_loop.ub k0_t2_loop.st = 24 := by decide
  rw [ht]
  obtain ⟨l1, l2⟩ := loop_inv Variants.none c none i arg1 harg1 arg2 harg2 arg3 harg3 arg4 harg4 arg5 harg5 arg6 harg6 arg7 harg7 arg8 harg8 arg9 harg9 arg10 harg10 arg11 harg11 arg12 harg12 arg13 harg13 v703 v704 G k0_pay351 (r0 xr h)
    (fun j b s t => (hG _).trans (rG_apply C X xr h hX hC j b s t)) 24 le_rfl
  refine ⟨fun y => ?_, fun t y => ?_⟩
  · obtain ⟨j, q, s, t, rfl⟩ : ∃ (j : Fin 24) (q : Fin 32) (s : Fin 8) (t : Fin 128), y = ix4 j q s t := ⟨y 0, y 1, y 2, y 3, eq_ix4 y⟩
    rw [l1 j q s t, if_pos j.isLt, ← rotK_apply]
    rfl
  · have h0 : ∀ s : Fin 8, k0_pay351 (F := Ideal) (ix2 s t) = ((0 : ℝ) : EReal) := fun s => by
      pointwise [k0_pay351]
      try rw [ofBits_zero]
      try rfl
    simp only [l2, h0, ← rotK_apply]
    constructor
    · intro g f
      have hf := f.isLt
      have := (g ⟨f.val % 8, by omega⟩).2 ⟨f.val / 256, by omega⟩ (by show f.val / 256 < 24; omega) ⟨f.val / 8 % 32, by omega⟩
      dsimp only at this
      rwa [show f.val / 256 * 256 + f.val / 8 % 32 * 8 + f.val % 8 = f.val from by omega] at this
    · intro g s
      refine ⟨le_trans (abs_ge _) (g ⟨0, by omega⟩), fun j _ q => ?_⟩
      exact g ⟨j.val * 256 + q.val * 8 + s.val, by omega⟩

/-- What the loop over the small factor leaves: the rotation, and its largest magnitude. -/
theorem rot_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (x1 : Vec Ideal S24x24 .f32) (xr : ℕ → ℕ → EReal) (h : ℕ → ℕ → EReal)
    (hX : ∀ (t : Fin 128) (k : Fin 6144), x0 (ix2 t k) = xr t.val k.val)
    (hC : ∀ a b : Fin 192, (kernelRun0_A.sl.v395 (F := Ideal) c arg2 harg2 arg10 x1) (ix2 a b) = h (a.val / 8) (b.val / 8) * ((sg (a.val % 8 &&& b.val % 8) : ℝ) : EReal)) :
    (∀ r : Rect S24x32x8x128, View.readAt (Elt Ideal) arg12.view r.toLoadRect (arg12.view.writes (Elt Ideal) arg12.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (kernelRun0_A.sl.r_23 c arg1 harg1 arg2 harg2 arg10 arg11 x0 x1) (k0_pay350 (kernelRun0_A.sl.r_23 c arg1 harg1 arg2 harg2 arg10 arg11 x0 x1)) (arg12.view.writes (Elt Ideal) arg12.view.junk (kernelRun0_A.sl.HS3_32 (F := Ideal) c arg1 harg1 arg2 harg2 arg10 arg11 x0 x1)) k0_pay351 (Scf.trips k0_t2_loop.lb k0_t2_loop.ub k0_t2_loop.st)).2 ++ kernelRun0_A.sl.HS3_32 (F := Ideal) c arg1 harg1 arg2 harg2 arg10 arg11 x0 x1))
        = View.ld (Val := Elt Ideal) (e' := .f32) (rotG xr h) r)
    ∧ ∀ (t : Fin 128) (y : EReal),
      (∀ s : Fin 8, (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (kernelRun0_A.sl.r_23 c arg1 harg1 arg2 harg2 arg10 arg11 x0 x1) (k0_pay350 (kernelRun0_A.sl.r_23 c arg1 harg1 arg2 harg2 arg10 arg11 x0 x1)) (arg12.view.writes (Elt Ideal) arg12.view.junk (kernelRun0_A.sl.HS3_32 (F := Ideal) c arg1 harg1 arg2 harg2 arg10 arg11 x0 x1)) k0_pay351 (Scf.trips k0_t2_loop.lb k0_t2_loop.ub k0_t2_loop.st)).1 (ix2 s t) ≤ y)
        ↔ ∀ f : Fin 6144, max (rotK xr h t f.val) (-rotK xr h t f.val) ≤ y := by
  obtain ⟨l1, l2⟩ := loop_rot c i arg1 harg1 arg2 harg2 arg3 harg3 arg4 harg4 arg5 harg5 arg6 harg6 arg7 harg7 arg8 harg8 arg9 harg9 arg10 harg10 arg11 harg11 arg12 harg12 arg13 harg13 (kernelRun0_A.sl.r_23 c arg1 harg1 arg2 harg2 arg10 arg11 x0 x1) (k0_pay350 (kernelRun0_A.sl.r_23 c arg1 harg1 arg2 harg2 arg10 arg11 x0 x1)) _ _ x0 xr h hX hC (r_read_A c arg1 harg1 arg2 harg2 arg10 arg11 x0 x1 arg12 arg12.view.junk)
  refine ⟨fun r => ?_, l2⟩
  rw [View.readAt_eq_ld, View.writes_append]
  exact congrArg (fun z => View.ld (Val := Elt Ideal) (e' := .f32) z r) (funext l1)

/-- The scale of every row of the block. -/
theorem sc_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (x1 : Vec Ideal S24x24 .f32) (xr : ℕ → ℕ → EReal) (h : ℕ → ℕ → EReal)
    (hX : ∀ (t : Fin 128) (k : Fin 6144), x0 (ix2 t k) = xr t.val k.val)
    (hC : ∀ a b : Fin 192, (kernelRun0_A.sl.v395 (F := Ideal) c arg2 harg2 arg10 x1) (ix2 a b) = h (a.val / 8) (b.val / 8) * ((sg (a.val % 8 &&& b.val % 8) : ℝ) : EReal)) (t : Fin 128) :
    kernelRun0_A.sl.r_24 c i arg1 harg1 arg2 harg2 arg3 harg3 arg4 harg4 arg5 harg5 arg6 harg6 arg7 harg7 arg8 harg8 arg9 harg9 arg10 harg10 arg11 harg11 arg12 harg12 arg13 harg13 x0 x1 (ix2 0 t) = sc (xr t.val) h :=
  scale_read _ xr h (rot_A c i arg1 harg1 arg2 harg2 arg3 harg3 arg4 harg4 arg5 harg5 arg6 harg6 arg7 harg7 arg8 harg8 arg9 harg9 arg10 harg10 arg11 harg11 arg12 harg12 arg13 harg13 x0 x1 xr h hX hC).2 t

/-- The reciprocal of every row's scale. -/
theorem inv_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (x1 : Vec Ideal S24x24 .f32) (xr : ℕ → ℕ → EReal) (h : ℕ → ℕ → EReal)
    (hX : ∀ (t : Fin 128) (k : Fin 6144), x0 (ix2 t k) = xr t.val k.val)
    (hC : ∀ a b : Fin 192, (kernelRun0_A.sl.v395 (F := Ideal) c arg2 harg2 arg10 x1) (ix2 a b) = h (a.val / 8) (b.val / 8) * ((sg (a.val % 8 &&& b.val % 8) : ℝ) : EReal)) (t : Fin 128) :
    kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1 (ix2 0 t) = Ideal.div (rho : EReal) (sc (xr t.val) h) :=
  inv_read _ xr h (rot_A c i arg1 harg1 arg2 harg2 arg3 harg3 arg4 harg4 arg5 harg5 arg6 harg6 arg7 harg7 arg8 harg8 arg9 harg9 arg10 harg10 arg11 harg11 arg12 harg12 arg13 harg13 x0 x1 xr h hX hC).2 t

/-- Every stored piece of the product's operand holds codes. -/
theorem cf_pieces_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (x1 : Vec Ideal S24x24 .f32) (xr : ℕ → ℕ → EReal) (h : ℕ → ℕ → EReal)
    (hX : ∀ (t : Fin 128) (k : Fin 6144), x0 (ix2 t k) = xr t.val k.val)
    (hC : ∀ a b : Fin 192, (kernelRun0_A.sl.v395 (F := Ideal) c arg2 harg2 arg10 x1) (ix2 a b) = h (a.val / 8) (b.val / 8) * ((sg (a.val % 8 &&& b.val % 8) : ℝ) : EReal)) :
    View.PiecesOf (cfG xr h) (kernelRun0_A.sl.HS4_48 (F := Ideal) c i arg1 harg1 arg2 harg2 arg3 harg3 arg4 harg4 arg5 harg5 arg6 harg6 arg7 harg7 arg8 harg8 arg9 harg9 arg10 harg10 arg11 harg11 arg12 harg12 arg13 harg13 x0 x1) := by
  have ha := inv_A c i arg1 harg1 arg2 harg2 arg3 harg3 arg4 harg4 arg5 harg5 arg6 harg6 arg7 harg7 arg8 harg8 arg9 harg9 arg10 harg10 arg11 harg11 arg12 harg12 arg13 harg13 x0 x1 xr h hX hC
  have hv := (rot_A c i arg1 harg1 arg2 harg2 arg3 harg3 arg4 harg4 arg5 harg5 arg6 harg6 arg7 harg7 arg8 harg8 arg9 harg9 arg10 harg10 arg11 harg11 arg12 harg12 arg13 harg13 x0 x1 xr h hX hC).1
  unfold kernelRun0_A.sl.HS4_48
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1665 c i arg1 harg1 arg2 harg2 arg3 harg3 arg4 harg4 arg5 harg5 arg6 harg6 arg7 harg7 arg8 harg8 arg9 harg9 arg10 harg10 arg11 harg11 arg12 harg12 arg13 harg13 x0 x1) xr h ha 23 16 6016 rfl inb_S128x6144_S128x128_0_6016 inb_S24x32x8x128_S1x16x8x128_23_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1645 c i arg1 harg1 arg2 harg2 arg3 harg3 arg4 harg4 arg5 harg5 arg6 harg6 arg7 harg7 arg8 harg8 arg9 harg9 arg10 harg10 arg11 harg11 arg12 harg12 arg13 harg13 x0 x1) xr h ha 23 0 5888 rfl inb_S128x6144_S128x128_0_5888 inb_S24x32x8x128_S1x16x8x128_23_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1625 c i arg1 harg1 arg2 harg2 arg3 harg3 arg4 harg4 arg5 harg5 arg6 harg6 arg7 harg7 arg8 harg8 arg9 harg9 arg10 harg10 arg11 harg11 arg12 harg12 arg13 harg13 x0 x1) xr h ha 22 16 5760 rfl inb_S128x6144_S128x128_0_5760 inb_S24x32x8x128_S1x16x8x128_22_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1605 c i arg1 harg1 arg2 harg2 arg3 harg3 arg4 harg4 arg5 harg5 arg6 harg6 arg7 harg7 arg8 harg8 arg9 harg9 arg10 harg10 arg11 harg11 arg12 harg12 arg13 harg13 x0 x1) xr h ha 22 0 5632 rfl inb_S128x6144_S128x128_0_5632 inb_S24x32x8x128_S1x16x8x128_22_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1585 c i arg1 harg1 arg2 harg2 arg3 harg3 arg4 harg4 arg5 harg5 arg6 harg6 arg7 harg7 arg8 harg8 arg9 harg9 arg10 harg10 arg11 harg11 arg12 harg12 arg13 harg13 x0 x1) xr h ha 21 16 5504 rfl inb_S128x6144_S128x128_0_5504 inb_S24x32x8x128_S1x16x8x128_21_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1565 c i arg1 harg1 arg2 harg2 arg3 harg3 arg4 harg4 arg5 harg5 arg6 harg6 arg7 harg7 arg8 harg8 arg9 harg9 arg10 harg10 arg11 harg11 arg12 harg12 arg13 harg13 x0 x1) xr h ha 21 0 5376 rfl inb_S128x6144_S128x128_0_5376 inb_S24x32x8x128_S1x16x8x128_21_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1545 c i arg1 harg1 arg2 harg2 arg3 harg3 arg4 harg4 arg5 harg5 arg6 harg6 arg7 harg7 arg8 harg8 arg9 harg9 arg10 harg10 arg11 harg11 arg12 harg12 arg13 harg13 x0 x1) xr h ha 20 16 5248 rfl inb_S128x6144_S128x128_0_5248 inb_S24x32x8x128_S1x16x8x128_20_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1525 c i arg1 harg1 arg2 harg2 arg3 harg3 arg4 harg4 arg5 harg5 arg6 harg6 arg7 harg7 arg8 harg8 arg9 harg9 arg10 harg10 arg11 harg11 arg12 harg12 arg13 harg13 x0 x1) xr h ha 20 0 5120 rfl inb_S128x6144_S128x128_0_5120 inb_S24x32x8x128_S1x16x8x128_20_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1505 c i arg1 harg1 arg2 harg2 arg3 harg3 arg4 harg4 arg5 harg5 arg6 harg6 arg7 harg7 arg8 harg8 arg9 harg9 arg10 harg10 arg11 harg11 arg12 harg12 arg13 harg13 x0 x1) xr h ha 19 16 4992 rfl inb_S128x6144_S128x128_0_4992 inb_S24x32x8x128_S1x16x8x128_19_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1485 c i arg1 harg1 arg2 harg2 arg3 harg3 arg4 harg4 arg5 harg5 arg6 harg6 arg7 harg7 arg8 harg8 arg9 harg9 arg10 harg10 arg11 harg11 arg12 harg12 arg13 harg13 x0 x1) xr h ha 19 0 4864 rfl inb_S128x6144_S128x128_0_4864 inb_S24x32x8x128_S1x16x8x128_19_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1465 c i arg1 harg1 arg2 harg2 arg3 harg3 arg4 harg4 arg5 harg5 arg6 harg6 arg7 harg7 arg8 harg8 arg9 harg9 arg10 harg10 arg11 harg11 arg12 harg12 arg13 harg13 x0 x1) xr h ha 18 16 4736 rfl inb_S128x6144_S128x128_0_4736 inb_S24x32x8x128_S1x16x8x128_18_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1445 c i arg1 harg1 arg2 harg2 arg3 harg3 arg4 harg4 arg5 harg5 arg6 harg6 arg7 harg7 arg8 harg8 arg9 harg9 arg10 harg10 arg11 harg11 arg12 harg12 arg13 harg13 x0 x1) xr h ha 18 0 4608 rfl inb_S128x6144_S128x128_0_4608 inb_S24x32x8x128_S1x16x8x128_18_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1425 c i arg1 harg1 arg2 harg2 arg3 harg3 arg4 harg4 arg5 harg5 arg6 harg6 arg7 harg7 arg8 harg8 arg9 harg9 arg10 harg10 arg11 harg11 arg12 harg12 arg13 harg13 x0 x1) xr h ha 17 16 4480 rfl inb_S128x6144_S128x128_0_4480 inb_S24x32x8x128_S1x16x8x128_17_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1405 c i arg1 harg1 arg2 harg2 arg3 harg3 arg4 harg4 arg5 harg5 arg6 harg6 arg7 harg7 arg8 harg8 arg9 harg9 arg10 harg10 arg11 harg11 arg12 harg12 arg13 harg13 x0 x1) xr h ha 17 0 4352 rfl inb_S128x6144_S128x128_0_4352 inb_S24x32x8x128_S1x16x8x128_17_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1385 c i arg1 harg1 arg2 harg2 arg3 harg3 arg4 harg4 arg5 harg5 arg6 harg6 arg7 harg7 arg8 harg8 arg9 harg9 arg10 harg10 arg11 harg11 arg12 harg12 arg13 harg13 x0 x1) xr h ha 16 16 4224 rfl inb_S128x6144_S128x128_0_4224 inb_S24x32x8x128_S1x16x8x128_16_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1365 c i arg1 harg1 arg2 harg2 arg3 harg3 arg4 harg4 arg5 harg5 arg6 harg6 arg7 harg7 arg8 harg8 arg9 harg9 arg10 harg10 arg11 harg11 arg12 harg12 arg13 harg13 x0 x1) xr h ha 16 0 4096 rfl inb_S128x6144_S128x128_0_4096 inb_S24x32x8x128_S1x16x8x128_16_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1345 c i arg1 harg1 arg2 harg2 arg3 harg3 arg4 harg4 arg5 harg5 arg6 harg6 arg7 harg7 arg8 harg8 arg9 harg9 arg10 harg10 arg11 harg11 arg12 harg12 arg13 harg13 x0 x1) xr h ha 15 16 3968 rfl inb_S128x6144_S128x128_0_3968 inb_S24x32x8x128_S1x16x8x128_15_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1325 c i arg1 harg1 arg2 harg2 arg3 harg3 arg4 harg4 arg5 harg5 arg6 harg6 arg7 harg7 arg8 harg8 arg9 harg9 arg10 harg10 arg11 harg11 arg12 harg12 arg13 harg13 x0 x1) xr h ha 15 0 3840 rfl inb_S128x6144_S128x128_0_3840 inb_S24x32x8x128_S1x16x8x128_15_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1305 c i arg1 harg1 arg2 harg2 arg3 harg3 arg4 harg4 arg5 harg5 arg6 harg6 arg7 harg7 arg8 harg8 arg9 harg9 arg10 harg10 arg11 harg11 arg12 harg12 arg13 harg13 x0 x1) xr h ha 14 16 3712 rfl inb_S128x6144_S128x128_0_3712 inb_S24x32x8x128_S1x16x8x128_14_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1285 c i arg1 harg1 arg2 harg2 arg3 harg3 arg4 harg4 arg5 harg5 arg6 harg6 arg7 harg7 arg8 harg8 arg9 harg9 arg10 harg10 arg11 harg11 arg12 harg12 arg13 harg13 x0 x1) xr h ha 14 0 3584 rfl inb_S128x6144_S128x128_0_3584 inb_S24x32x8x128_S1x16x8x128_14_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1265 c i arg1 harg1 arg2 harg2 arg3 harg3 arg4 harg4 arg5 harg5 arg6 harg6 arg7 harg7 arg8 harg8 arg9 harg9 arg10 harg10 arg11 harg11 arg12 harg12 arg13 harg13 x0 x1) xr h ha 13 16 3456 rfl inb_S128x6144_S128x128_0_3456 inb_S24x32x8x128_S1x16x8x128_13_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1245 c i arg1 harg1 arg2 harg2 arg3 harg3 arg4 harg4 arg5 harg5 arg6 harg6 arg7 harg7 arg8 harg8 arg9 harg9 arg10 harg10 arg11 harg11 arg12 harg12 arg13 harg13 x0 x1) xr h ha 13 0 3328 rfl inb_S128x6144_S128x128_0_3328 inb_S24x32x8x128_S1x16x8x128_13_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1225 c i arg1 harg1 arg2 harg2 arg3 harg3 arg4 harg4 arg5 harg5 arg6 harg6 arg7 harg7 arg8 harg8 arg9 harg9 arg10 harg10 arg11 harg11 arg12 harg12 arg13 harg13 x0 x1) xr h ha 12 16 3200 rfl inb_S128x6144_S128x128_0_3200 inb_S24x32x8x128_S1x16x8x128_12_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1205 c i arg1 harg1 arg2 harg2 arg3 harg3 arg4 harg4 arg5 harg5 arg6 harg6 arg7 harg7 arg8 harg8 arg9 harg9 arg10 harg10 arg11 harg11 arg12 harg12 arg13 harg13 x0 x1) xr h ha 12 0 3072 rfl inb_S128x6144_S128x128_0_3072 inb_S24x32x8x128_S1x16x8x128_12_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1185 c i arg1 harg1 arg2 harg2 arg3 harg3 arg4 harg4 arg5 harg5 arg6 harg6 arg7 harg7 arg8 harg8 arg9 harg9 arg10 harg10 arg11 harg11 arg12 harg12 arg13 harg13 x0 x1) xr h ha 11 16 2944 rfl inb_S128x6144_S128x128_0_2944 inb_S24x32x8x128_S1x16x8x128_11_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1165 c i arg1 harg1 arg2 harg2 arg3 harg3 arg4 harg4 arg5 harg5 arg6 harg6 arg7 harg7 arg8 harg8 arg9 harg9 arg10 harg10 arg11 harg11 arg12 harg12 arg13 harg13 x0 x1) xr h ha 11 0 2816 rfl inb_S128x6144_S128x128_0_2816 inb_S24x32x8x128_S1x16x8x128_11_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1145 c i arg1 harg1 arg2 harg2 arg3 harg3 arg4 harg4 arg5 harg5 arg6 harg6 arg7 harg7 arg8 harg8 arg9 harg9 arg10 harg10 arg11 harg11 arg12 harg12 arg13 harg13 x0 x1) xr h ha 10 16 2688 rfl inb_S128x6144_S128x128_0_2688 inb_S24x32x8x128_S1x16x8x128_10_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1125 c i arg1 harg1 arg2 harg2 arg3 harg3 arg4 harg4 arg5 harg5 arg6 harg6 arg7 harg7 arg8 harg8 arg9 harg9 arg10 harg10 arg11 harg11 arg12 harg12 arg13 harg13 x0 x1) xr h ha 10 0 2560 rfl inb_S128x6144_S128x128_0_2560 inb_S24x32x8x128_S1x16x8x128_10_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1105 c i arg1 harg1 arg2 harg2 arg3 harg3 arg4 harg4 arg5 harg5 arg6 harg6 arg7 harg7 arg8 harg8 arg9 harg9 arg10 harg10 arg11 harg11 arg12 harg12 arg13 harg13 x0 x1) xr h ha 9 16 2432 rfl inb_S128x6144_S128x128_0_2432 inb_S24x32x8x128_S1x16x8x128_9_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1085 c i arg1 harg1 arg2 harg2 arg3 harg3 arg4 harg4 arg5 harg5 arg6 harg6 arg7 harg7 arg8 harg8 arg9 harg9 arg10 harg10 arg11 harg11 arg12 harg12 arg13 harg13 x0 x1) xr h ha 9 0 2304 rfl inb_S128x6144_S128x128_0_2304 inb_S24x32x8x128_S1x16x8x128_9_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1065 c i arg1 harg1 arg2 harg2 arg3 harg3 arg4 harg4 arg5 harg5 arg6 harg6 arg7 harg7 arg8 harg8 arg9 harg9 arg10 harg10 arg11 harg11 arg12 harg12 arg13 harg13 x0 x1) xr h ha 8 16 2176 rfl inb_S128x6144_S128x128_0_2176 inb_S24x32x8x128_S1x16x8x128_8_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1045 c i arg1 harg1 arg2 harg2 arg3 harg3 arg4 harg4 arg5 harg5 arg6 harg6 arg7 harg7 arg8 harg8 arg9 harg9 arg10 harg10 arg11 harg11 arg12 harg12 arg13 harg13 x0 x1) xr h ha 8 0 2048 rfl inb_S128x6144_S128x128_0_2048 inb_S24x32x8x128_S1x16x8x128_8_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1025 c i arg1 harg1 arg2 harg2 arg3 harg3 arg4 harg4 arg5 harg5 arg6 harg6 arg7 harg7 arg8 harg8 arg9 harg9 arg10 harg10 arg11 harg11 arg12 harg12 arg13 harg13 x0 x1) xr h ha 7 16 1920 rfl inb_S128x6144_S128x128_0_1920 inb_S24x32x8x128_S1x16x8x128_7_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1005 c i arg1 harg1 arg2 harg2 arg3 harg3 arg4 harg4 arg5 harg5 arg6 harg6 arg7 harg7 arg8 harg8 arg9 harg9 arg10 harg10 arg11 harg11 arg12 harg12 arg13 harg13 x0 x1) xr h ha 7 0 1792 rfl inb_S128x6144_S128x128_0_1792 inb_S24x32x8x128_S1x16x8x128_7_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v985 c i arg1 harg1 arg2 harg2 arg3 harg3 arg4 harg4 arg5 harg5 arg6 harg6 arg7 harg7 arg8 harg8 arg9 harg9 arg10 harg10 arg11 harg11 arg12 harg12 arg13 harg13 x0 x1) xr h ha 6 16 1664 rfl inb_S128x6144_S128x128_0_1664 inb_S24x32x8x128_S1x16x8x128_6_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v965 c i arg1 harg1 arg2 harg2 arg3 harg3 arg4 harg4 arg5 harg5 arg6 harg6 arg7 harg7 arg8 harg8 arg9 harg9 arg10 harg10 arg11 harg11 arg12 harg12 arg13 harg13 x0 x1) xr h ha 6 0 1536 rfl inb_S128x6144_S128x128_0_1536 inb_S24x32x8x128_S1x16x8x128_6_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v945 c i arg1 harg1 arg2 harg2 arg3 harg3 arg4 harg4 arg5 harg5 arg6 harg6 arg7 harg7 arg8 harg8 arg9 harg9 arg10 harg10 arg11 harg11 arg12 harg12 arg13 harg13 x0 x1) xr h ha 5 16 1408 rfl inb_S128x6144_S128x128_0_1408 inb_S24x32x8x128_S1x16x8x128_5_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v925 c i arg1 harg1 arg2 harg2 arg3 harg3 arg4 harg4 arg5 harg5 arg6 harg6 arg7 harg7 arg8 harg8 arg9 harg9 arg10 harg10 arg11 harg11 arg12 harg12 arg13 harg13 x0 x1) xr h ha 5 0 1280 rfl inb_S128x6144_S128x128_0_1280 inb_S24x32x8x128_S1x16x8x128_5_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v905 c i arg1 harg1 arg2 harg2 arg3 harg3 arg4 harg4 arg5 harg5 arg6 harg6 arg7 harg7 arg8 harg8 arg9 harg9 arg10 harg10 arg11 harg11 arg12 harg12 arg13 harg13 x0 x1) xr h ha 4 16 1152 rfl inb_S128x6144_S128x128_0_1152 inb_S24x32x8x128_S1x16x8x128_4_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v885 c i arg1 harg1 arg2 harg2 arg3 harg3 arg4 harg4 arg5 harg5 arg6 harg6 arg7 harg7 arg8 harg8 arg9 harg9 arg10 harg10 arg11 harg11 arg12 harg12 arg13 harg13 x0 x1) xr h ha 4 0 1024 rfl inb_S128x6144_S128x128_0_1024 inb_S24x32x8x128_S1x16x8x128_4_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v865 c i arg1 harg1 arg2 harg2 arg3 harg3 arg4 harg4 arg5 harg5 arg6 harg6 arg7 harg7 arg8 harg8 arg9 harg9 arg10 harg10 arg11 harg11 arg12 harg12 arg13 harg13 x0 x1) xr h ha 3 16 896 rfl inb_S128x6144_S128x128_0_896 inb_S24x32x8x128_S1x16x8x128_3_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v845 c i arg1 harg1 arg2 harg2 arg3 harg3 arg4 harg4 arg5 harg5 arg6 harg6 arg7 harg7 arg8 harg8 arg9 harg9 arg10 harg10 arg11 harg11 arg12 harg12 arg13 harg13 x0 x1) xr h ha 3 0 768 rfl inb_S128x6144_S128x128_0_768 inb_S24x32x8x128_S1x16x8x128_3_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v825 c i arg1 harg1 arg2 harg2 arg3 harg3 arg4 harg4 arg5 harg5 arg6 harg6 arg7 harg7 arg8 harg8 arg9 harg9 arg10 harg10 arg11 harg11 arg12 harg12 arg13 harg13 x0 x1) xr h ha 2 16 640 rfl inb_S128x6144_S128x128_0_640 inb_S24x32x8x128_S1x16x8x128_2_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v805 c i arg1 harg1 arg2 harg2 arg3 harg3 arg4 harg4 arg5 harg5 arg6 harg6 arg7 harg7 arg8 harg8 arg9 harg9 arg10 harg10 arg11 harg11 arg12 harg12 arg13 harg13 x0 x1) xr h ha 2 0 512 rfl inb_S128x6144_S128x128_0_512 inb_S24x32x8x128_S1x16x8x128_2_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v785 c i arg1 harg1 arg2 harg2 arg3 harg3 arg4 harg4 arg5 harg5 arg6 harg6 arg7 harg7 arg8 harg8 arg9 harg9 arg10 harg10 arg11 harg11 arg12 harg12 arg13 harg13 x0 x1) xr h ha 1 16 384 rfl inb_S128x6144_S128x128_0_384 inb_S24x32x8x128_S1x16x8x128_1_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v765 c i arg1 harg1 arg2 harg2 arg3 harg3 arg4 harg4 arg5 harg5 arg6 harg6 arg7 harg7 arg8 harg8 arg9 harg9 arg10 harg10 arg11 harg11 arg12 harg12 arg13 harg13 x0 x1) xr h ha 1 0 256 rfl inb_S128x6144_S128x128_0_256 inb_S24x32x8x128_S1x16x8x128_1_0_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v745 c i arg1 harg1 arg2 harg2 arg3 harg3 arg4 harg4 arg5 harg5 arg6 harg6 arg7 harg7 arg8 harg8 arg9 harg9 arg10 harg10 arg11 harg11 arg12 harg12 arg13 harg13 x0 x1) xr h ha 0 16 128 rfl inb_S128x6144_S128x128_0_128 inb_S24x32x8x128_S1x16x8x128_0_16_0_0 (hv _)) ?_
  refine pcons (cf_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v725 c i arg1 harg1 arg2 harg2 arg3 harg3 arg4 harg4 arg5 harg5 arg6 harg6 arg7 harg7 arg8 harg8 arg9 harg9 arg10 harg10 arg11 harg11 arg12 harg12 arg13 harg13 x0 x1) xr h ha 0 0 0 rfl inb_S128x6144_S128x128_0_0 inb_S24x32x8x128_S1x16x8x128_0_0_0_0 (hv _)) ?_
  exact trivial

/-- The product's operand holds the codes. -/
theorem cf_read_A (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (x1 : Vec Ideal S24x24 .f32) (xr : ℕ → ℕ → EReal) (h : ℕ → ℕ → EReal)
    (hX : ∀ (t : Fin 128) (k : Fin 6144), x0 (ix2 t k) = xr t.val k.val)
    (hC : ∀ a b : Fin 192, (kernelRun0_A.sl.v395 (F := Ideal) c arg2 harg2 arg10 x1) (ix2 a b) = h (a.val / 8) (b.val / 8) * ((sg (a.val % 8 &&& b.val % 8) : ℝ) : EReal)) :
    kernelRun0_A.sl.v1688 (F := Ideal) c i arg1 harg1 arg2 harg2 arg3 harg3 arg4 harg4 arg5 harg5 arg6 harg6 arg7 harg7 arg8 harg8 arg9 harg9 arg10 harg10 arg11 harg11 arg12 harg12 arg13 harg13 x0 x1 = cfG xr h := by
  unfold kernelRun0_A.sl.v1688
  rw [View.readCov_eq_canon']
  funext y
  refine (View.canon_apply_of_pieces _ _ (cf_pieces_A c i arg1 harg1 arg2 harg2 arg3 harg3 arg4 harg4 arg5 harg5 arg6 harg6 arg7 harg7 arg8 harg8 arg9 harg9 arg10 harg10 arg11 harg11 arg12 harg12 arg13 harg13 x0 x1 xr h hX hC).mem _
    (View.cover_of_tiledL (kernelRun0_A.sl.HS4_48 (F := Ideal) c i arg1 harg1 arg2 harg2 arg3 harg3 arg4 harg4 arg5 harg5 arg6 harg6 arg7 harg7 arg8 harg8 arg9 harg9 arg10 harg10 arg11 harg11 arg12 harg12 arg13 harg13 x0 x1) S128x128.size (by sl_kernel_rfl) _)).trans ?_
  refine congrArg (cfG xr h) (funext fun a => Fin.ext ?_)
  fin_cases a
  · show 0 + 1 * (y 0).val = (y 0).val
    omega
  · show 0 + 1 * (y 1).val = (y 1).val
    omega

/-- What the loop over the small factor leaves: the rotation, and its largest magnitude. -/
theorem rot_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (xs1 : Vec Ideal S192x192 .bf16) (xr : ℕ → ℕ → EReal) (h : ℕ → ℕ → EReal)
    (hX : ∀ (t : Fin 128) (k : Fin 6144), x0 (ix2 t k) = xr t.val k.val)
    (hC : ∀ a b : Fin 192, (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal)) :
    (∀ r : Rect S24x32x8x128, View.readAt (Elt Ideal) arg12.view r.toLoadRect (arg12.view.writes (Elt Ideal) arg12.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (kernelRun0_B.sl.r_24 c arg1 harg1 arg10 harg10 arg11 x0 xs1) (k0_pay350 (kernelRun0_B.sl.r_24 c arg1 harg1 arg10 harg10 arg11 x0 xs1)) (arg12.view.writes (Elt Ideal) arg12.view.junk (kernelRun0_B.sl.HS3_32 (F := Ideal) c arg1 harg1 arg10 harg10 arg11 x0 xs1)) k0_pay351 (Scf.trips k0_t2_loop.lb k0_t2_loop.ub k0_t2_loop.st)).2 ++ kernelRun0_B.sl.HS3_32 (F := Ideal) c arg1 harg1 arg10 harg10 arg11 x0 xs1))
        = View.ld (Val := Elt Ideal) (e' := .f32) (rotG xr h) r)
    ∧ ∀ (t : Fin 128) (y : EReal),
      (∀ s : Fin 8, (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (kernelRun0_B.sl.r_24 c arg1 harg1 arg10 harg10 arg11 x0 xs1) (k0_pay350 (kernelRun0_B.sl.r_24 c arg1 harg1 arg10 harg10 arg11 x0 xs1)) (arg12.view.writes (Elt Ideal) arg12.view.junk (kernelRun0_B.sl.HS3_32 (F := Ideal) c arg1 harg1 arg10 harg10 arg11 x0 xs1)) k0_pay351 (Scf.trips k0_t2_loop.lb k0_t2_loop.ub k0_t2_loop.st)).1 (ix2 s t) ≤ y)
        ↔ ∀ f : Fin 6144, max (rotK xr h t f.val) (-rotK xr h t f.val) ≤ y := by
  obtain ⟨l1, l2⟩ := loop_rot c i arg1 harg1 arg2 harg2 arg3 harg3 arg4 harg4 arg5 harg5 arg6 harg6 arg7 harg7 arg8 harg8 arg9 harg9 arg10 harg10 arg11 harg11 arg12 harg12 arg13 harg13 (kernelRun0_B.sl.r_24 c arg1 harg1 arg10 harg10 arg11 x0 xs1) (k0_pay350 (kernelRun0_B.sl.r_24 c arg1 harg1 arg10 harg10 arg11 x0 xs1)) _ _ x0 xr h hX hC (r_read_B c arg1 harg1 arg10 harg10 arg11 x0 xs1 arg12 arg12.view.junk)
  refine ⟨fun r => ?_, l2⟩
  rw [View.readAt_eq_ld, View.writes_append]
  exact congrArg (fun z => View.ld (Val := Elt Ideal) (e' := .f32) z r) (funext l1)

/-- The scale of every row of the block. -/
theorem sc_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (xs1 : Vec Ideal S192x192 .bf16) (xr : ℕ → ℕ → EReal) (h : ℕ → ℕ → EReal)
    (hX : ∀ (t : Fin 128) (k : Fin 6144), x0 (ix2 t k) = xr t.val k.val)
    (hC : ∀ a b : Fin 192, (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal)) (t : Fin 128) :
    kernelRun0_B.sl.r_25 c i arg1 harg1 arg2 harg2 arg3 harg3 arg4 harg4 arg5 harg5 arg6 harg6 arg7 harg7 arg8 harg8 arg9 harg9 arg10 harg10 arg11 harg11 arg12 harg12 arg13 harg13 x0 xs1 (ix2 0 t) = sc (xr t.val) h :=
  scale_read _ xr h (rot_B c i arg1 harg1 arg2 harg2 arg3 harg3 arg4 harg4 arg5 harg5 arg6 harg6 arg7 harg7 arg8 harg8 arg9 harg9 arg10 harg10 arg11 harg11 arg12 harg12 arg13 harg13 x0 xs1 xr h hX hC).2 t

/-- The reciprocal of every row's scale. -/
theorem inv_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (xs1 : Vec Ideal S192x192 .bf16) (xr : ℕ → ℕ → EReal) (h : ℕ → ℕ → EReal)
    (hX : ∀ (t : Fin 128) (k : Fin 6144), x0 (ix2 t k) = xr t.val k.val)
    (hC : ∀ a b : Fin 192, (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal)) (t : Fin 128) :
    kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1 (ix2 0 t) = Ideal.div (rho : EReal) (sc (xr t.val) h) :=
  inv_read _ xr h (rot_B c i arg1 harg1 arg2 harg2 arg3 harg3 arg4 harg4 arg5 harg5 arg6 harg6 arg7 harg7 arg8 harg8 arg9 harg9 arg10 harg10 arg11 harg11 arg12 harg12 arg13 harg13 x0 xs1 xr h hX hC).2 t

/-- Every stored piece of the product's operand holds codes. -/
theorem cf_pieces_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (xs1 : Vec Ideal S192x192 .bf16) (xr : ℕ → ℕ → EReal) (h : ℕ → ℕ → EReal)
    (hX : ∀ (t : Fin 128) (k : Fin 6144), x0 (ix2 t k) = xr t.val k.val)
    (hC : ∀ a b : Fin 192, (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal)) :
    View.PiecesOf (cfG xr h) (kernelRun0_B.sl.HS4_48 (F := Ideal) c i arg1 harg1 arg2 harg2 arg3 harg3 arg4 harg4 arg5 harg5 arg6 harg6 arg7 harg7 arg8 harg8 arg9 harg9 arg10 harg10 arg11 harg11 arg12 harg12 arg13 harg13 x0 xs1) := by
  have ha := inv_B c i arg1 harg1 arg2 harg2 arg3 harg3 arg4 harg4 arg5 harg5 arg6 harg6 arg7 harg7 arg8 harg8 arg9 harg9 arg10 harg10 arg11 harg11 arg12 harg12 arg13 harg13 x0 xs1 xr h hX hC
  have hv := (rot_B c i arg1 harg1 arg2 harg2 arg3 harg3 arg4 harg4 arg5 harg5 arg6 harg6 arg7 harg7 arg8 harg8 arg9 harg9 arg10 harg10 arg11 harg11 arg12 harg12 arg13 harg13 x0 xs1 xr h hX hC).1
  unfold kernelRun0_B.sl.HS4_48
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1665 c i arg1 harg1 arg2 harg2 arg3 harg3 arg4 harg4 arg5 harg5 arg6 harg6 arg7 harg7 arg8 harg8 arg9 harg9 arg10 harg10 arg11 harg11 arg12 harg12 arg13 harg13 x0 xs1) xr h ha 23 16 6016 rfl inb_S128x6144_S128x128_0_6016 inb_S24x32x8x128_S1x16x8x128_23_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1645 c i arg1 harg1 arg2 harg2 arg3 harg3 arg4 harg4 arg5 harg5 arg6 harg6 arg7 harg7 arg8 harg8 arg9 harg9 arg10 harg10 arg11 harg11 arg12 harg12 arg13 harg13 x0 xs1) xr h ha 23 0 5888 rfl inb_S128x6144_S128x128_0_5888 inb_S24x32x8x128_S1x16x8x128_23_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1625 c i arg1 harg1 arg2 harg2 arg3 harg3 arg4 harg4 arg5 harg5 arg6 harg6 arg7 harg7 arg8 harg8 arg9 harg9 arg10 harg10 arg11 harg11 arg12 harg12 arg13 harg13 x0 xs1) xr h ha 22 16 5760 rfl inb_S128x6144_S128x128_0_5760 inb_S24x32x8x128_S1x16x8x128_22_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1605 c i arg1 harg1 arg2 harg2 arg3 harg3 arg4 harg4 arg5 harg5 arg6 harg6 arg7 harg7 arg8 harg8 arg9 harg9 arg10 harg10 arg11 harg11 arg12 harg12 arg13 harg13 x0 xs1) xr h ha 22 0 5632 rfl inb_S128x6144_S128x128_0_5632 inb_S24x32x8x128_S1x16x8x128_22_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1585 c i arg1 harg1 arg2 harg2 arg3 harg3 arg4 harg4 arg5 harg5 arg6 harg6 arg7 harg7 arg8 harg8 arg9 harg9 arg10 harg10 arg11 harg11 arg12 harg12 arg13 harg13 x0 xs1) xr h ha 21 16 5504 rfl inb_S128x6144_S128x128_0_5504 inb_S24x32x8x128_S1x16x8x128_21_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1565 c i arg1 harg1 arg2 harg2 arg3 harg3 arg4 harg4 arg5 harg5 arg6 harg6 arg7 harg7 arg8 harg8 arg9 harg9 arg10 harg10 arg11 harg11 arg12 harg12 arg13 harg13 x0 xs1) xr h ha 21 0 5376 rfl inb_S128x6144_S128x128_0_5376 inb_S24x32x8x128_S1x16x8x128_21_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1545 c i arg1 harg1 arg2 harg2 arg3 harg3 arg4 harg4 arg5 harg5 arg6 harg6 arg7 harg7 arg8 harg8 arg9 harg9 arg10 harg10 arg11 harg11 arg12 harg12 arg13 harg13 x0 xs1) xr h ha 20 16 5248 rfl inb_S128x6144_S128x128_0_5248 inb_S24x32x8x128_S1x16x8x128_20_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1525 c i arg1 harg1 arg2 harg2 arg3 harg3 arg4 harg4 arg5 harg5 arg6 harg6 arg7 harg7 arg8 harg8 arg9 harg9 arg10 harg10 arg11 harg11 arg12 harg12 arg13 harg13 x0 xs1) xr h ha 20 0 5120 rfl inb_S128x6144_S128x128_0_5120 inb_S24x32x8x128_S1x16x8x128_20_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1505 c i arg1 harg1 arg2 harg2 arg3 harg3 arg4 harg4 arg5 harg5 arg6 harg6 arg7 harg7 arg8 harg8 arg9 harg9 arg10 harg10 arg11 harg11 arg12 harg12 arg13 harg13 x0 xs1) xr h ha 19 16 4992 rfl inb_S128x6144_S128x128_0_4992 inb_S24x32x8x128_S1x16x8x128_19_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1485 c i arg1 harg1 arg2 harg2 arg3 harg3 arg4 harg4 arg5 harg5 arg6 harg6 arg7 harg7 arg8 harg8 arg9 harg9 arg10 harg10 arg11 harg11 arg12 harg12 arg13 harg13 x0 xs1) xr h ha 19 0 4864 rfl inb_S128x6144_S128x128_0_4864 inb_S24x32x8x128_S1x16x8x128_19_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1465 c i arg1 harg1 arg2 harg2 arg3 harg3 arg4 harg4 arg5 harg5 arg6 harg6 arg7 harg7 arg8 harg8 arg9 harg9 arg10 harg10 arg11 harg11 arg12 harg12 arg13 harg13 x0 xs1) xr h ha 18 16 4736 rfl inb_S128x6144_S128x128_0_4736 inb_S24x32x8x128_S1x16x8x128_18_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1445 c i arg1 harg1 arg2 harg2 arg3 harg3 arg4 harg4 arg5 harg5 arg6 harg6 arg7 harg7 arg8 harg8 arg9 harg9 arg10 harg10 arg11 harg11 arg12 harg12 arg13 harg13 x0 xs1) xr h ha 18 0 4608 rfl inb_S128x6144_S128x128_0_4608 inb_S24x32x8x128_S1x16x8x128_18_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1425 c i arg1 harg1 arg2 harg2 arg3 harg3 arg4 harg4 arg5 harg5 arg6 harg6 arg7 harg7 arg8 harg8 arg9 harg9 arg10 harg10 arg11 harg11 arg12 harg12 arg13 harg13 x0 xs1) xr h ha 17 16 4480 rfl inb_S128x6144_S128x128_0_4480 inb_S24x32x8x128_S1x16x8x128_17_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1405 c i arg1 harg1 arg2 harg2 arg3 harg3 arg4 harg4 arg5 harg5 arg6 harg6 arg7 harg7 arg8 harg8 arg9 harg9 arg10 harg10 arg11 harg11 arg12 harg12 arg13 harg13 x0 xs1) xr h ha 17 0 4352 rfl inb_S128x6144_S128x128_0_4352 inb_S24x32x8x128_S1x16x8x128_17_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1385 c i arg1 harg1 arg2 harg2 arg3 harg3 arg4 harg4 arg5 harg5 arg6 harg6 arg7 harg7 arg8 harg8 arg9 harg9 arg10 harg10 arg11 harg11 arg12 harg12 arg13 harg13 x0 xs1) xr h ha 16 16 4224 rfl inb_S128x6144_S128x128_0_4224 inb_S24x32x8x128_S1x16x8x128_16_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1365 c i arg1 harg1 arg2 harg2 arg3 harg3 arg4 harg4 arg5 harg5 arg6 harg6 arg7 harg7 arg8 harg8 arg9 harg9 arg10 harg10 arg11 harg11 arg12 harg12 arg13 harg13 x0 xs1) xr h ha 16 0 4096 rfl inb_S128x6144_S128x128_0_4096 inb_S24x32x8x128_S1x16x8x128_16_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1345 c i arg1 harg1 arg2 harg2 arg3 harg3 arg4 harg4 arg5 harg5 arg6 harg6 arg7 harg7 arg8 harg8 arg9 harg9 arg10 harg10 arg11 harg11 arg12 harg12 arg13 harg13 x0 xs1) xr h ha 15 16 3968 rfl inb_S128x6144_S128x128_0_3968 inb_S24x32x8x128_S1x16x8x128_15_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1325 c i arg1 harg1 arg2 harg2 arg3 harg3 arg4 harg4 arg5 harg5 arg6 harg6 arg7 harg7 arg8 harg8 arg9 harg9 arg10 harg10 arg11 harg11 arg12 harg12 arg13 harg13 x0 xs1) xr h ha 15 0 3840 rfl inb_S128x6144_S128x128_0_3840 inb_S24x32x8x128_S1x16x8x128_15_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1305 c i arg1 harg1 arg2 harg2 arg3 harg3 arg4 harg4 arg5 harg5 arg6 harg6 arg7 harg7 arg8 harg8 arg9 harg9 arg10 harg10 arg11 harg11 arg12 harg12 arg13 harg13 x0 xs1) xr h ha 14 16 3712 rfl inb_S128x6144_S128x128_0_3712 inb_S24x32x8x128_S1x16x8x128_14_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1285 c i arg1 harg1 arg2 harg2 arg3 harg3 arg4 harg4 arg5 harg5 arg6 harg6 arg7 harg7 arg8 harg8 arg9 harg9 arg10 harg10 arg11 harg11 arg12 harg12 arg13 harg13 x0 xs1) xr h ha 14 0 3584 rfl inb_S128x6144_S128x128_0_3584 inb_S24x32x8x128_S1x16x8x128_14_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1265 c i arg1 harg1 arg2 harg2 arg3 harg3 arg4 harg4 arg5 harg5 arg6 harg6 arg7 harg7 arg8 harg8 arg9 harg9 arg10 harg10 arg11 harg11 arg12 harg12 arg13 harg13 x0 xs1) xr h ha 13 16 3456 rfl inb_S128x6144_S128x128_0_3456 inb_S24x32x8x128_S1x16x8x128_13_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1245 c i arg1 harg1 arg2 harg2 arg3 harg3 arg4 harg4 arg5 harg5 arg6 harg6 arg7 harg7 arg8 harg8 arg9 harg9 arg10 harg10 arg11 harg11 arg12 harg12 arg13 harg13 x0 xs1) xr h ha 13 0 3328 rfl inb_S128x6144_S128x128_0_3328 inb_S24x32x8x128_S1x16x8x128_13_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1225 c i arg1 harg1 arg2 harg2 arg3 harg3 arg4 harg4 arg5 harg5 arg6 harg6 arg7 harg7 arg8 harg8 arg9 harg9 arg10 harg10 arg11 harg11 arg12 harg12 arg13 harg13 x0 xs1) xr h ha 12 16 3200 rfl inb_S128x6144_S128x128_0_3200 inb_S24x32x8x128_S1x16x8x128_12_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1205 c i arg1 harg1 arg2 harg2 arg3 harg3 arg4 harg4 arg5 harg5 arg6 harg6 arg7 harg7 arg8 harg8 arg9 harg9 arg10 harg10 arg11 harg11 arg12 harg12 arg13 harg13 x0 xs1) xr h ha 12 0 3072 rfl inb_S128x6144_S128x128_0_3072 inb_S24x32x8x128_S1x16x8x128_12_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1185 c i arg1 harg1 arg2 harg2 arg3 harg3 arg4 harg4 arg5 harg5 arg6 harg6 arg7 harg7 arg8 harg8 arg9 harg9 arg10 harg10 arg11 harg11 arg12 harg12 arg13 harg13 x0 xs1) xr h ha 11 16 2944 rfl inb_S128x6144_S128x128_0_2944 inb_S24x32x8x128_S1x16x8x128_11_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1165 c i arg1 harg1 arg2 harg2 arg3 harg3 arg4 harg4 arg5 harg5 arg6 harg6 arg7 harg7 arg8 harg8 arg9 harg9 arg10 harg10 arg11 harg11 arg12 harg12 arg13 harg13 x0 xs1) xr h ha 11 0 2816 rfl inb_S128x6144_S128x128_0_2816 inb_S24x32x8x128_S1x16x8x128_11_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1145 c i arg1 harg1 arg2 harg2 arg3 harg3 arg4 harg4 arg5 harg5 arg6 harg6 arg7 harg7 arg8 harg8 arg9 harg9 arg10 harg10 arg11 harg11 arg12 harg12 arg13 harg13 x0 xs1) xr h ha 10 16 2688 rfl inb_S128x6144_S128x128_0_2688 inb_S24x32x8x128_S1x16x8x128_10_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1125 c i arg1 harg1 arg2 harg2 arg3 harg3 arg4 harg4 arg5 harg5 arg6 harg6 arg7 harg7 arg8 harg8 arg9 harg9 arg10 harg10 arg11 harg11 arg12 harg12 arg13 harg13 x0 xs1) xr h ha 10 0 2560 rfl inb_S128x6144_S128x128_0_2560 inb_S24x32x8x128_S1x16x8x128_10_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1105 c i arg1 harg1 arg2 harg2 arg3 harg3 arg4 harg4 arg5 harg5 arg6 harg6 arg7 harg7 arg8 harg8 arg9 harg9 arg10 harg10 arg11 harg11 arg12 harg12 arg13 harg13 x0 xs1) xr h ha 9 16 2432 rfl inb_S128x6144_S128x128_0_2432 inb_S24x32x8x128_S1x16x8x128_9_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1085 c i arg1 harg1 arg2 harg2 arg3 harg3 arg4 harg4 arg5 harg5 arg6 harg6 arg7 harg7 arg8 harg8 arg9 harg9 arg10 harg10 arg11 harg11 arg12 harg12 arg13 harg13 x0 xs1) xr h ha 9 0 2304 rfl inb_S128x6144_S128x128_0_2304 inb_S24x32x8x128_S1x16x8x128_9_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1065 c i arg1 harg1 arg2 harg2 arg3 harg3 arg4 harg4 arg5 harg5 arg6 harg6 arg7 harg7 arg8 harg8 arg9 harg9 arg10 harg10 arg11 harg11 arg12 harg12 arg13 harg13 x0 xs1) xr h ha 8 16 2176 rfl inb_S128x6144_S128x128_0_2176 inb_S24x32x8x128_S1x16x8x128_8_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1045 c i arg1 harg1 arg2 harg2 arg3 harg3 arg4 harg4 arg5 harg5 arg6 harg6 arg7 harg7 arg8 harg8 arg9 harg9 arg10 harg10 arg11 harg11 arg12 harg12 arg13 harg13 x0 xs1) xr h ha 8 0 2048 rfl inb_S128x6144_S128x128_0_2048 inb_S24x32x8x128_S1x16x8x128_8_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1025 c i arg1 harg1 arg2 harg2 arg3 harg3 arg4 harg4 arg5 harg5 arg6 harg6 arg7 harg7 arg8 harg8 arg9 harg9 arg10 harg10 arg11 harg11 arg12 harg12 arg13 harg13 x0 xs1) xr h ha 7 16 1920 rfl inb_S128x6144_S128x128_0_1920 inb_S24x32x8x128_S1x16x8x128_7_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1005 c i arg1 harg1 arg2 harg2 arg3 harg3 arg4 harg4 arg5 harg5 arg6 harg6 arg7 harg7 arg8 harg8 arg9 harg9 arg10 harg10 arg11 harg11 arg12 harg12 arg13 harg13 x0 xs1) xr h ha 7 0 1792 rfl inb_S128x6144_S128x128_0_1792 inb_S24x32x8x128_S1x16x8x128_7_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v985 c i arg1 harg1 arg2 harg2 arg3 harg3 arg4 harg4 arg5 harg5 arg6 harg6 arg7 harg7 arg8 harg8 arg9 harg9 arg10 harg10 arg11 harg11 arg12 harg12 arg13 harg13 x0 xs1) xr h ha 6 16 1664 rfl inb_S128x6144_S128x128_0_1664 inb_S24x32x8x128_S1x16x8x128_6_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v965 c i arg1 harg1 arg2 harg2 arg3 harg3 arg4 harg4 arg5 harg5 arg6 harg6 arg7 harg7 arg8 harg8 arg9 harg9 arg10 harg10 arg11 harg11 arg12 harg12 arg13 harg13 x0 xs1) xr h ha 6 0 1536 rfl inb_S128x6144_S128x128_0_1536 inb_S24x32x8x128_S1x16x8x128_6_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v945 c i arg1 harg1 arg2 harg2 arg3 harg3 arg4 harg4 arg5 harg5 arg6 harg6 arg7 harg7 arg8 harg8 arg9 harg9 arg10 harg10 arg11 harg11 arg12 harg12 arg13 harg13 x0 xs1) xr h ha 5 16 1408 rfl inb_S128x6144_S128x128_0_1408 inb_S24x32x8x128_S1x16x8x128_5_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v925 c i arg1 harg1 arg2 harg2 arg3 harg3 arg4 harg4 arg5 harg5 arg6 harg6 arg7 harg7 arg8 harg8 arg9 harg9 arg10 harg10 arg11 harg11 arg12 harg12 arg13 harg13 x0 xs1) xr h ha 5 0 1280 rfl inb_S128x6144_S128x128_0_1280 inb_S24x32x8x128_S1x16x8x128_5_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v905 c i arg1 harg1 arg2 harg2 arg3 harg3 arg4 harg4 arg5 harg5 arg6 harg6 arg7 harg7 arg8 harg8 arg9 harg9 arg10 harg10 arg11 harg11 arg12 harg12 arg13 harg13 x0 xs1) xr h ha 4 16 1152 rfl inb_S128x6144_S128x128_0_1152 inb_S24x32x8x128_S1x16x8x128_4_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v885 c i arg1 harg1 arg2 harg2 arg3 harg3 arg4 harg4 arg5 harg5 arg6 harg6 arg7 harg7 arg8 harg8 arg9 harg9 arg10 harg10 arg11 harg11 arg12 harg12 arg13 harg13 x0 xs1) xr h ha 4 0 1024 rfl inb_S128x6144_S128x128_0_1024 inb_S24x32x8x128_S1x16x8x128_4_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v865 c i arg1 harg1 arg2 harg2 arg3 harg3 arg4 harg4 arg5 harg5 arg6 harg6 arg7 harg7 arg8 harg8 arg9 harg9 arg10 harg10 arg11 harg11 arg12 harg12 arg13 harg13 x0 xs1) xr h ha 3 16 896 rfl inb_S128x6144_S128x128_0_896 inb_S24x32x8x128_S1x16x8x128_3_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v845 c i arg1 harg1 arg2 harg2 arg3 harg3 arg4 harg4 arg5 harg5 arg6 harg6 arg7 harg7 arg8 harg8 arg9 harg9 arg10 harg10 arg11 harg11 arg12 harg12 arg13 harg13 x0 xs1) xr h ha 3 0 768 rfl inb_S128x6144_S128x128_0_768 inb_S24x32x8x128_S1x16x8x128_3_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v825 c i arg1 harg1 arg2 harg2 arg3 harg3 arg4 harg4 arg5 harg5 arg6 harg6 arg7 harg7 arg8 harg8 arg9 harg9 arg10 harg10 arg11 harg11 arg12 harg12 arg13 harg13 x0 xs1) xr h ha 2 16 640 rfl inb_S128x6144_S128x128_0_640 inb_S24x32x8x128_S1x16x8x128_2_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v805 c i arg1 harg1 arg2 harg2 arg3 harg3 arg4 harg4 arg5 harg5 arg6 harg6 arg7 harg7 arg8 harg8 arg9 harg9 arg10 harg10 arg11 harg11 arg12 harg12 arg13 harg13 x0 xs1) xr h ha 2 0 512 rfl inb_S128x6144_S128x128_0_512 inb_S24x32x8x128_S1x16x8x128_2_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v785 c i arg1 harg1 arg2 harg2 arg3 harg3 arg4 harg4 arg5 harg5 arg6 harg6 arg7 harg7 arg8 harg8 arg9 harg9 arg10 harg10 arg11 harg11 arg12 harg12 arg13 harg13 x0 xs1) xr h ha 1 16 384 rfl inb_S128x6144_S128x128_0_384 inb_S24x32x8x128_S1x16x8x128_1_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v765 c i arg1 harg1 arg2 harg2 arg3 harg3 arg4 harg4 arg5 harg5 arg6 harg6 arg7 harg7 arg8 harg8 arg9 harg9 arg10 harg10 arg11 harg11 arg12 harg12 arg13 harg13 x0 xs1) xr h ha 1 0 256 rfl inb_S128x6144_S128x128_0_256 inb_S24x32x8x128_S1x16x8x128_1_0_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v745 c i arg1 harg1 arg2 harg2 arg3 harg3 arg4 harg4 arg5 harg5 arg6 harg6 arg7 harg7 arg8 harg8 arg9 harg9 arg10 harg10 arg11 harg11 arg12 harg12 arg13 harg13 x0 xs1) xr h ha 0 16 128 rfl inb_S128x6144_S128x128_0_128 inb_S24x32x8x128_S1x16x8x128_0_16_0_0 (hv _)) ?_
  refine pcons (cf_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v725 c i arg1 harg1 arg2 harg2 arg3 harg3 arg4 harg4 arg5 harg5 arg6 harg6 arg7 harg7 arg8 harg8 arg9 harg9 arg10 harg10 arg11 harg11 arg12 harg12 arg13 harg13 x0 xs1) xr h ha 0 0 0 rfl inb_S128x6144_S128x128_0_0 inb_S24x32x8x128_S1x16x8x128_0_0_0_0 (hv _)) ?_
  exact trivial

/-- The product's operand holds the codes. -/
theorem cf_read_B (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (x0 : Vec Ideal S128x6144 .bf16) (xs1 : Vec Ideal S192x192 .bf16) (xr : ℕ → ℕ → EReal) (h : ℕ → ℕ → EReal)
    (hX : ∀ (t : Fin 128) (k : Fin 6144), x0 (ix2 t k) = xr t.val k.val)
    (hC : ∀ a b : Fin 192, (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal)) :
    kernelRun0_B.sl.v1688 (F := Ideal) c i arg1 harg1 arg2 harg2 arg3 harg3 arg4 harg4 arg5 harg5 arg6 harg6 arg7 harg7 arg8 harg8 arg9 harg9 arg10 harg10 arg11 harg11 arg12 harg12 arg13 harg13 x0 xs1 = cfG xr h := by
  unfold kernelRun0_B.sl.v1688
  rw [View.readCov_eq_canon']
  funext y
  refine (View.canon_apply_of_pieces _ _ (cf_pieces_B c i arg1 harg1 arg2 harg2 arg3 harg3 arg4 harg4 arg5 harg5 arg6 harg6 arg7 harg7 arg8 harg8 arg9 harg9 arg10 harg10 arg11 harg11 arg12 harg12 arg13 harg13 x0 xs1 xr h hX hC).mem _
    (View.cover_of_tiledL (kernelRun0_B.sl.HS4_48 (F := Ideal) c i arg1 harg1 arg2 harg2 arg3 harg3 arg4 harg4 arg5 harg5 arg6 harg6 arg7 harg7 arg8 harg8 arg9 harg9 arg10 harg10 arg11 harg11 arg12 harg12 arg13 harg13 x0 xs1) S128x128.size (by sl_kernel_rfl) _)).trans ?_
  refine congrArg (cfG xr h) (funext fun a => Fin.ext ?_)
  fin_cases a
  · show 0 + 1 * (y 0).val = (y 0).val
    omega
  · show 0 + 1 * (y 1).val = (y 1).val
    omega

end Cert.KernelIdeal.Own
end
end
-- ==== Proof.KW.lean ====
module

public import proofs.«01_k».proof.Proof.KQ
public import Idealize.ShloMosaic.Lib.Pointwise
public import Idealize.ShloMosaic.Lib.Pipeline.ReadBack

@[expose] public section
set_option maxRecDepth 16384
noncomputable section
namespace Cert.KernelIdeal.Own
open Cert.KernelIdeal Cert.KernelIdeal.Gen Cert.Own Idealize.ShloMosaic Idealize.ShloMosaic.TcCoe

/-! ### The matrix of the first rotation -/

/-- A choice by a truth value. -/
theorem sel_ite (p : Prop) [Decidable p] (A B : EReal) : Scalar.select (if p then 1#1 else 0#1) A B = if p then A else B := by
  by_cases h : p
  · rw [if_pos h, if_pos h]; rfl
  · rw [if_neg h, if_neg h]; rfl

/-- The row group of an index as the kernel computes it. -/
theorem div8 : ∀ (i : Fin 192) (x : Fin 24),
    IntOp.cmpi CmpIPredicate.eq (IntOp.shrsi ArithUnit.vector (BitVec.ofNat 32 i.val) 3#32) (BitVec.ofNat 32 x.val)
      = if x = ⟨i.val / 8, by omega⟩ then 1#1 else 0#1 := by decide +kernel

/-- The parity of three bits as the kernel computes it. -/
theorem par8 : ∀ u v : Fin 8,
    IntOp.cmpi CmpIPredicate.eq
        (IntOp.andi
          (IntOp.xori
            (IntOp.xori (BitVec.ofNat 32 (u.val &&& v.val)) (IntOp.shrsi ArithUnit.vector (BitVec.ofNat 32 (u.val &&& v.val)) 1#32))
            (IntOp.shrsi ArithUnit.vector (BitVec.ofNat 32 (u.val &&& v.val)) 2#32))
          1#32)
        1#32 = if par (u.val &&& v.val) = true then 1#1 else 0#1 := by decide +kernel

/-- The common low bits of two indices as the kernel computes them. -/
theorem and7 (a b : Fin 192) : IntOp.andi (IntOp.andi (BitVec.ofNat 32 a.val) (BitVec.ofNat 32 b.val)) 7#32
    = BitVec.ofNat 32 (a.val % 8 &&& b.val % 8) := by
  have ha := a.isLt
  have hb := b.isLt
  have e : a.val % 8 &&& b.val % 8 = (a.val &&& b.val) % 8 := (Nat.and_mod_two_pow (n := 3)).symm
  show (BitVec.ofNat 32 a.val &&& BitVec.ofNat 32 b.val) &&& 7#32 = _
  apply BitVec.eq_of_toNat_eq
  rw [e, BitVec.toNat_and, BitVec.toNat_and, BitVec.toNat_ofNat, BitVec.toNat_ofNat, BitVec.toNat_ofNat, BitVec.toNat_ofNat,
    Nat.mod_eq_of_lt (show a.val < 2 ^ 32 by omega), Nat.mod_eq_of_lt (show b.val < 2 ^ 32 by omega),
    Nat.mod_eq_of_lt (show (a.val &&& b.val) % 8 < 2 ^ 32 by omega)]
  exact Nat.and_two_pow_sub_one_eq_mod _ 3

/-- The rotation's matrix: the small factor's entries with a Hadamard matrix of order 8's signs. -/
theorem pay233 (v : FVec Ideal S24x24 .f32) (h : ℕ → ℕ → EReal) (hv : ∀ j k : Fin 24, v (ix2 j k) = h j.val k.val) (a b : Fin 192) :
    k0_pay233 (F := Ideal) v (ix2 a b) = h (a.val / 8) (b.val / 8) * ((sg (a.val % 8 &&& b.val % 8) : ℝ) : EReal) := by
  pointwise [k0_pay233]
  rw [and7, par8 ⟨a.val % 8, by omega⟩ ⟨b.val % 8, by omega⟩]
  simp only [div8, sel_ite, Finset.sum_ite_eq', Finset.mem_univ, if_true, hv]
  unfold sg
  split_ifs
  · rw [zero_sub, EReal.coe_neg, EReal.coe_one, mul_neg, mul_one]
  · rw [EReal.coe_one, mul_one]

/-! ### The weights -/

/-- The low half of a byte, sign extended by two shifts. -/
theorem w_lo : ∀ b : BitVec 8, (IntOp.shrsi ArithUnit.vector (IntOp.shli ArithUnit.vector (BitVec.setWidth 32 b) 28#32) 28#32).toInt
    = nib b false := by decide
/-- The high half of a byte, sign extended by two shifts. -/
theorem w_hi : ∀ b : BitVec 8, (IntOp.shrsi ArithUnit.vector (IntOp.shli ArithUnit.vector (BitVec.setWidth 32 b) 24#32) 28#32).toInt
    = nib b true := by decide
/-- A group's power of two, built from its exponent bits. -/
theorem e_word : ∀ b : BitVec 8, b.toNat < 127 →
    IntOp.shli ArithUnit.vector (IntOp.subi (127#32) (IntOp.minsi (BitVec.setWidth 32 b) 127#32)) 23#32
      = (127#32 - (b.setWidth 32)) <<< (23 : ℕ) := by decide

/-- A group of unpacked weights. -/
theorem pay234 (e : IVec S1x1x2048 8) (w : IVec S64x2048 8) (i0 : Fin 128) (i1 : Fin 2048) (he : (e (ix3 0 0 i1)).toNat < 127) :
    k0_pay234 (F := Ideal) e w (ix2 i0 i1)
      = (((nib (w (ix2 ⟨i0.val / 2, by omega⟩ i1)) (i0.val % 2 == 1) : ℝ) * pw (e (ix3 0 0 i1)) : ℝ) : EReal) := by
  pointwise [k0_pay234]
  rw [e_word _ he, ofBits_pw _ he, EReal.coe_mul]
  congr 1
  by_cases h : i0.val % 2 < 1
  · rw [dif_pos h, show (i0.val % 2 == 1) = false from by simp; omega, ← w_lo]
    rfl
  · rw [dif_neg h, show (i0.val % 2 == 1) = true from by simp; omega, ← w_hi]
    rfl

/-- The unpacked weights. -/
def wG (wb eb : ℕ → ℕ → BitVec 8) : FVec Ideal S6144x2048 .fp8e4m3 := fun y => ((wt wb eb (y 0).val (y 1).val : ℝ) : EReal)

/-- One stored group of weights. -/
theorem w_piece (x2 : IVec S3072x2048 8) (x3 : IVec S48x1x2048 8) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127)
    (k : Fin 48) (o1 : Fin 3 → ℕ) (o2 o3 : Fin 2 → ℕ) (h1 : o1 = ![k.val, 0, 0]) (h2 : o2 = ![64 * k.val, 0]) (h3 : o3 = ![128 * k.val, 0])
    (inb1 : ∀ a, o1 a + S1x1x2048.size a ≤ S48x1x2048.size a)
    (inb2 : ∀ a, o2 a + S64x2048.size a ≤ S3072x2048.size a)
    (inb3 : ∀ a, o3 a + S128x2048.size a ≤ S6144x2048.size a)
    (e : IVec S1x1x2048 8) (w : IVec S64x2048 8)
    (he : e = View.ld (Val := Elt Ideal) (e' := .i8) x3 (Rect.unit (s := S48x1x2048) o1 S1x1x2048.size inb1))
    (hw : w = View.ld (Val := Elt Ideal) (e' := .i8) x2 (Rect.unit (s := S3072x2048) o2 S64x2048.size inb2)) (x : S128x2048.Idx) :
    k0_pay234 (F := Ideal) e w x = wG wb eb ((Rect.unit (s := S6144x2048) o3 S128x2048.size inb3).emb x) := by
  subst h1 h2 h3
  obtain ⟨i0, i1, rfl⟩ : ∃ (i0 : Fin 128) (i1 : Fin 2048), x = ix2 i0 i1 := ⟨x 0, x 1, eq_ix2 x⟩
  have hk := k.isLt
  have e1 : e (ix3 0 0 i1) = eb k.val i1.val := by
    rw [he, ← hE k i1]
    refine congrArg x3 (funext fun a => Fin.ext ?_)
    fin_cases a
    · show k.val + 1 * 0 = k.val
      omega
    · rfl
    · show 0 + 1 * i1.val = i1.val
      omega
  have e2 : w (ix2 ⟨i0.val / 2, by omega⟩ i1) = wb (k.val * 64 + i0.val / 2) i1.val := by
    rw [hw]
    refine Eq.trans (congrArg x2 (funext fun a => Fin.ext ?_)) (hW ⟨k.val * 64 + i0.val / 2, by omega⟩ i1)
    fin_cases a
    · show 64 * k.val + 1 * (i0.val / 2) = k.val * 64 + i0.val / 2
      omega
    · show 0 + 1 * i1.val = i1.val
      omega
  rw [pay234 e w i0 i1 (by rw [e1]; exact hlt k i1), e1, e2]
  show _ = ((wt wb eb (128 * k.val + 1 * i0.val) (0 + 1 * i1.val) : ℝ) : EReal)
  unfold wt
  rw [show (128 * k.val + 1 * i0.val) / 2 = k.val * 64 + i0.val / 2 from by omega, show (128 * k.val + 1 * i0.val) % 2 = i0.val % 2 from by omega,
    show (128 * k.val + 1 * i0.val) / 128 = k.val from by omega, show 0 + 1 * i1.val = i1.val from by omega]

/-- Every stored group up to `n` holds its weights. -/
theorem w_pieces (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (k0_h1 : k0_cond1 i = 1#1)
    (x2 : Vec Ideal S3072x2048 .i8) (x3 : Vec Ideal S48x1x2048 .i8) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) (n : ℕ) (hn : n ≤ 48) :
    View.PiecesOf (wG wb eb) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) n) := by
  have h3 : arg3.view.read (Elt Ideal) (harg3.unread x2) = x2 := harg3.read_unread (Val := Elt Ideal) x2
  have h4 : arg4.view.read (Elt Ideal) (harg4.unread x3) = x3 := harg4.read_unread (Val := Elt Ideal) x3
  induction n with
  | zero => exact trivial
  | succ n ih =>
    have ht : k0_t1_loop.trips = 48 := by decide
    have hlt' : n < 48 := by omega
    have hs := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) (⟨n, ht ▸ hlt'⟩ : Fin k0_t1_loop.trips)
    rw [hs]
    unfold tripL_k0_t1 trip_k0_t1
    refine pcons (w_piece x2 x3 wb eb hW hE hlt ⟨n, hlt'⟩ _ _ _ (k0_off1_eq _) (k0_off2_eq _) (k0_off3_eq _) (k0_off1_inb i ⟨n, ht ▸ hlt'⟩ k0_h1) (k0_off2_inb i ⟨n, ht ▸ hlt'⟩ k0_h1) (k0_off3_inb i ⟨n, ht ▸ hlt'⟩ k0_h1) _ _
      ((View.readAt_eq_ld _ _ _).trans (congrArg (fun z => View.ld (Val := Elt Ideal) (e' := .i8) z _) h4))
      ((View.readAt_eq_ld _ _ _).trans (congrArg (fun z => View.ld (Val := Elt Ideal) (e' := .i8) z _) h3))) ?_
    exact ih (by omega)

/-- After the loop the scratch holds the weights. -/
theorem w_canon (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole) (k0_h1 : k0_cond1 i = 1#1)
    (x2 : Vec Ideal S3072x2048 .i8) (x3 : Vec Ideal S48x1x2048 .i8) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) (Scf.trips k0_t1_loop.lb k0_t1_loop.ub k0_t1_loop.st)) = wG wb eb := by
  have ht : Scf.trips k0_t1_loop.lb k0_t1_loop.ub k0_t1_loop.st = 48 := by decide
  funext y
  exact View.canon_apply_of_pieces _ _ (ht ▸ w_pieces c i arg1 harg1 arg2 harg2 arg3 harg3 arg4 harg4 arg5 harg5 arg6 harg6 arg7 harg7 arg8 harg8 arg9 harg9 arg10 harg10 arg11 harg11 arg12 harg12 arg13 harg13 k0_h1 x2 x3 wb eb hW hE hlt 48 le_rfl : View.PiecesOf (wG wb eb) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) (Scf.trips k0_t1_loop.lb k0_t1_loop.ub k0_t1_loop.st))).mem y
    (View.cover_of_tiledL (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_h1 (harg3.unread x2) (harg4.unread x3) (Scf.trips k0_t1_loop.lb k0_t1_loop.ub k0_t1_loop.st)) S128x2048.size (by sl_kernel_rfl) y)

end Cert.KernelIdeal.Own
end
end
-- ==== Proof.KY.lean ====
module

public import proofs.«01_k».proof.Proof.KW
public import Idealize.ShloMosaic.Lib.Pointwise
public import Idealize.ShloMosaic.Lib.Pipeline.ReadBack

@[expose] public section
set_option maxRecDepth 16384
noncomputable section
namespace Cert.KernelIdeal.Own
open Cert.KernelIdeal Cert.KernelIdeal.Gen Cert.Own Idealize.ShloMosaic Idealize.ShloMosaic.TcCoe

/-- A block of the product: the codes with the weights, times the row's scale and the column's. -/
def yG (xr : ℕ → ℕ → EReal) (h : ℕ → ℕ → EReal) (wb eb : ℕ → ℕ → BitVec 8) (z : FVec Ideal S1x2048 .f32) : FVec Ideal S128x2048 .bf16 := fun y =>
  ((acc (xr (y 0).val) h wb eb (y 1).val : ℝ) : EReal) * sc (xr (y 0).val) h * z (ix2 (n0 := 1) (n1 := 2048) 0 (y 1))

/-- The scales of a block. -/
def sG (xr : ℕ → ℕ → EReal) (h : ℕ → ℕ → EReal) : FVec Ideal S1x1x128 .f32 := fun y => sc (xr (y 2).val) h

/-- The product's sum over the columns. -/
theorem sum_acc (xr : ℕ → ℕ → EReal) (h : ℕ → ℕ → EReal) (wb eb : ℕ → ℕ → BitVec 8) (i0 : Fin 128) (n : Fin 2048) :
    ∑ f : Fin 6144, cfG xr h (ix2 i0 f) * wG wb eb (ix2 f n) = ((acc (xr i0.val) h wb eb n.val : ℝ) : EReal) := by
  unfold acc
  rw [coe_sum]
  refine Finset.sum_congr rfl fun f _ => ?_
  rw [EReal.coe_mul]
  rfl

/-- One stored piece of the product, the left half of its columns. -/
theorem yE_piece (s : FVec Ideal S1x128 .f32) (v : FVec Ideal S128x6144 .fp8e4m3) (w : FVec Ideal S6144x256 .fp8e4m3) (z : FVec Ideal S1x128 .f32)
    (xr : ℕ → ℕ → EReal) (h : ℕ → ℕ → EReal) (wb eb : ℕ → ℕ → BitVec 8) (Z : FVec Ideal S1x2048 .f32)
    (hs : ∀ t : Fin 128, s (ix2 0 t) = sc (xr t.val) h) (hv : v = cfG xr h) (n : ℕ)
    (inb : ∀ a, (![0, n] : Fin 2 → ℕ) a + S128x128.size a ≤ S128x2048.size a)
    (inb1 : ∀ a, (![0, n] : Fin 2 → ℕ) a + S6144x256.size a ≤ S6144x2048.size a)
    (inb2 : ∀ a, (![0, n] : Fin 2 → ℕ) a + S1x128.size a ≤ S1x2048.size a)
    (hw : w = View.ld (Val := Elt Ideal) (e' := .fp8e4m3) (wG wb eb) (Rect.unit (s := S6144x2048) ![0, n] S6144x256.size inb1))
    (hz : z = View.ld (Val := Elt Ideal) (e' := .f32) Z (Rect.unit (s := S1x2048) ![0, n] S1x128.size inb2)) (x : S128x128.Idx) :
    k0_pay473 (F := Ideal) s v w z x = yG xr h wb eb Z ((Rect.unit (s := S128x2048) ![0, n] S128x128.size inb).emb x) := by
  obtain ⟨i0, i1, rfl⟩ : ∃ (i0 i1 : Fin 128), x = ix2 i0 i1 := ⟨x 0, x 1, eq_ix2 x⟩
  have hn : n + 128 ≤ 2048 := inb 1
  have hi := i1.isLt
  have e : (Rect.unit (s := S128x2048) ![0, n] S128x128.size inb).emb (ix2 i0 i1) = ix2 (n0 := 128) (n1 := 2048) i0 ⟨n + i1.val, by omega⟩ :=
    funext fun a => Fin.ext (by
      fin_cases a
      · show 0 + 1 * i0.val = i0.val
        omega
      · show n + 1 * i1.val = n + i1.val
        omega)
  rw [e, pay473, hs, hv, hw, hz]
  unfold yG
  refine congrArg₂ (· * ·) (congrArg₂ (· * ·) (Eq.trans (Finset.sum_congr rfl fun f _ => congrArg _ (congrArg (wG wb eb) (funext fun a => Fin.ext ?_)))
    (sum_acc xr h wb eb i0 ⟨n + i1.val, by omega⟩)) rfl) (congrArg Z (funext fun a => Fin.ext ?_))
  · fin_cases a
    · show 0 + 1 * f.val = f.val
      omega
    · show n + 1 * i1.val = n + i1.val
      omega
  · fin_cases a
    · rfl
    · show n + 1 * i1.val = n + i1.val
      omega

/-- One stored piece of the product, the right half of its columns. -/
theorem yO_piece (s : FVec Ideal S1x128 .f32) (v : FVec Ideal S128x6144 .fp8e4m3) (w : FVec Ideal S6144x256 .fp8e4m3) (z : FVec Ideal S1x128 .f32)
    (xr : ℕ → ℕ → EReal) (h : ℕ → ℕ → EReal) (wb eb : ℕ → ℕ → BitVec 8) (Z : FVec Ideal S1x2048 .f32)
    (hs : ∀ t : Fin 128, s (ix2 0 t) = sc (xr t.val) h) (hv : v = cfG xr h) (n k : ℕ) (hk : n = k + 128)
    (inb : ∀ a, (![0, n] : Fin 2 → ℕ) a + S128x128.size a ≤ S128x2048.size a)
    (inb1 : ∀ a, (![0, k] : Fin 2 → ℕ) a + S6144x256.size a ≤ S6144x2048.size a)
    (inb2 : ∀ a, (![0, n] : Fin 2 → ℕ) a + S1x128.size a ≤ S1x2048.size a)
    (hw : w = View.ld (Val := Elt Ideal) (e' := .fp8e4m3) (wG wb eb) (Rect.unit (s := S6144x2048) ![0, k] S6144x256.size inb1))
    (hz : z = View.ld (Val := Elt Ideal) (e' := .f32) Z (Rect.unit (s := S1x2048) ![0, n] S1x128.size inb2)) (x : S128x128.Idx) :
    k0_pay474 (F := Ideal) s v w z x = yG xr h wb eb Z ((Rect.unit (s := S128x2048) ![0, n] S128x128.size inb).emb x) := by
  obtain ⟨i0, i1, rfl⟩ : ∃ (i0 i1 : Fin 128), x = ix2 i0 i1 := ⟨x 0, x 1, eq_ix2 x⟩
  have hn : n + 128 ≤ 2048 := inb 1
  have hi := i1.isLt
  have e : (Rect.unit (s := S128x2048) ![0, n] S128x128.size inb).emb (ix2 i0 i1) = ix2 (n0 := 128) (n1 := 2048) i0 ⟨n + i1.val, by omega⟩ :=
    funext fun a => Fin.ext (by
      fin_cases a
      · show 0 + 1 * i0.val = i0.val
        omega
      · show n + 1 * i1.val = n + i1.val
        omega)
  rw [e, pay474, hs, hv, hw, hz]
  unfold yG
  refine congrArg₂ (· * ·) (congrArg₂ (· * ·) (Eq.trans (Finset.sum_congr rfl fun f _ => congrArg _ (congrArg (wG wb eb) (funext fun a => Fin.ext ?_)))
    (sum_acc xr h wb eb i0 ⟨n + i1.val, by omega⟩)) rfl) (congrArg Z (funext fun a => Fin.ext ?_))
  · fin_cases a
    · show 0 + 1 * f.val = f.val
      omega
    · show k + 1 * (128 + i1.val) = n + i1.val
      omega
  · fin_cases a
    · rfl
    · show n + 1 * i1.val = n + i1.val
      omega

/-- The stored scales. -/
theorem s_piece (v : FVec Ideal S8x128 .f32) (xr : ℕ → ℕ → EReal) (h : ℕ → ℕ → EReal)
    (hv : ∀ t : Fin 128, k0_pay354 (F := Ideal) v (ix2 0 t) = sc (xr t.val) h)
    (inb : ∀ a, (![0, 0, 0] : Fin 3 → ℕ) a + S1x1x128.size a ≤ S1x1x128.size a) (x : S1x1x128.Idx) :
    k0_pay355 (F := Ideal) v x = sG xr h ((Rect.unit (s := S1x1x128) ![0, 0, 0] S1x1x128.size inb).emb x) := by
  obtain ⟨i0, i1, i2, rfl⟩ : ∃ (i0 i1 : Fin 1) (i2 : Fin 128), x = ix3 i0 i1 i2 := ⟨x 0, x 1, x 2, eq_ix3 x⟩
  rw [pay355, hv]
  show _ = sc (xr (0 + 1 * i2.val)) h
  rw [show 0 + 1 * i2.val = i2.val from by omega]

/-- The rotation's matrix as the block reads it. -/
theorem c_read_A (c : Dev nD) (arg2 : Memref sig .tc .vmem S24x24 .f32) (harg2 : arg2.IsWhole) (arg10 : Memref sig .tc .vmem S192x192 .bf16)
    (x1 : Vec Ideal S24x24 .f32) (h : ℕ → ℕ → EReal) (hH : ∀ j k : Fin 24, x1 (ix2 j k) = h j.val k.val) (a b : Fin 192) :
    kernelRun0_A.sl.v395 (F := Ideal) c arg2 harg2 arg10 x1 (ix2 a b) = h (a.val / 8) (b.val / 8) * ((sg (a.val % 8 &&& b.val % 8) : ℝ) : EReal) := by
  unfold kernelRun0_A.sl.v395 kernelRun0_A.sl.HS1_1
  rw [View.readCov_cons_toLoadRect]
  refine pay233 _ h (fun j k => ?_) a b
  rw [← hH, View.readAt_eq_ld, harg2.read_unread]
  refine congrArg x1 (funext fun a => Fin.ext ?_)
  fin_cases a
  · show 0 + 1 * j.val = j.val
    omega
  · show 0 + 1 * k.val = k.val
    omega

section
variable (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole)

/-- Every stored piece of the product. -/
theorem y_pieces_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    View.PiecesOf (yG xr h wb eb x4) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1 := by
  have hC := c_read_A c arg2 harg2 arg10 x1 h hH
  have hw : ∀ r : Rect S6144x2048, arg9.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 (harg3.unread x2) (harg4.unread x3) (Scf.trips k0_t1_loop.lb k0_t1_loop.ub k0_t1_loop.st)) r.toLoadRect
      = View.ld (Val := Elt Ideal) (e' := .fp8e4m3) (wG wb eb) r := fun r => by
    rw [View.readCov_eq_canon', w_canon c i arg1 harg1 arg2 harg2 arg3 harg3 arg4 harg4 arg5 harg5 arg6 harg6 arg7 harg7 arg8 harg8 arg9 harg9 arg10 harg10 arg11 harg11 arg12 harg12 arg13 harg13 hc0 x2 x3 wb eb hW hE hlt]
  have hs := sc_A c i arg1 harg1 arg2 harg2 arg3 harg3 arg4 harg4 arg5 harg5 arg6 harg6 arg7 harg7 arg8 harg8 arg9 harg9 arg10 harg10 arg11 harg11 arg12 harg12 arg13 harg13 x0 x1 xr h hX hC
  have hv := cf_read_A c i arg1 harg1 arg2 harg2 arg3 harg3 arg4 harg4 arg5 harg5 arg6 harg6 arg7 harg7 arg8 harg8 arg9 harg9 arg10 harg10 arg11 harg11 arg12 harg12 arg13 harg13 x0 x1 xr h hX hC
  have hz : ∀ r : Rect S1x2048, View.readAt (Elt Ideal) arg5.view r.toLoadRect (harg5.unread x4) = View.ld (Val := Elt Ideal) (e' := .f32) x4 r := fun r => by
    rw [View.readAt_eq_ld, harg5.read_unread]
  refine pcons (yO_piece _ _ _ _ xr h wb eb x4 hs hv 1920 1792 rfl inb_S128x2048_S128x128_0_1920 inb_S6144x2048_S6144x256_0_1792 inb_S1x2048_S1x128_0_1920 (hw (Rect.unit ![0, 1792] S6144x256.size inb_S6144x2048_S6144x256_0_1792)) (hz (Rect.unit ![0, 1920] S1x128.size inb_S1x2048_S1x128_0_1920))) ?_
  refine pcons (yE_piece _ _ _ _ xr h wb eb x4 hs hv 1792 inb_S128x2048_S128x128_0_1792 inb_S6144x2048_S6144x256_0_1792 inb_S1x2048_S1x128_0_1792 (hw (Rect.unit ![0, 1792] S6144x256.size inb_S6144x2048_S6144x256_0_1792)) (hz (Rect.unit ![0, 1792] S1x128.size inb_S1x2048_S1x128_0_1792))) ?_
  refine pcons (yO_piece _ _ _ _ xr h wb eb x4 hs hv 1664 1536 rfl inb_S128x2048_S128x128_0_1664 inb_S6144x2048_S6144x256_0_1536 inb_S1x2048_S1x128_0_1664 (hw (Rect.unit ![0, 1536] S6144x256.size inb_S6144x2048_S6144x256_0_1536)) (hz (Rect.unit ![0, 1664] S1x128.size inb_S1x2048_S1x128_0_1664))) ?_
  refine pcons (yE_piece _ _ _ _ xr h wb eb x4 hs hv 1536 inb_S128x2048_S128x128_0_1536 inb_S6144x2048_S6144x256_0_1536 inb_S1x2048_S1x128_0_1536 (hw (Rect.unit ![0, 1536] S6144x256.size inb_S6144x2048_S6144x256_0_1536)) (hz (Rect.unit ![0, 1536] S1x128.size inb_S1x2048_S1x128_0_1536))) ?_
  refine pcons (yO_piece _ _ _ _ xr h wb eb x4 hs hv 1408 1280 rfl inb_S128x2048_S128x128_0_1408 inb_S6144x2048_S6144x256_0_1280 inb_S1x2048_S1x128_0_1408 (hw (Rect.unit ![0, 1280] S6144x256.size inb_S6144x2048_S6144x256_0_1280)) (hz (Rect.unit ![0, 1408] S1x128.size inb_S1x2048_S1x128_0_1408))) ?_
  refine pcons (yE_piece _ _ _ _ xr h wb eb x4 hs hv 1280 inb_S128x2048_S128x128_0_1280 inb_S6144x2048_S6144x256_0_1280 inb_S1x2048_S1x128_0_1280 (hw (Rect.unit ![0, 1280] S6144x256.size inb_S6144x2048_S6144x256_0_1280)) (hz (Rect.unit ![0, 1280] S1x128.size inb_S1x2048_S1x128_0_1280))) ?_
  refine pcons (yO_piece _ _ _ _ xr h wb eb x4 hs hv 1152 1024 rfl inb_S128x2048_S128x128_0_1152 inb_S6144x2048_S6144x256_0_1024 inb_S1x2048_S1x128_0_1152 (hw (Rect.unit ![0, 1024] S6144x256.size inb_S6144x2048_S6144x256_0_1024)) (hz (Rect.unit ![0, 1152] S1x128.size inb_S1x2048_S1x128_0_1152))) ?_
  refine pcons (yE_piece _ _ _ _ xr h wb eb x4 hs hv 1024 inb_S128x2048_S128x128_0_1024 inb_S6144x2048_S6144x256_0_1024 inb_S1x2048_S1x128_0_1024 (hw (Rect.unit ![0, 1024] S6144x256.size inb_S6144x2048_S6144x256_0_1024)) (hz (Rect.unit ![0, 1024] S1x128.size inb_S1x2048_S1x128_0_1024))) ?_
  refine pcons (yO_piece _ _ _ _ xr h wb eb x4 hs hv 896 768 rfl inb_S128x2048_S128x128_0_896 inb_S6144x2048_S6144x256_0_768 inb_S1x2048_S1x128_0_896 (hw (Rect.unit ![0, 768] S6144x256.size inb_S6144x2048_S6144x256_0_768)) (hz (Rect.unit ![0, 896] S1x128.size inb_S1x2048_S1x128_0_896))) ?_
  refine pcons (yE_piece _ _ _ _ xr h wb eb x4 hs hv 768 inb_S128x2048_S128x128_0_768 inb_S6144x2048_S6144x256_0_768 inb_S1x2048_S1x128_0_768 (hw (Rect.unit ![0, 768] S6144x256.size inb_S6144x2048_S6144x256_0_768)) (hz (Rect.unit ![0, 768] S1x128.size inb_S1x2048_S1x128_0_768))) ?_
  refine pcons (yO_piece _ _ _ _ xr h wb eb x4 hs hv 640 512 rfl inb_S128x2048_S128x128_0_640 inb_S6144x2048_S6144x256_0_512 inb_S1x2048_S1x128_0_640 (hw (Rect.unit ![0, 512] S6144x256.size inb_S6144x2048_S6144x256_0_512)) (hz (Rect.unit ![0, 640] S1x128.size inb_S1x2048_S1x128_0_640))) ?_
  refine pcons (yE_piece _ _ _ _ xr h wb eb x4 hs hv 512 inb_S128x2048_S128x128_0_512 inb_S6144x2048_S6144x256_0_512 inb_S1x2048_S1x128_0_512 (hw (Rect.unit ![0, 512] S6144x256.size inb_S6144x2048_S6144x256_0_512)) (hz (Rect.unit ![0, 512] S1x128.size inb_S1x2048_S1x128_0_512))) ?_
  refine pcons (yO_piece _ _ _ _ xr h wb eb x4 hs hv 384 256 rfl inb_S128x2048_S128x128_0_384 inb_S6144x2048_S6144x256_0_256 inb_S1x2048_S1x128_0_384 (hw (Rect.unit ![0, 256] S6144x256.size inb_S6144x2048_S6144x256_0_256)) (hz (Rect.unit ![0, 384] S1x128.size inb_S1x2048_S1x128_0_384))) ?_
  refine pcons (yE_piece _ _ _ _ xr h wb eb x4 hs hv 256 inb_S128x2048_S128x128_0_256 inb_S6144x2048_S6144x256_0_256 inb_S1x2048_S1x128_0_256 (hw (Rect.unit ![0, 256] S6144x256.size inb_S6144x2048_S6144x256_0_256)) (hz (Rect.unit ![0, 256] S1x128.size inb_S1x2048_S1x128_0_256))) ?_
  refine pcons (yO_piece _ _ _ _ xr h wb eb x4 hs hv 128 0 rfl inb_S128x2048_S128x128_0_128 inb_S6144x2048_S6144x256_0_0 inb_S1x2048_S1x128_0_128 (hw (Rect.unit ![0, 0] S6144x256.size inb_S6144x2048_S6144x256_0_0)) (hz (Rect.unit ![0, 128] S1x128.size inb_S1x2048_S1x128_0_128))) ?_
  refine pcons (yE_piece _ _ _ _ xr h wb eb x4 hs hv 0 inb_S128x2048_S128x128_0_0 inb_S6144x2048_S6144x256_0_0 inb_S1x2048_S1x128_0_0 (hw (Rect.unit ![0, 0] S6144x256.size inb_S6144x2048_S6144x256_0_0)) (hz (Rect.unit ![0, 0] S1x128.size inb_S1x2048_S1x128_0_0))) ?_
  exact trivial

/-- What the point leaves in the product's block. -/
theorem out5_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = yG xr h wb eb x4 := by
  unfold out0_A_5
  exact funext fun y => View.read_writes_apply_of_pieces VO0_5 VO0_5.junk (yG xr h wb eb x4) _ (y_pieces_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xr h hX hH wb eb hW hE hlt).mem y (cover0_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 y)

/-- Every stored piece of the codes. -/
theorem code_pieces_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    View.PiecesOf (cdG xr h) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1 := by
  have hC := c_read_A c arg2 harg2 arg10 x1 h hH
  have ha := inv_A c i arg1 harg1 arg2 harg2 arg3 harg3 arg4 harg4 arg5 harg5 arg6 harg6 arg7 harg7 arg8 harg8 arg9 harg9 arg10 harg10 arg11 harg11 arg12 harg12 arg13 harg13 x0 x1 xr h hX hC
  have hv := (rot_A c i arg1 harg1 arg2 harg2 arg3 harg3 arg4 harg4 arg5 harg5 arg6 harg6 arg7 harg7 arg8 harg8 arg9 harg9 arg10 harg10 arg11 harg11 arg12 harg12 arg13 harg13 x0 x1 xr h hX hC).1
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1665 c i arg1 harg1 arg2 harg2 arg3 harg3 arg4 harg4 arg5 harg5 arg6 harg6 arg7 harg7 arg8 harg8 arg9 harg9 arg10 harg10 arg11 harg11 arg12 harg12 arg13 harg13 x0 x1) xr h ha 23 16 6016 rfl inb_S128x6144_S128x128_0_6016 inb_S24x32x8x128_S1x16x8x128_23_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1645 c i arg1 harg1 arg2 harg2 arg3 harg3 arg4 harg4 arg5 harg5 arg6 harg6 arg7 harg7 arg8 harg8 arg9 harg9 arg10 harg10 arg11 harg11 arg12 harg12 arg13 harg13 x0 x1) xr h ha 23 0 5888 rfl inb_S128x6144_S128x128_0_5888 inb_S24x32x8x128_S1x16x8x128_23_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1625 c i arg1 harg1 arg2 harg2 arg3 harg3 arg4 harg4 arg5 harg5 arg6 harg6 arg7 harg7 arg8 harg8 arg9 harg9 arg10 harg10 arg11 harg11 arg12 harg12 arg13 harg13 x0 x1) xr h ha 22 16 5760 rfl inb_S128x6144_S128x128_0_5760 inb_S24x32x8x128_S1x16x8x128_22_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1605 c i arg1 harg1 arg2 harg2 arg3 harg3 arg4 harg4 arg5 harg5 arg6 harg6 arg7 harg7 arg8 harg8 arg9 harg9 arg10 harg10 arg11 harg11 arg12 harg12 arg13 harg13 x0 x1) xr h ha 22 0 5632 rfl inb_S128x6144_S128x128_0_5632 inb_S24x32x8x128_S1x16x8x128_22_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1585 c i arg1 harg1 arg2 harg2 arg3 harg3 arg4 harg4 arg5 harg5 arg6 harg6 arg7 harg7 arg8 harg8 arg9 harg9 arg10 harg10 arg11 harg11 arg12 harg12 arg13 harg13 x0 x1) xr h ha 21 16 5504 rfl inb_S128x6144_S128x128_0_5504 inb_S24x32x8x128_S1x16x8x128_21_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1565 c i arg1 harg1 arg2 harg2 arg3 harg3 arg4 harg4 arg5 harg5 arg6 harg6 arg7 harg7 arg8 harg8 arg9 harg9 arg10 harg10 arg11 harg11 arg12 harg12 arg13 harg13 x0 x1) xr h ha 21 0 5376 rfl inb_S128x6144_S128x128_0_5376 inb_S24x32x8x128_S1x16x8x128_21_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1545 c i arg1 harg1 arg2 harg2 arg3 harg3 arg4 harg4 arg5 harg5 arg6 harg6 arg7 harg7 arg8 harg8 arg9 harg9 arg10 harg10 arg11 harg11 arg12 harg12 arg13 harg13 x0 x1) xr h ha 20 16 5248 rfl inb_S128x6144_S128x128_0_5248 inb_S24x32x8x128_S1x16x8x128_20_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1525 c i arg1 harg1 arg2 harg2 arg3 harg3 arg4 harg4 arg5 harg5 arg6 harg6 arg7 harg7 arg8 harg8 arg9 harg9 arg10 harg10 arg11 harg11 arg12 harg12 arg13 harg13 x0 x1) xr h ha 20 0 5120 rfl inb_S128x6144_S128x128_0_5120 inb_S24x32x8x128_S1x16x8x128_20_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1505 c i arg1 harg1 arg2 harg2 arg3 harg3 arg4 harg4 arg5 harg5 arg6 harg6 arg7 harg7 arg8 harg8 arg9 harg9 arg10 harg10 arg11 harg11 arg12 harg12 arg13 harg13 x0 x1) xr h ha 19 16 4992 rfl inb_S128x6144_S128x128_0_4992 inb_S24x32x8x128_S1x16x8x128_19_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1485 c i arg1 harg1 arg2 harg2 arg3 harg3 arg4 harg4 arg5 harg5 arg6 harg6 arg7 harg7 arg8 harg8 arg9 harg9 arg10 harg10 arg11 harg11 arg12 harg12 arg13 harg13 x0 x1) xr h ha 19 0 4864 rfl inb_S128x6144_S128x128_0_4864 inb_S24x32x8x128_S1x16x8x128_19_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1465 c i arg1 harg1 arg2 harg2 arg3 harg3 arg4 harg4 arg5 harg5 arg6 harg6 arg7 harg7 arg8 harg8 arg9 harg9 arg10 harg10 arg11 harg11 arg12 harg12 arg13 harg13 x0 x1) xr h ha 18 16 4736 rfl inb_S128x6144_S128x128_0_4736 inb_S24x32x8x128_S1x16x8x128_18_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1445 c i arg1 harg1 arg2 harg2 arg3 harg3 arg4 harg4 arg5 harg5 arg6 harg6 arg7 harg7 arg8 harg8 arg9 harg9 arg10 harg10 arg11 harg11 arg12 harg12 arg13 harg13 x0 x1) xr h ha 18 0 4608 rfl inb_S128x6144_S128x128_0_4608 inb_S24x32x8x128_S1x16x8x128_18_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1425 c i arg1 harg1 arg2 harg2 arg3 harg3 arg4 harg4 arg5 harg5 arg6 harg6 arg7 harg7 arg8 harg8 arg9 harg9 arg10 harg10 arg11 harg11 arg12 harg12 arg13 harg13 x0 x1) xr h ha 17 16 4480 rfl inb_S128x6144_S128x128_0_4480 inb_S24x32x8x128_S1x16x8x128_17_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1405 c i arg1 harg1 arg2 harg2 arg3 harg3 arg4 harg4 arg5 harg5 arg6 harg6 arg7 harg7 arg8 harg8 arg9 harg9 arg10 harg10 arg11 harg11 arg12 harg12 arg13 harg13 x0 x1) xr h ha 17 0 4352 rfl inb_S128x6144_S128x128_0_4352 inb_S24x32x8x128_S1x16x8x128_17_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1385 c i arg1 harg1 arg2 harg2 arg3 harg3 arg4 harg4 arg5 harg5 arg6 harg6 arg7 harg7 arg8 harg8 arg9 harg9 arg10 harg10 arg11 harg11 arg12 harg12 arg13 harg13 x0 x1) xr h ha 16 16 4224 rfl inb_S128x6144_S128x128_0_4224 inb_S24x32x8x128_S1x16x8x128_16_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1365 c i arg1 harg1 arg2 harg2 arg3 harg3 arg4 harg4 arg5 harg5 arg6 harg6 arg7 harg7 arg8 harg8 arg9 harg9 arg10 harg10 arg11 harg11 arg12 harg12 arg13 harg13 x0 x1) xr h ha 16 0 4096 rfl inb_S128x6144_S128x128_0_4096 inb_S24x32x8x128_S1x16x8x128_16_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1345 c i arg1 harg1 arg2 harg2 arg3 harg3 arg4 harg4 arg5 harg5 arg6 harg6 arg7 harg7 arg8 harg8 arg9 harg9 arg10 harg10 arg11 harg11 arg12 harg12 arg13 harg13 x0 x1) xr h ha 15 16 3968 rfl inb_S128x6144_S128x128_0_3968 inb_S24x32x8x128_S1x16x8x128_15_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1325 c i arg1 harg1 arg2 harg2 arg3 harg3 arg4 harg4 arg5 harg5 arg6 harg6 arg7 harg7 arg8 harg8 arg9 harg9 arg10 harg10 arg11 harg11 arg12 harg12 arg13 harg13 x0 x1) xr h ha 15 0 3840 rfl inb_S128x6144_S128x128_0_3840 inb_S24x32x8x128_S1x16x8x128_15_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1305 c i arg1 harg1 arg2 harg2 arg3 harg3 arg4 harg4 arg5 harg5 arg6 harg6 arg7 harg7 arg8 harg8 arg9 harg9 arg10 harg10 arg11 harg11 arg12 harg12 arg13 harg13 x0 x1) xr h ha 14 16 3712 rfl inb_S128x6144_S128x128_0_3712 inb_S24x32x8x128_S1x16x8x128_14_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1285 c i arg1 harg1 arg2 harg2 arg3 harg3 arg4 harg4 arg5 harg5 arg6 harg6 arg7 harg7 arg8 harg8 arg9 harg9 arg10 harg10 arg11 harg11 arg12 harg12 arg13 harg13 x0 x1) xr h ha 14 0 3584 rfl inb_S128x6144_S128x128_0_3584 inb_S24x32x8x128_S1x16x8x128_14_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1265 c i arg1 harg1 arg2 harg2 arg3 harg3 arg4 harg4 arg5 harg5 arg6 harg6 arg7 harg7 arg8 harg8 arg9 harg9 arg10 harg10 arg11 harg11 arg12 harg12 arg13 harg13 x0 x1) xr h ha 13 16 3456 rfl inb_S128x6144_S128x128_0_3456 inb_S24x32x8x128_S1x16x8x128_13_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1245 c i arg1 harg1 arg2 harg2 arg3 harg3 arg4 harg4 arg5 harg5 arg6 harg6 arg7 harg7 arg8 harg8 arg9 harg9 arg10 harg10 arg11 harg11 arg12 harg12 arg13 harg13 x0 x1) xr h ha 13 0 3328 rfl inb_S128x6144_S128x128_0_3328 inb_S24x32x8x128_S1x16x8x128_13_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1225 c i arg1 harg1 arg2 harg2 arg3 harg3 arg4 harg4 arg5 harg5 arg6 harg6 arg7 harg7 arg8 harg8 arg9 harg9 arg10 harg10 arg11 harg11 arg12 harg12 arg13 harg13 x0 x1) xr h ha 12 16 3200 rfl inb_S128x6144_S128x128_0_3200 inb_S24x32x8x128_S1x16x8x128_12_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1205 c i arg1 harg1 arg2 harg2 arg3 harg3 arg4 harg4 arg5 harg5 arg6 harg6 arg7 harg7 arg8 harg8 arg9 harg9 arg10 harg10 arg11 harg11 arg12 harg12 arg13 harg13 x0 x1) xr h ha 12 0 3072 rfl inb_S128x6144_S128x128_0_3072 inb_S24x32x8x128_S1x16x8x128_12_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1185 c i arg1 harg1 arg2 harg2 arg3 harg3 arg4 harg4 arg5 harg5 arg6 harg6 arg7 harg7 arg8 harg8 arg9 harg9 arg10 harg10 arg11 harg11 arg12 harg12 arg13 harg13 x0 x1) xr h ha 11 16 2944 rfl inb_S128x6144_S128x128_0_2944 inb_S24x32x8x128_S1x16x8x128_11_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1165 c i arg1 harg1 arg2 harg2 arg3 harg3 arg4 harg4 arg5 harg5 arg6 harg6 arg7 harg7 arg8 harg8 arg9 harg9 arg10 harg10 arg11 harg11 arg12 harg12 arg13 harg13 x0 x1) xr h ha 11 0 2816 rfl inb_S128x6144_S128x128_0_2816 inb_S24x32x8x128_S1x16x8x128_11_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1145 c i arg1 harg1 arg2 harg2 arg3 harg3 arg4 harg4 arg5 harg5 arg6 harg6 arg7 harg7 arg8 harg8 arg9 harg9 arg10 harg10 arg11 harg11 arg12 harg12 arg13 harg13 x0 x1) xr h ha 10 16 2688 rfl inb_S128x6144_S128x128_0_2688 inb_S24x32x8x128_S1x16x8x128_10_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1125 c i arg1 harg1 arg2 harg2 arg3 harg3 arg4 harg4 arg5 harg5 arg6 harg6 arg7 harg7 arg8 harg8 arg9 harg9 arg10 harg10 arg11 harg11 arg12 harg12 arg13 harg13 x0 x1) xr h ha 10 0 2560 rfl inb_S128x6144_S128x128_0_2560 inb_S24x32x8x128_S1x16x8x128_10_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1105 c i arg1 harg1 arg2 harg2 arg3 harg3 arg4 harg4 arg5 harg5 arg6 harg6 arg7 harg7 arg8 harg8 arg9 harg9 arg10 harg10 arg11 harg11 arg12 harg12 arg13 harg13 x0 x1) xr h ha 9 16 2432 rfl inb_S128x6144_S128x128_0_2432 inb_S24x32x8x128_S1x16x8x128_9_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1085 c i arg1 harg1 arg2 harg2 arg3 harg3 arg4 harg4 arg5 harg5 arg6 harg6 arg7 harg7 arg8 harg8 arg9 harg9 arg10 harg10 arg11 harg11 arg12 harg12 arg13 harg13 x0 x1) xr h ha 9 0 2304 rfl inb_S128x6144_S128x128_0_2304 inb_S24x32x8x128_S1x16x8x128_9_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1065 c i arg1 harg1 arg2 harg2 arg3 harg3 arg4 harg4 arg5 harg5 arg6 harg6 arg7 harg7 arg8 harg8 arg9 harg9 arg10 harg10 arg11 harg11 arg12 harg12 arg13 harg13 x0 x1) xr h ha 8 16 2176 rfl inb_S128x6144_S128x128_0_2176 inb_S24x32x8x128_S1x16x8x128_8_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1045 c i arg1 harg1 arg2 harg2 arg3 harg3 arg4 harg4 arg5 harg5 arg6 harg6 arg7 harg7 arg8 harg8 arg9 harg9 arg10 harg10 arg11 harg11 arg12 harg12 arg13 harg13 x0 x1) xr h ha 8 0 2048 rfl inb_S128x6144_S128x128_0_2048 inb_S24x32x8x128_S1x16x8x128_8_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1025 c i arg1 harg1 arg2 harg2 arg3 harg3 arg4 harg4 arg5 harg5 arg6 harg6 arg7 harg7 arg8 harg8 arg9 harg9 arg10 harg10 arg11 harg11 arg12 harg12 arg13 harg13 x0 x1) xr h ha 7 16 1920 rfl inb_S128x6144_S128x128_0_1920 inb_S24x32x8x128_S1x16x8x128_7_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v1005 c i arg1 harg1 arg2 harg2 arg3 harg3 arg4 harg4 arg5 harg5 arg6 harg6 arg7 harg7 arg8 harg8 arg9 harg9 arg10 harg10 arg11 harg11 arg12 harg12 arg13 harg13 x0 x1) xr h ha 7 0 1792 rfl inb_S128x6144_S128x128_0_1792 inb_S24x32x8x128_S1x16x8x128_7_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v985 c i arg1 harg1 arg2 harg2 arg3 harg3 arg4 harg4 arg5 harg5 arg6 harg6 arg7 harg7 arg8 harg8 arg9 harg9 arg10 harg10 arg11 harg11 arg12 harg12 arg13 harg13 x0 x1) xr h ha 6 16 1664 rfl inb_S128x6144_S128x128_0_1664 inb_S24x32x8x128_S1x16x8x128_6_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v965 c i arg1 harg1 arg2 harg2 arg3 harg3 arg4 harg4 arg5 harg5 arg6 harg6 arg7 harg7 arg8 harg8 arg9 harg9 arg10 harg10 arg11 harg11 arg12 harg12 arg13 harg13 x0 x1) xr h ha 6 0 1536 rfl inb_S128x6144_S128x128_0_1536 inb_S24x32x8x128_S1x16x8x128_6_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v945 c i arg1 harg1 arg2 harg2 arg3 harg3 arg4 harg4 arg5 harg5 arg6 harg6 arg7 harg7 arg8 harg8 arg9 harg9 arg10 harg10 arg11 harg11 arg12 harg12 arg13 harg13 x0 x1) xr h ha 5 16 1408 rfl inb_S128x6144_S128x128_0_1408 inb_S24x32x8x128_S1x16x8x128_5_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v925 c i arg1 harg1 arg2 harg2 arg3 harg3 arg4 harg4 arg5 harg5 arg6 harg6 arg7 harg7 arg8 harg8 arg9 harg9 arg10 harg10 arg11 harg11 arg12 harg12 arg13 harg13 x0 x1) xr h ha 5 0 1280 rfl inb_S128x6144_S128x128_0_1280 inb_S24x32x8x128_S1x16x8x128_5_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v905 c i arg1 harg1 arg2 harg2 arg3 harg3 arg4 harg4 arg5 harg5 arg6 harg6 arg7 harg7 arg8 harg8 arg9 harg9 arg10 harg10 arg11 harg11 arg12 harg12 arg13 harg13 x0 x1) xr h ha 4 16 1152 rfl inb_S128x6144_S128x128_0_1152 inb_S24x32x8x128_S1x16x8x128_4_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v885 c i arg1 harg1 arg2 harg2 arg3 harg3 arg4 harg4 arg5 harg5 arg6 harg6 arg7 harg7 arg8 harg8 arg9 harg9 arg10 harg10 arg11 harg11 arg12 harg12 arg13 harg13 x0 x1) xr h ha 4 0 1024 rfl inb_S128x6144_S128x128_0_1024 inb_S24x32x8x128_S1x16x8x128_4_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v865 c i arg1 harg1 arg2 harg2 arg3 harg3 arg4 harg4 arg5 harg5 arg6 harg6 arg7 harg7 arg8 harg8 arg9 harg9 arg10 harg10 arg11 harg11 arg12 harg12 arg13 harg13 x0 x1) xr h ha 3 16 896 rfl inb_S128x6144_S128x128_0_896 inb_S24x32x8x128_S1x16x8x128_3_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v845 c i arg1 harg1 arg2 harg2 arg3 harg3 arg4 harg4 arg5 harg5 arg6 harg6 arg7 harg7 arg8 harg8 arg9 harg9 arg10 harg10 arg11 harg11 arg12 harg12 arg13 harg13 x0 x1) xr h ha 3 0 768 rfl inb_S128x6144_S128x128_0_768 inb_S24x32x8x128_S1x16x8x128_3_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v825 c i arg1 harg1 arg2 harg2 arg3 harg3 arg4 harg4 arg5 harg5 arg6 harg6 arg7 harg7 arg8 harg8 arg9 harg9 arg10 harg10 arg11 harg11 arg12 harg12 arg13 harg13 x0 x1) xr h ha 2 16 640 rfl inb_S128x6144_S128x128_0_640 inb_S24x32x8x128_S1x16x8x128_2_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v805 c i arg1 harg1 arg2 harg2 arg3 harg3 arg4 harg4 arg5 harg5 arg6 harg6 arg7 harg7 arg8 harg8 arg9 harg9 arg10 harg10 arg11 harg11 arg12 harg12 arg13 harg13 x0 x1) xr h ha 2 0 512 rfl inb_S128x6144_S128x128_0_512 inb_S24x32x8x128_S1x16x8x128_2_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v785 c i arg1 harg1 arg2 harg2 arg3 harg3 arg4 harg4 arg5 harg5 arg6 harg6 arg7 harg7 arg8 harg8 arg9 harg9 arg10 harg10 arg11 harg11 arg12 harg12 arg13 harg13 x0 x1) xr h ha 1 16 384 rfl inb_S128x6144_S128x128_0_384 inb_S24x32x8x128_S1x16x8x128_1_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v765 c i arg1 harg1 arg2 harg2 arg3 harg3 arg4 harg4 arg5 harg5 arg6 harg6 arg7 harg7 arg8 harg8 arg9 harg9 arg10 harg10 arg11 harg11 arg12 harg12 arg13 harg13 x0 x1) xr h ha 1 0 256 rfl inb_S128x6144_S128x128_0_256 inb_S24x32x8x128_S1x16x8x128_1_0_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v745 c i arg1 harg1 arg2 harg2 arg3 harg3 arg4 harg4 arg5 harg5 arg6 harg6 arg7 harg7 arg8 harg8 arg9 harg9 arg10 harg10 arg11 harg11 arg12 harg12 arg13 harg13 x0 x1) xr h ha 0 16 128 rfl inb_S128x6144_S128x128_0_128 inb_S24x32x8x128_S1x16x8x128_0_16_0_0 (hv _)) ?_
  refine pcons (code_piece (kernelRun0_A.sl.r_25 c i arg1 harg1 arg2 harg2 arg3 harg3 arg4 harg4 arg5 harg5 arg6 harg6 arg7 harg7 arg8 harg8 arg9 harg9 arg10 harg10 arg11 harg11 arg12 harg12 arg13 harg13 x0 x1) (kernelRun0_A.sl.v725 c i arg1 harg1 arg2 harg2 arg3 harg3 arg4 harg4 arg5 harg5 arg6 harg6 arg7 harg7 arg8 harg8 arg9 harg9 arg10 harg10 arg11 harg11 arg12 harg12 arg13 harg13 x0 x1) xr h ha 0 0 0 rfl inb_S128x6144_S128x128_0_0 inb_S24x32x8x128_S1x16x8x128_0_0_0_0 (hv _)) ?_
  exact trivial

/-- What the point leaves in the codes' block. -/
theorem out6_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = cdG xr h := by
  unfold out0_A_6
  exact funext fun y => View.read_writes_apply_of_pieces VO0_6 VO0_6.junk (cdG xr h) _ (code_pieces_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xr h hX hH wb eb hW hE hlt).mem y (cover0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 y)

/-- Every stored piece of the scales. -/
theorem s_pieces_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    View.PiecesOf (sG xr h) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1 := by
  have hC := c_read_A c arg2 harg2 arg10 x1 h hH
  refine pcons (s_piece _ xr h (sc_A c i arg1 harg1 arg2 harg2 arg3 harg3 arg4 harg4 arg5 harg5 arg6 harg6 arg7 harg7 arg8 harg8 arg9 harg9 arg10 harg10 arg11 harg11 arg12 harg12 arg13 harg13 x0 x1 xr h hX hC) inb_S1x1x128_S1x1x128_0_0_0) ?_
  exact trivial

/-- What the point leaves in the scales' block. -/
theorem out7_A (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = sG xr h := by
  unfold out0_A_7
  exact funext fun y => View.read_writes_apply_of_pieces VO0_7 VO0_7.junk (sG xr h) _ (s_pieces_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xr h hX hH wb eb hW hE hlt).mem y (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 y)

/-- The first point leaves the weights in the carried scratch. -/
theorem sout0_A_w (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = wG wb eb := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4)]
  exact w_canon c i arg1 harg1 arg2 harg2 arg3 harg3 arg4 harg4 arg5 harg5 arg6 harg6 arg7 harg7 arg8 harg8 arg9 harg9 arg10 harg10 arg11 harg11 arg12 harg12 arg13 harg13 hc0 x2 x3 wb eb hW hE hlt

/-- The first point leaves the rotation's matrix in the carried scratch. -/
theorem sout0_A_c (hc0 : cond0_0 i) (x0 : Vec Ideal S128x6144 .bf16) (x1 : Vec Ideal S24x24 .f32) (x2 : Vec Ideal S3072x2048 .i8) (x3 : Vec Ideal S48x1x2048 .i8) (x4 : Vec Ideal S1x2048 .f32) (xr : ℕ → ℕ → EReal) (h : ℕ → ℕ → EReal)
    (hX : ∀ (t : Fin 128) (k : Fin 6144), x0 (ix2 t k) = xr t.val k.val)
    (hH : ∀ j k : Fin 24, x1 (ix2 j k) = h j.val k.val) (wb eb : ℕ → ℕ → BitVec 8)
    (hW : ∀ (i : Fin 3072) (n : Fin 2048), x2 (ix2 i n) = wb i.val n.val)
    (hE : ∀ (g : Fin 48) (n : Fin 2048), x3 (ix3 g 0 n) = eb g.val n.val)
    (hlt : ∀ (g : Fin 48) (n : Fin 2048), (eb g.val n.val).toNat < 127) (a b : Fin 192) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 a b) = h (a.val / 8) (b.val / 8) * ((sg (a.val % 8 &&& b.val % 8) : ℝ) : EReal) := by
  have e := c_read_A c arg2 harg2 arg10 x1 h hH a b
  unfold kernelRun0_A.sl.v395 at e
  rw [View.readCov_eq_canon'] at e
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4), ← e]
  refine congrArg (View.canon (kernelRun0_A.sl.HS1_1 (F := Ideal) c arg2 harg2 x1)) (funext fun q => Fin.ext ?_)
  fin_cases q
  · show a.val = 0 + 1 * a.val
    omega
  · show b.val = 0 + 1 * b.val
    omega

end

/-- The rotation's matrix as the block reads it. -/
theorem c_read_B (arg10 : Memref sig .tc .vmem S192x192 .bf16) (harg10 : arg10.IsWhole)
    (xs1 : Vec Ideal S192x192 .bf16) (h : ℕ → ℕ → EReal) (hD : ∀ a b : Fin 192, xs1 (ix2 a b) = h (a.val / 8) (b.val / 8) * ((sg (a.val % 8 &&& b.val % 8) : ℝ) : EReal)) (a b : Fin 192) :
    (View.readAt (Elt Ideal) arg10.view (Rect.unit (s := S192x192) ![0, 0] S192x192.size inb_S192x192_S192x192_0_0).toLoadRect (harg10.unread xs1)) (ix2 a b) = h (a.val / 8) (b.val / 8) * ((sg (a.val % 8 &&& b.val % 8) : ℝ) : EReal) := by
  rw [← hD, View.readAt_eq_ld, harg10.read_unread]
  refine congrArg xs1 (funext fun q => Fin.ext ?_)
  fin_cases q
  · show 0 + 1 * a.val = a.val
    omega
  · show 0 + 1 * b.val = b.val
    omega

section
variable (c : Dev nD) (i : grid0.Coords) (arg1 : Memref sig .tc .vmem S128x6144 .bf16) (harg1 : arg1.IsWhole) (arg2 : Memref sig .tc .vmem S24x24 .f32) (harg2 : arg2.IsWhole) (arg3 : Memref sig .tc .vmem S3072x2048 .i8) (harg3 : arg3.IsWhole) (arg4 : Memref sig .tc .vmem S48x1x2048 .i8) (harg4 : arg4.IsWhole) (arg5 : Memref sig .tc .vmem S1x2048 .f32) (harg5 : arg5.IsWhole) (arg6 : Memref sig .tc .vmem S128x2048 .bf16) (harg6 : arg6.IsWhole) (arg7 : Memref sig .tc .vmem S128x6144 .i8) (harg7 : arg7.IsWhole) (arg8 : Memref sig .tc .vmem S1x1x128 .f32) (harg8 : arg8.IsWhole) (arg9 : Memref sig .tc .vmem S6144x2048 .fp8e4m3) (harg9 : arg9.IsWhole) (arg10 : Memref sig .tc .vmem S192x192 .bf16) (harg10 : arg10.IsWhole) (arg11 : Memref sig .tc .vmem S24x32x8x128 .f32) (harg11 : arg11.IsWhole) (arg12 : Memref sig .tc .vmem S24x32x8x128 .f32) (harg12 : arg12.IsWhole) (arg13 : Memref sig .tc .vmem S128x6144 .fp8e4m3) (harg13 : arg13.IsWhole)

/-- Every stored piece of the product. -/
theorem y_pieces_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    View.PiecesOf (yG xr h wb eb x4) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).1 := by
  have hC := c_read_B arg10 harg10 xs1 h hD
  have hw : ∀ r : Rect S6144x2048, View.readAt (Elt Ideal) arg9.view r.toLoadRect (harg9.unread xs0)
      = View.ld (Val := Elt Ideal) (e' := .fp8e4m3) (wG wb eb) r := fun r => by
    rw [View.readAt_eq_ld, harg9.read_unread, hS]
  have hs := sc_B c i arg1 harg1 arg2 harg2 arg3 harg3 arg4 harg4 arg5 harg5 arg6 harg6 arg7 harg7 arg8 harg8 arg9 harg9 arg10 harg10 arg11 harg11 arg12 harg12 arg13 harg13 x0 xs1 xr h hX hC
  have hv := cf_read_B c i arg1 harg1 arg2 harg2 arg3 harg3 arg4 harg4 arg5 harg5 arg6 harg6 arg7 harg7 arg8 harg8 arg9 harg9 arg10 harg10 arg11 harg11 arg12 harg12 arg13 harg13 x0 xs1 xr h hX hC
  have hz : ∀ r : Rect S1x2048, View.readAt (Elt Ideal) arg5.view r.toLoadRect (harg5.unread x4) = View.ld (Val := Elt Ideal) (e' := .f32) x4 r := fun r => by
    rw [View.readAt_eq_ld, harg5.read_unread]
  refine pcons (yO_piece _ _ _ _ xr h wb eb x4 hs hv 1920 1792 rfl inb_S128x2048_S128x128_0_1920 inb_S6144x2048_S6144x256_0_1792 inb_S1x2048_S1x128_0_1920 (hw (Rect.unit ![0, 1792] S6144x256.size inb_S6144x2048_S6144x256_0_1792)) (hz (Rect.unit ![0, 1920] S1x128.size inb_S1x2048_S1x128_0_1920))) ?_
  refine pcons (yE_piece _ _ _ _ xr h wb eb x4 hs hv 1792 inb_S128x2048_S128x128_0_1792 inb_S6144x2048_S6144x256_0_1792 inb_S1x2048_S1x128_0_1792 (hw (Rect.unit ![0, 1792] S6144x256.size inb_S6144x2048_S6144x256_0_1792)) (hz (Rect.unit ![0, 1792] S1x128.size inb_S1x2048_S1x128_0_1792))) ?_
  refine pcons (yO_piece _ _ _ _ xr h wb eb x4 hs hv 1664 1536 rfl inb_S128x2048_S128x128_0_1664 inb_S6144x2048_S6144x256_0_1536 inb_S1x2048_S1x128_0_1664 (hw (Rect.unit ![0, 1536] S6144x256.size inb_S6144x2048_S6144x256_0_1536)) (hz (Rect.unit ![0, 1664] S1x128.size inb_S1x2048_S1x128_0_1664))) ?_
  refine pcons (yE_piece _ _ _ _ xr h wb eb x4 hs hv 1536 inb_S128x2048_S128x128_0_1536 inb_S6144x2048_S6144x256_0_1536 inb_S1x2048_S1x128_0_1536 (hw (Rect.unit ![0, 1536] S6144x256.size inb_S6144x2048_S6144x256_0_1536)) (hz (Rect.unit ![0, 1536] S1x128.size inb_S1x2048_S1x128_0_1536))) ?_
  refine pcons (yO_piece _ _ _ _ xr h wb eb x4 hs hv 1408 1280 rfl inb_S128x2048_S128x128_0_1408 inb_S6144x2048_S6144x256_0_1280 inb_S1x2048_S1x128_0_1408 (hw (Rect.unit ![0, 1280] S6144x256.size inb_S6144x2048_S6144x256_0_1280)) (hz (Rect.unit ![0, 1408] S1x128.size inb_S1x2048_S1x128_0_1408))) ?_
  refine pcons (yE_piece _ _ _ _ xr h wb eb x4 hs hv 1280 inb_S128x2048_S128x128_0_1280 inb_S6144x2048_S6144x256_0_1280 inb_S1x2048_S1x128_0_1280 (hw (Rect.unit ![0, 1280] S6144x256.size inb_S6144x2048_S6144x256_0_1280)) (hz (Rect.unit ![0, 1280] S1x128.size inb_S1x2048_S1x128_0_1280))) ?_
  refine pcons (yO_piece _ _ _ _ xr h wb eb x4 hs hv 1152 1024 rfl inb_S128x2048_S128x128_0_1152 inb_S6144x2048_S6144x256_0_1024 inb_S1x2048_S1x128_0_1152 (hw (Rect.unit ![0, 1024] S6144x256.size inb_S6144x2048_S6144x256_0_1024)) (hz (Rect.unit ![0, 1152] S1x128.size inb_S1x2048_S1x128_0_1152))) ?_
  refine pcons (yE_piece _ _ _ _ xr h wb eb x4 hs hv 1024 inb_S128x2048_S128x128_0_1024 inb_S6144x2048_S6144x256_0_1024 inb_S1x2048_S1x128_0_1024 (hw (Rect.unit ![0, 1024] S6144x256.size inb_S6144x2048_S6144x256_0_1024)) (hz (Rect.unit ![0, 1024] S1x128.size inb_S1x2048_S1x128_0_1024))) ?_
  refine pcons (yO_piece _ _ _ _ xr h wb eb x4 hs hv 896 768 rfl inb_S128x2048_S128x128_0_896 inb_S6144x2048_S6144x256_0_768 inb_S1x2048_S1x128_0_896 (hw (Rect.unit ![0, 768] S6144x256.size inb_S6144x2048_S6144x256_0_768)) (hz (Rect.unit ![0, 896] S1x128.size inb_S1x2048_S1x128_0_896))) ?_
  refine pcons (yE_piece _ _ _ _ xr h wb eb x4 hs hv 768 inb_S128x2048_S128x128_0_768 inb_S6144x2048_S6144x256_0_768 inb_S1x2048_S1x128_0_768 (hw (Rect.unit ![0, 768] S6144x256.size inb_S6144x2048_S6144x256_0_768)) (hz (Rect.unit ![0, 768] S1x128.size inb_S1x2048_S1x128_0_768))) ?_
  refine pcons (yO_piece _ _ _ _ xr h wb eb x4 hs hv 640 512 rfl inb_S128x2048_S128x128_0_640 inb_S6144x2048_S6144x256_0_512 inb_S1x2048_S1x128_0_640 (hw (Rect.unit ![0, 512] S6144x256.size inb_S6144x2048_S6144x256_0_512)) (hz (Rect.unit ![0, 640] S1x128.size inb_S1x2048_S1x128_0_640))) ?_
  refine pcons (yE_piece _ _ _ _ xr h wb eb x4 hs hv 512 inb_S128x2048_S128x128_0_512 inb_S6144x2048_S6144x256_0_512 inb_S1x2048_S1x128_0_512 (hw (Rect.unit ![0, 512] S6144x256.size inb_S6144x2048_S6144x256_0_512)) (hz (Rect.unit ![0, 512] S1x128.size inb_S1x2048_S1x128_0_512))) ?_
  refine pcons (yO_piece _ _ _ _ xr h wb eb x4 hs hv 384 256 rfl inb_S128x2048_S128x128_0_384 inb_S6144x2048_S6144x256_0_256 inb_S1x2048_S1x128_0_384 (hw (Rect.unit ![0, 256] S6144x256.size inb_S6144x2048_S6144x256_0_256)) (hz (Rect.unit ![0, 384] S1x128.size inb_S1x2048_S1x128_0_384))) ?_
  refine pcons (yE_piece _ _ _ _ xr h wb eb x4 hs hv 256 inb_S128x2048_S128x128_0_256 inb_S6144x2048_S6144x256_0_256 inb_S1x2048_S1x128_0_256 (hw (Rect.unit ![0, 256] S6144x256.size inb_S6144x2048_S6144x256_0_256)) (hz (Rect.unit ![0, 256] S1x128.size inb_S1x2048_S1x128_0_256))) ?_
  refine pcons (yO_piece _ _ _ _ xr h wb eb x4 hs hv 128 0 rfl inb_S128x2048_S128x128_0_128 inb_S6144x2048_S6144x256_0_0 inb_S1x2048_S1x128_0_128 (hw (Rect.unit ![0, 0] S6144x256.size inb_S6144x2048_S6144x256_0_0)) (hz (Rect.unit ![0, 128] S1x128.size inb_S1x2048_S1x128_0_128))) ?_
  refine pcons (yE_piece _ _ _ _ xr h wb eb x4 hs hv 0 inb_S128x2048_S128x128_0_0 inb_S6144x2048_S6144x256_0_0 inb_S1x2048_S1x128_0_0 (hw (Rect.unit ![0, 0] S6144x256.size inb_S6144x2048_S6144x256_0_0)) (hz (Rect.unit ![0, 0] S1x128.size inb_S1x2048_S1x128_0_0))) ?_
  exact trivial

/-- What the point leaves in the product's block. -/
theorem out5_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 = yG xr h wb eb x4 := by
  unfold out0_B_5
  exact funext fun y => View.read_writes_apply_of_pieces VO0_5 VO0_5.junk (yG xr h wb eb x4) _ (y_pieces_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xr h hX hD wb eb hS).mem y (cover0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 y)

/-- Every stored piece of the codes. -/
theorem code_pieces_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    View.PiecesOf (cdG xr h) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.1 := by
  have hC := c_read_B arg10 harg10 xs1 h hD
  have ha := inv_B c i arg1 harg1 arg2 harg2 arg3 harg3 arg4 harg4 arg5 harg5 arg6 harg6 arg7 harg7 arg8 harg8 arg9 harg9 arg10 harg10 arg11 harg11 arg12 harg12 arg13 harg13 x0 xs1 xr h hX hC
  have hv := (rot_B c i arg1 harg1 arg2 harg2 arg3 harg3 arg4 harg4 arg5 harg5 arg6 harg6 arg7 harg7 arg8 harg8 arg9 harg9 arg10 harg10 arg11 harg11 arg12 harg12 arg13 harg13 x0 xs1 xr h hX hC).1
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1665 c i arg1 harg1 arg2 harg2 arg3 harg3 arg4 harg4 arg5 harg5 arg6 harg6 arg7 harg7 arg8 harg8 arg9 harg9 arg10 harg10 arg11 harg11 arg12 harg12 arg13 harg13 x0 xs1) xr h ha 23 16 6016 rfl inb_S128x6144_S128x128_0_6016 inb_S24x32x8x128_S1x16x8x128_23_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1645 c i arg1 harg1 arg2 harg2 arg3 harg3 arg4 harg4 arg5 harg5 arg6 harg6 arg7 harg7 arg8 harg8 arg9 harg9 arg10 harg10 arg11 harg11 arg12 harg12 arg13 harg13 x0 xs1) xr h ha 23 0 5888 rfl inb_S128x6144_S128x128_0_5888 inb_S24x32x8x128_S1x16x8x128_23_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1625 c i arg1 harg1 arg2 harg2 arg3 harg3 arg4 harg4 arg5 harg5 arg6 harg6 arg7 harg7 arg8 harg8 arg9 harg9 arg10 harg10 arg11 harg11 arg12 harg12 arg13 harg13 x0 xs1) xr h ha 22 16 5760 rfl inb_S128x6144_S128x128_0_5760 inb_S24x32x8x128_S1x16x8x128_22_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1605 c i arg1 harg1 arg2 harg2 arg3 harg3 arg4 harg4 arg5 harg5 arg6 harg6 arg7 harg7 arg8 harg8 arg9 harg9 arg10 harg10 arg11 harg11 arg12 harg12 arg13 harg13 x0 xs1) xr h ha 22 0 5632 rfl inb_S128x6144_S128x128_0_5632 inb_S24x32x8x128_S1x16x8x128_22_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1585 c i arg1 harg1 arg2 harg2 arg3 harg3 arg4 harg4 arg5 harg5 arg6 harg6 arg7 harg7 arg8 harg8 arg9 harg9 arg10 harg10 arg11 harg11 arg12 harg12 arg13 harg13 x0 xs1) xr h ha 21 16 5504 rfl inb_S128x6144_S128x128_0_5504 inb_S24x32x8x128_S1x16x8x128_21_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1565 c i arg1 harg1 arg2 harg2 arg3 harg3 arg4 harg4 arg5 harg5 arg6 harg6 arg7 harg7 arg8 harg8 arg9 harg9 arg10 harg10 arg11 harg11 arg12 harg12 arg13 harg13 x0 xs1) xr h ha 21 0 5376 rfl inb_S128x6144_S128x128_0_5376 inb_S24x32x8x128_S1x16x8x128_21_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1545 c i arg1 harg1 arg2 harg2 arg3 harg3 arg4 harg4 arg5 harg5 arg6 harg6 arg7 harg7 arg8 harg8 arg9 harg9 arg10 harg10 arg11 harg11 arg12 harg12 arg13 harg13 x0 xs1) xr h ha 20 16 5248 rfl inb_S128x6144_S128x128_0_5248 inb_S24x32x8x128_S1x16x8x128_20_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1525 c i arg1 harg1 arg2 harg2 arg3 harg3 arg4 harg4 arg5 harg5 arg6 harg6 arg7 harg7 arg8 harg8 arg9 harg9 arg10 harg10 arg11 harg11 arg12 harg12 arg13 harg13 x0 xs1) xr h ha 20 0 5120 rfl inb_S128x6144_S128x128_0_5120 inb_S24x32x8x128_S1x16x8x128_20_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1505 c i arg1 harg1 arg2 harg2 arg3 harg3 arg4 harg4 arg5 harg5 arg6 harg6 arg7 harg7 arg8 harg8 arg9 harg9 arg10 harg10 arg11 harg11 arg12 harg12 arg13 harg13 x0 xs1) xr h ha 19 16 4992 rfl inb_S128x6144_S128x128_0_4992 inb_S24x32x8x128_S1x16x8x128_19_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1485 c i arg1 harg1 arg2 harg2 arg3 harg3 arg4 harg4 arg5 harg5 arg6 harg6 arg7 harg7 arg8 harg8 arg9 harg9 arg10 harg10 arg11 harg11 arg12 harg12 arg13 harg13 x0 xs1) xr h ha 19 0 4864 rfl inb_S128x6144_S128x128_0_4864 inb_S24x32x8x128_S1x16x8x128_19_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1465 c i arg1 harg1 arg2 harg2 arg3 harg3 arg4 harg4 arg5 harg5 arg6 harg6 arg7 harg7 arg8 harg8 arg9 harg9 arg10 harg10 arg11 harg11 arg12 harg12 arg13 harg13 x0 xs1) xr h ha 18 16 4736 rfl inb_S128x6144_S128x128_0_4736 inb_S24x32x8x128_S1x16x8x128_18_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1445 c i arg1 harg1 arg2 harg2 arg3 harg3 arg4 harg4 arg5 harg5 arg6 harg6 arg7 harg7 arg8 harg8 arg9 harg9 arg10 harg10 arg11 harg11 arg12 harg12 arg13 harg13 x0 xs1) xr h ha 18 0 4608 rfl inb_S128x6144_S128x128_0_4608 inb_S24x32x8x128_S1x16x8x128_18_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1425 c i arg1 harg1 arg2 harg2 arg3 harg3 arg4 harg4 arg5 harg5 arg6 harg6 arg7 harg7 arg8 harg8 arg9 harg9 arg10 harg10 arg11 harg11 arg12 harg12 arg13 harg13 x0 xs1) xr h ha 17 16 4480 rfl inb_S128x6144_S128x128_0_4480 inb_S24x32x8x128_S1x16x8x128_17_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1405 c i arg1 harg1 arg2 harg2 arg3 harg3 arg4 harg4 arg5 harg5 arg6 harg6 arg7 harg7 arg8 harg8 arg9 harg9 arg10 harg10 arg11 harg11 arg12 harg12 arg13 harg13 x0 xs1) xr h ha 17 0 4352 rfl inb_S128x6144_S128x128_0_4352 inb_S24x32x8x128_S1x16x8x128_17_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1385 c i arg1 harg1 arg2 harg2 arg3 harg3 arg4 harg4 arg5 harg5 arg6 harg6 arg7 harg7 arg8 harg8 arg9 harg9 arg10 harg10 arg11 harg11 arg12 harg12 arg13 harg13 x0 xs1) xr h ha 16 16 4224 rfl inb_S128x6144_S128x128_0_4224 inb_S24x32x8x128_S1x16x8x128_16_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1365 c i arg1 harg1 arg2 harg2 arg3 harg3 arg4 harg4 arg5 harg5 arg6 harg6 arg7 harg7 arg8 harg8 arg9 harg9 arg10 harg10 arg11 harg11 arg12 harg12 arg13 harg13 x0 xs1) xr h ha 16 0 4096 rfl inb_S128x6144_S128x128_0_4096 inb_S24x32x8x128_S1x16x8x128_16_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1345 c i arg1 harg1 arg2 harg2 arg3 harg3 arg4 harg4 arg5 harg5 arg6 harg6 arg7 harg7 arg8 harg8 arg9 harg9 arg10 harg10 arg11 harg11 arg12 harg12 arg13 harg13 x0 xs1) xr h ha 15 16 3968 rfl inb_S128x6144_S128x128_0_3968 inb_S24x32x8x128_S1x16x8x128_15_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1325 c i arg1 harg1 arg2 harg2 arg3 harg3 arg4 harg4 arg5 harg5 arg6 harg6 arg7 harg7 arg8 harg8 arg9 harg9 arg10 harg10 arg11 harg11 arg12 harg12 arg13 harg13 x0 xs1) xr h ha 15 0 3840 rfl inb_S128x6144_S128x128_0_3840 inb_S24x32x8x128_S1x16x8x128_15_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1305 c i arg1 harg1 arg2 harg2 arg3 harg3 arg4 harg4 arg5 harg5 arg6 harg6 arg7 harg7 arg8 harg8 arg9 harg9 arg10 harg10 arg11 harg11 arg12 harg12 arg13 harg13 x0 xs1) xr h ha 14 16 3712 rfl inb_S128x6144_S128x128_0_3712 inb_S24x32x8x128_S1x16x8x128_14_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1285 c i arg1 harg1 arg2 harg2 arg3 harg3 arg4 harg4 arg5 harg5 arg6 harg6 arg7 harg7 arg8 harg8 arg9 harg9 arg10 harg10 arg11 harg11 arg12 harg12 arg13 harg13 x0 xs1) xr h ha 14 0 3584 rfl inb_S128x6144_S128x128_0_3584 inb_S24x32x8x128_S1x16x8x128_14_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1265 c i arg1 harg1 arg2 harg2 arg3 harg3 arg4 harg4 arg5 harg5 arg6 harg6 arg7 harg7 arg8 harg8 arg9 harg9 arg10 harg10 arg11 harg11 arg12 harg12 arg13 harg13 x0 xs1) xr h ha 13 16 3456 rfl inb_S128x6144_S128x128_0_3456 inb_S24x32x8x128_S1x16x8x128_13_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1245 c i arg1 harg1 arg2 harg2 arg3 harg3 arg4 harg4 arg5 harg5 arg6 harg6 arg7 harg7 arg8 harg8 arg9 harg9 arg10 harg10 arg11 harg11 arg12 harg12 arg13 harg13 x0 xs1) xr h ha 13 0 3328 rfl inb_S128x6144_S128x128_0_3328 inb_S24x32x8x128_S1x16x8x128_13_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1225 c i arg1 harg1 arg2 harg2 arg3 harg3 arg4 harg4 arg5 harg5 arg6 harg6 arg7 harg7 arg8 harg8 arg9 harg9 arg10 harg10 arg11 harg11 arg12 harg12 arg13 harg13 x0 xs1) xr h ha 12 16 3200 rfl inb_S128x6144_S128x128_0_3200 inb_S24x32x8x128_S1x16x8x128_12_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1205 c i arg1 harg1 arg2 harg2 arg3 harg3 arg4 harg4 arg5 harg5 arg6 harg6 arg7 harg7 arg8 harg8 arg9 harg9 arg10 harg10 arg11 harg11 arg12 harg12 arg13 harg13 x0 xs1) xr h ha 12 0 3072 rfl inb_S128x6144_S128x128_0_3072 inb_S24x32x8x128_S1x16x8x128_12_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1185 c i arg1 harg1 arg2 harg2 arg3 harg3 arg4 harg4 arg5 harg5 arg6 harg6 arg7 harg7 arg8 harg8 arg9 harg9 arg10 harg10 arg11 harg11 arg12 harg12 arg13 harg13 x0 xs1) xr h ha 11 16 2944 rfl inb_S128x6144_S128x128_0_2944 inb_S24x32x8x128_S1x16x8x128_11_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1165 c i arg1 harg1 arg2 harg2 arg3 harg3 arg4 harg4 arg5 harg5 arg6 harg6 arg7 harg7 arg8 harg8 arg9 harg9 arg10 harg10 arg11 harg11 arg12 harg12 arg13 harg13 x0 xs1) xr h ha 11 0 2816 rfl inb_S128x6144_S128x128_0_2816 inb_S24x32x8x128_S1x16x8x128_11_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1145 c i arg1 harg1 arg2 harg2 arg3 harg3 arg4 harg4 arg5 harg5 arg6 harg6 arg7 harg7 arg8 harg8 arg9 harg9 arg10 harg10 arg11 harg11 arg12 harg12 arg13 harg13 x0 xs1) xr h ha 10 16 2688 rfl inb_S128x6144_S128x128_0_2688 inb_S24x32x8x128_S1x16x8x128_10_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1125 c i arg1 harg1 arg2 harg2 arg3 harg3 arg4 harg4 arg5 harg5 arg6 harg6 arg7 harg7 arg8 harg8 arg9 harg9 arg10 harg10 arg11 harg11 arg12 harg12 arg13 harg13 x0 xs1) xr h ha 10 0 2560 rfl inb_S128x6144_S128x128_0_2560 inb_S24x32x8x128_S1x16x8x128_10_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1105 c i arg1 harg1 arg2 harg2 arg3 harg3 arg4 harg4 arg5 harg5 arg6 harg6 arg7 harg7 arg8 harg8 arg9 harg9 arg10 harg10 arg11 harg11 arg12 harg12 arg13 harg13 x0 xs1) xr h ha 9 16 2432 rfl inb_S128x6144_S128x128_0_2432 inb_S24x32x8x128_S1x16x8x128_9_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1085 c i arg1 harg1 arg2 harg2 arg3 harg3 arg4 harg4 arg5 harg5 arg6 harg6 arg7 harg7 arg8 harg8 arg9 harg9 arg10 harg10 arg11 harg11 arg12 harg12 arg13 harg13 x0 xs1) xr h ha 9 0 2304 rfl inb_S128x6144_S128x128_0_2304 inb_S24x32x8x128_S1x16x8x128_9_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1065 c i arg1 harg1 arg2 harg2 arg3 harg3 arg4 harg4 arg5 harg5 arg6 harg6 arg7 harg7 arg8 harg8 arg9 harg9 arg10 harg10 arg11 harg11 arg12 harg12 arg13 harg13 x0 xs1) xr h ha 8 16 2176 rfl inb_S128x6144_S128x128_0_2176 inb_S24x32x8x128_S1x16x8x128_8_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1045 c i arg1 harg1 arg2 harg2 arg3 harg3 arg4 harg4 arg5 harg5 arg6 harg6 arg7 harg7 arg8 harg8 arg9 harg9 arg10 harg10 arg11 harg11 arg12 harg12 arg13 harg13 x0 xs1) xr h ha 8 0 2048 rfl inb_S128x6144_S128x128_0_2048 inb_S24x32x8x128_S1x16x8x128_8_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1025 c i arg1 harg1 arg2 harg2 arg3 harg3 arg4 harg4 arg5 harg5 arg6 harg6 arg7 harg7 arg8 harg8 arg9 harg9 arg10 harg10 arg11 harg11 arg12 harg12 arg13 harg13 x0 xs1) xr h ha 7 16 1920 rfl inb_S128x6144_S128x128_0_1920 inb_S24x32x8x128_S1x16x8x128_7_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v1005 c i arg1 harg1 arg2 harg2 arg3 harg3 arg4 harg4 arg5 harg5 arg6 harg6 arg7 harg7 arg8 harg8 arg9 harg9 arg10 harg10 arg11 harg11 arg12 harg12 arg13 harg13 x0 xs1) xr h ha 7 0 1792 rfl inb_S128x6144_S128x128_0_1792 inb_S24x32x8x128_S1x16x8x128_7_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v985 c i arg1 harg1 arg2 harg2 arg3 harg3 arg4 harg4 arg5 harg5 arg6 harg6 arg7 harg7 arg8 harg8 arg9 harg9 arg10 harg10 arg11 harg11 arg12 harg12 arg13 harg13 x0 xs1) xr h ha 6 16 1664 rfl inb_S128x6144_S128x128_0_1664 inb_S24x32x8x128_S1x16x8x128_6_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v965 c i arg1 harg1 arg2 harg2 arg3 harg3 arg4 harg4 arg5 harg5 arg6 harg6 arg7 harg7 arg8 harg8 arg9 harg9 arg10 harg10 arg11 harg11 arg12 harg12 arg13 harg13 x0 xs1) xr h ha 6 0 1536 rfl inb_S128x6144_S128x128_0_1536 inb_S24x32x8x128_S1x16x8x128_6_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v945 c i arg1 harg1 arg2 harg2 arg3 harg3 arg4 harg4 arg5 harg5 arg6 harg6 arg7 harg7 arg8 harg8 arg9 harg9 arg10 harg10 arg11 harg11 arg12 harg12 arg13 harg13 x0 xs1) xr h ha 5 16 1408 rfl inb_S128x6144_S128x128_0_1408 inb_S24x32x8x128_S1x16x8x128_5_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v925 c i arg1 harg1 arg2 harg2 arg3 harg3 arg4 harg4 arg5 harg5 arg6 harg6 arg7 harg7 arg8 harg8 arg9 harg9 arg10 harg10 arg11 harg11 arg12 harg12 arg13 harg13 x0 xs1) xr h ha 5 0 1280 rfl inb_S128x6144_S128x128_0_1280 inb_S24x32x8x128_S1x16x8x128_5_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v905 c i arg1 harg1 arg2 harg2 arg3 harg3 arg4 harg4 arg5 harg5 arg6 harg6 arg7 harg7 arg8 harg8 arg9 harg9 arg10 harg10 arg11 harg11 arg12 harg12 arg13 harg13 x0 xs1) xr h ha 4 16 1152 rfl inb_S128x6144_S128x128_0_1152 inb_S24x32x8x128_S1x16x8x128_4_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v885 c i arg1 harg1 arg2 harg2 arg3 harg3 arg4 harg4 arg5 harg5 arg6 harg6 arg7 harg7 arg8 harg8 arg9 harg9 arg10 harg10 arg11 harg11 arg12 harg12 arg13 harg13 x0 xs1) xr h ha 4 0 1024 rfl inb_S128x6144_S128x128_0_1024 inb_S24x32x8x128_S1x16x8x128_4_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v865 c i arg1 harg1 arg2 harg2 arg3 harg3 arg4 harg4 arg5 harg5 arg6 harg6 arg7 harg7 arg8 harg8 arg9 harg9 arg10 harg10 arg11 harg11 arg12 harg12 arg13 harg13 x0 xs1) xr h ha 3 16 896 rfl inb_S128x6144_S128x128_0_896 inb_S24x32x8x128_S1x16x8x128_3_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v845 c i arg1 harg1 arg2 harg2 arg3 harg3 arg4 harg4 arg5 harg5 arg6 harg6 arg7 harg7 arg8 harg8 arg9 harg9 arg10 harg10 arg11 harg11 arg12 harg12 arg13 harg13 x0 xs1) xr h ha 3 0 768 rfl inb_S128x6144_S128x128_0_768 inb_S24x32x8x128_S1x16x8x128_3_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v825 c i arg1 harg1 arg2 harg2 arg3 harg3 arg4 harg4 arg5 harg5 arg6 harg6 arg7 harg7 arg8 harg8 arg9 harg9 arg10 harg10 arg11 harg11 arg12 harg12 arg13 harg13 x0 xs1) xr h ha 2 16 640 rfl inb_S128x6144_S128x128_0_640 inb_S24x32x8x128_S1x16x8x128_2_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v805 c i arg1 harg1 arg2 harg2 arg3 harg3 arg4 harg4 arg5 harg5 arg6 harg6 arg7 harg7 arg8 harg8 arg9 harg9 arg10 harg10 arg11 harg11 arg12 harg12 arg13 harg13 x0 xs1) xr h ha 2 0 512 rfl inb_S128x6144_S128x128_0_512 inb_S24x32x8x128_S1x16x8x128_2_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v785 c i arg1 harg1 arg2 harg2 arg3 harg3 arg4 harg4 arg5 harg5 arg6 harg6 arg7 harg7 arg8 harg8 arg9 harg9 arg10 harg10 arg11 harg11 arg12 harg12 arg13 harg13 x0 xs1) xr h ha 1 16 384 rfl inb_S128x6144_S128x128_0_384 inb_S24x32x8x128_S1x16x8x128_1_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v765 c i arg1 harg1 arg2 harg2 arg3 harg3 arg4 harg4 arg5 harg5 arg6 harg6 arg7 harg7 arg8 harg8 arg9 harg9 arg10 harg10 arg11 harg11 arg12 harg12 arg13 harg13 x0 xs1) xr h ha 1 0 256 rfl inb_S128x6144_S128x128_0_256 inb_S24x32x8x128_S1x16x8x128_1_0_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v745 c i arg1 harg1 arg2 harg2 arg3 harg3 arg4 harg4 arg5 harg5 arg6 harg6 arg7 harg7 arg8 harg8 arg9 harg9 arg10 harg10 arg11 harg11 arg12 harg12 arg13 harg13 x0 xs1) xr h ha 0 16 128 rfl inb_S128x6144_S128x128_0_128 inb_S24x32x8x128_S1x16x8x128_0_16_0_0 (hv _)) ?_
  refine pcons (code_piece (kernelRun0_B.sl.r_26 c i arg1 harg1 arg2 harg2 arg3 harg3 arg4 harg4 arg5 harg5 arg6 harg6 arg7 harg7 arg8 harg8 arg9 harg9 arg10 harg10 arg11 harg11 arg12 harg12 arg13 harg13 x0 xs1) (kernelRun0_B.sl.v725 c i arg1 harg1 arg2 harg2 arg3 harg3 arg4 harg4 arg5 harg5 arg6 harg6 arg7 harg7 arg8 harg8 arg9 harg9 arg10 harg10 arg11 harg11 arg12 harg12 arg13 harg13 x0 xs1) xr h ha 0 0 0 rfl inb_S128x6144_S128x128_0_0 inb_S24x32x8x128_S1x16x8x128_0_0_0_0 (hv _)) ?_
  exact trivial

/-- What the point leaves in the codes' block. -/
theorem out6_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 = cdG xr h := by
  unfold out0_B_6
  exact funext fun y => View.read_writes_apply_of_pieces VO0_6 VO0_6.junk (cdG xr h) _ (code_pieces_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xr h hX hD wb eb hS).mem y (cover0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 y)

/-- Every stored piece of the scales. -/
theorem s_pieces_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    View.PiecesOf (sG xr h) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1).2.2.1 := by
  have hC := c_read_B arg10 harg10 xs1 h hD
  refine pcons (s_piece _ xr h (sc_B c i arg1 harg1 arg2 harg2 arg3 harg3 arg4 harg4 arg5 harg5 arg6 harg6 arg7 harg7 arg8 harg8 arg9 harg9 arg10 harg10 arg11 harg11 arg12 harg12 arg13 harg13 x0 xs1 xr h hX hC) inb_S1x1x128_S1x1x128_0_0_0) ?_
  exact trivial

/-- What the point leaves in the scales' block. -/
theorem out7_B (hc0 : ¬cond0_0 i) (x0 : Vec Ideal S128x6144 .bf16) (x1 : Vec Ideal S24x24 .f32) (x2 : Vec Ideal S3072x2048 .i8) (x3 : Vec Ideal S48x1x2048 .i8) (x4 : Vec Ideal S1x2048 .f32) (xs0 : Vec Ideal S6144x2048 .fp8e4m3) (xs1 : Vec Ideal S192x192 .bf16) (xr : ℕ → ℕ → EReal) (h : ℕ → ℕ → EReal)
    (hX : ∀ (t : Fin 128) (k : Fin 6144), x0 (ix2 t k) = xr t.val k.val)
    (hD : ∀ a b : Fin 192, xs1 (ix2 a b) = h (a.val / 8) (b.val / 8) * ((sg (a.val % 8 &&& b.val % 8) : ℝ) : EReal)) (wb eb : ℕ → ℕ → BitVec 8) (hS : xs0 = wG wb eb) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 = sG xr h := by
  unfold out0_B_7
  exact funext fun y => View.read_writes_apply_of_pieces VO0_7 VO0_7.junk (sG xr h) _ (s_pieces_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xr h hX hD wb eb hS).mem y (cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 y)

end

end Cert.KernelIdeal.Own
end
end
-- ==== Proof.Res.lean ====
module

public import proofs.«01_k».proof.Proof.Spec

@[expose] public section
noncomputable section
namespace Cert.Own
open Idealize.ShloMosaic

/-! The three results as functions of the arguments, the statement both programs are compared to. -/

/-- The product: the row's codes with the weights, times the row's scale and the column's. -/
def resY (x : (⟨3, ![5, 384, 6144]⟩ : Shape).Idx → EReal) (had : (⟨2, ![24, 24]⟩ : Shape).Idx → EReal)
    (w : (⟨2, ![3072, 2048]⟩ : Shape).Idx → BitVec 8) (e : (⟨2, ![48, 2048]⟩ : Shape).Idx → BitVec 8)
    (ws : (⟨1, ![2048]⟩ : Shape).Idx → EReal) : (⟨2, ![1920, 2048]⟩ : Shape).Idx → EReal := fun i =>
  ((acc (xs x (i 0).val) (hs had) (wbs w) (ebs e) (i 1).val : ℝ) : EReal) * sc (xs x (i 0).val) (hs had)
    * ws (ix1 (n0 := 2048) (i 1))

/-- The codes. -/
def resC (x : (⟨3, ![5, 384, 6144]⟩ : Shape).Idx → EReal) (had : (⟨2, ![24, 24]⟩ : Shape).Idx → EReal) :
    (⟨2, ![1920, 6144]⟩ : Shape).Idx → BitVec 8 := fun i =>
  BitVec.ofInt 8 (cd (xs x (i 0).val) (hs had) (i 1).val)

/-- The scales. -/
def resS (x : (⟨3, ![5, 384, 6144]⟩ : Shape).Idx → EReal) (had : (⟨2, ![24, 24]⟩ : Shape).Idx → EReal) :
    (⟨3, ![15, 1, 128]⟩ : Shape).Idx → EReal := fun i =>
  sc (xs x ((i 0).val * 128 + (i 2).val)) (hs had)

end Cert.Own
end
end
-- ==== Proof.KFin.lean ====
module

public import proofs.«01_k».proof.Proof.KY
public import proofs.«01_k».proof.Proof.Res
public import Idealize.ShloMosaic.Lib.Pointwise

@[expose] public section
set_option maxRecDepth 16384
noncomputable section
namespace Cert.KernelIdeal.Own
open Cert.KernelIdeal Cert.KernelIdeal.Gen Cert.Own Idealize.ShloMosaic Idealize.ShloMosaic.TcCoe Idealize.ShloMosaic.StableHlo
open Idealize.SL.Sem

variable (m : (ℓ : Loc nD τ sig) → Buf (Elt Ideal) ℓ)

/-- The tokens as the call receives them: the batch flattened to rows. -/
theorem V_v0 (c : Dev nD) : V m c main_v0 = shapeCast S1920x6144 (m ((c.tc : Thread nD τ).loc main_arg0)) shapeCasts_S5x384x6144_S1920x6144 := by
  simp only [V, hostOps0, List.flatten_cons, List.flatten_nil, List.append_nil, List.cons_append, List.nil_append]
  after_results_simp <;> rfl

/-- The exponents as the call receives them. -/
theorem V_v1 (c : Dev nD) : V m c main_v1 = shapeCast S48x1x2048 (m ((c.tc : Thread nD τ).loc main_arg3)) shapeCasts_S48x2048_S48x1x2048 := by
  simp only [V, hostOps0, List.flatten_cons, List.flatten_nil, List.append_nil, List.cons_append, List.nil_append]
  after_results_simp <;> rfl

/-- The column scales as the call receives them. -/
theorem V_v2 (c : Dev nD) : V m c main_v2 = shapeCast S1x2048 (m ((c.tc : Thread nD τ).loc main_arg4)) shapeCasts_S2048_S1x2048 := by
  simp only [V, hostOps0, List.flatten_cons, List.flatten_nil, List.append_nil, List.cons_append, List.nil_append]
  after_results_simp <;> rfl

/-- A flattened row is the batch's row. -/
theorem read_v0 (v : FVec Ideal S5x384x6144 .bf16) (r : Fin 1920) (k : Fin 6144) :
    (shapeCast S1920x6144 v shapeCasts_S5x384x6144_S1920x6144 : FVec Ideal S1920x6144 .bf16) (ix2 r k)
      = v (ix3 ⟨r.val / 384, by omega⟩ ⟨r.val % 384, by omega⟩ k) := by
  pointwise []

/-- The exponents' unit axis is dropped. -/
theorem read_v1 (v : IVec S48x2048 8) (g : Fin 48) (n : Fin 2048) :
    (shapeCast S48x1x2048 v shapeCasts_S48x2048_S48x1x2048 : IVec S48x1x2048 8) (ix3 g 0 n) = v (ix2 g n) := by
  pointwise []

/-- The column scales' unit axis is dropped. -/
theorem read_v2 (v : FVec Ideal S2048 .f32) (n : Fin 2048) :
    (shapeCast S1x2048 v shapeCasts_S2048_S1x2048 : FVec Ideal S1x2048 .f32) (ix2 0 n) = v (ix1 n) := by
  pointwise []

/-- The tokens' block at point `t` is block `t`. -/
theorem idx0 : ∀ t : Fin cfg0.N, win0_0.index t (0 : Fin 2) = t.val ∧ win0_0.index t (1 : Fin 2) = 0 :=
  (by decide +kernel : ∀ t : Fin grid0.N, _)

/-- The tokens' block at point `t` holds rows `128 t` onwards. -/
theorem iblk0_read (c : Dev nD) (t : Fin cfg0.N) (p : Fin 128) (k : Fin 6144) :
    iblk m c 0 t (ix2 p k) = (m ((c.tc : Thread nD τ).loc main_arg0) : FVec Ideal S5x384x6144 .bf16)
      (ix3 ⟨(t.val * 128 + p.val) / 384, by have : t.val < 15 := t.isLt; omega⟩ ⟨(t.val * 128 + p.val) % 384, by omega⟩ k) := by
  have ht : t.val < 15 := t.isLt
  refine Eq.trans ?_ (read_v0 (m ((c.tc : Thread nD τ).loc main_arg0)) ⟨t.val * 128 + p.val, by omega⟩ k)
  rw [← V_v0 m c]
  show V m c main_v0 ((win0_0.rect t).emb (ix2 p k)) = _
  refine congrArg _ (funext fun a => Fin.ext ?_)
  obtain ⟨e0, e1⟩ := idx0 t
  fin_cases a
  · show win0_0.index t (0 : Fin 2) * 128 + 1 * p.val = t.val * 128 + p.val
    omega
  · show win0_0.index t (1 : Fin 2) * 6144 + 1 * k.val = k.val
    omega

/-- The other inputs are one block each. -/
theorem idx1 : ∀ (t : Fin cfg0.N) (a : Fin 2), win0_1.index t a = 0 :=
  (by decide +kernel : ∀ (t : Fin grid0.N) (a : Fin 2), win0_1.index t a = 0)

theorem idx2 : ∀ (t : Fin cfg0.N) (a : Fin 2), win0_2.index t a = 0 :=
  (by decide +kernel : ∀ (t : Fin grid0.N) (a : Fin 2), win0_2.index t a = 0)

theorem idx3 : ∀ (t : Fin cfg0.N) (a : Fin 3), win0_3.index t a = 0 :=
  (by decide +kernel : ∀ (t : Fin grid0.N) (a : Fin 3), win0_3.index t a = 0)

theorem idx4 : ∀ (t : Fin cfg0.N) (a : Fin 2), win0_4.index t a = 0 :=
  (by decide +kernel : ∀ (t : Fin grid0.N) (a : Fin 2), win0_4.index t a = 0)

/-- Every point sees the small Hadamard factor whole. -/
theorem iblk1_eq (c : Dev nD) (t : Fin cfg0.N) : iblk m c 1 t = m ((c.tc : Thread nD τ).loc main_arg1) := by
  rw [← V_main_arg1 m c]
  funext y
  show V m c main_arg1 ((win0_1.rect t).emb y) = _
  exact congrArg _ (funext fun a => Fin.ext (win0_1.rect_emb_val_of_index_zero t a (idx1 t a) y))
/-- Every point sees the packed weights whole. -/
theorem iblk2_eq (c : Dev nD) (t : Fin cfg0.N) : iblk m c 2 t = m ((c.tc : Thread nD τ).loc main_arg2) := by
  rw [← V_main_arg2 m c]
  funext y
  show V m c main_arg2 ((win0_2.rect t).emb y) = _
  exact congrArg _ (funext fun a => Fin.ext (win0_2.rect_emb_val_of_index_zero t a (idx2 t a) y))
/-- Every point sees the exponents whole. -/
theorem iblk3_eq (c : Dev nD) (t : Fin cfg0.N) : iblk m c 3 t = V m c main_v1 := by
  funext y
  show V m c main_v1 ((win0_3.rect t).emb y) = _
  exact congrArg _ (funext fun a => Fin.ext (win0_3.rect_emb_val_of_index_zero t a (idx3 t a) y))
/-- Every point sees the column scales whole. -/
theorem iblk4_eq (c : Dev nD) (t : Fin cfg0.N) : iblk m c 4 t = V m c main_v2 := by
  funext y
  show V m c main_v2 ((win0_4.rect t).emb y) = _
  exact congrArg _ (funext fun a => Fin.ext (win0_4.rect_emb_val_of_index_zero t a (idx4 t a) y))

section
variable (c : Dev nD) (x : FVec Ideal S5x384x6144 .bf16) (had : FVec Ideal S24x24 .f32) (w : IVec S3072x2048 8) (e : IVec S48x2048 8) (ws : FVec Ideal S2048 .f32)
  (h0 : m ((c.tc : Thread nD τ).loc main_arg0) = x) (h1 : m ((c.tc : Thread nD τ).loc main_arg1) = had)
  (h2 : m ((c.tc : Thread nD τ).loc main_arg2) = w) (h3 : m ((c.tc : Thread nD τ).loc main_arg3) = e)
  (h4 : m ((c.tc : Thread nD τ).loc main_arg4) = ws)
  (he : ∀ i, (e i).toNat < 127)

/-- The rows of block `t`. -/
def blkx (t : ℕ) : ℕ → ℕ → EReal := fun p => xs x (t * 128 + p)

include h0 in
/-- The tokens' block. -/
theorem hX (t : Fin cfg0.N) (p : Fin 128) (k : Fin 6144) :
    iblk m c 0 t (ix2 p k) = blkx x t.val p.val k.val := by
  refine (iblk0_read m c t p k).trans ?_
  have ht : t.val < 15 := t.isLt
  rw [h0, xs_eq x]
  unfold blkx
  refine congrArg (fun r => xs x r k.val) ?_
  show (t.val * 128 + p.val) / 384 * 384 + (t.val * 128 + p.val) % 384 = _
  omega

include h1 in
/-- The small Hadamard factor. -/
theorem hH (t : Fin cfg0.N) (j k : Fin 24) : iblk m c 1 t (ix2 j k) = hs had j.val k.val := by
  rw [iblk1_eq, h1]
  exact hs_eq had j k

include h2 in
/-- The packed weights as bytes. -/
theorem hW (t : Fin cfg0.N) (i : Fin 3072) (n : Fin 2048) : iblk m c 2 t (ix2 i n) = wbs w i.val n.val := by
  rw [iblk2_eq, h2]
  exact wbs_eq w i n

include h3 in
/-- The exponents as bytes. -/
theorem hE (t : Fin cfg0.N) (g : Fin 48) (n : Fin 2048) : iblk m c 3 t (ix3 g 0 n) = ebs e g.val n.val := by
  rw [iblk3_eq, V_v1, h3]
  exact (read_v1 e g n).trans (ebs_eq e g n)

include he in
/-- The exponents are below 127. -/
theorem hlt (g : Fin 48) (n : Fin 2048) : (ebs e g.val n.val).toNat < 127 := by
  rw [← ebs_eq]
  exact he _

include h4 in
/-- The column scales' block. -/
theorem hZ (t : Fin cfg0.N) (n : Fin 2048) : iblk m c 4 t (ix2 0 n) = ws (ix1 n) := by
  rw [iblk4_eq, V_v2, h4]
  exact read_v2 ws n

include h0 h1 h2 h3 he in
/-- After the first point the two scratches carried on hold the unpacked weights and the rotation's matrix. -/
theorem carried_first (t : Fin cfg0.N) (hz : t.val % 15 = 0) : (outsAt0 m c t.val t.isLt).2.2.2.1 = wG (wbs w) (ebs e)
    ∧ ∀ a b : Fin 192, (outsAt0 m c t.val t.isLt).2.2.2.2 (ix2 a b) = hs had (a.val / 8) (b.val / 8) * ((sg (a.val % 8 &&& b.val % 8) : ℝ) : EReal) :=
  ⟨(congrArg (fun o => o.2.2.2.1) (outsAt0_A m c t hz)).trans (sout0_A_w c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr hz) (iblk m c 0 t) (iblk m c 1 t) (iblk m c 2 t) (iblk m c 3 t) (iblk m c 4 t) (blkx x t.val) (hs had) (hX m c x h0 t) (hH m c had h1 t) (wbs w) (ebs e) (hW m c w h2 t) (hE m c e h3 t) (hlt e he)),
    fun a b => (congrFun (congrArg (fun o => o.2.2.2.2) (outsAt0_A m c t hz)) (ix2 a b)).trans (sout0_A_c c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr hz) (iblk m c 0 t) (iblk m c 1 t) (iblk m c 2 t) (iblk m c 3 t) (iblk m c 4 t) (blkx x t.val) (hs had) (hX m c x h0 t) (hH m c had h1 t) (wbs w) (ebs e) (hW m c w h2 t) (hE m c e h3 t) (hlt e he) a b)⟩

include h1 h2 h3 he h0 in
/-- After every point the two scratches carried on hold the unpacked weights and the rotation's matrix. -/
theorem carried : ∀ (n : ℕ) (hn : n < cfg0.N), (outsAt0 m c n hn).2.2.2.1 = wG (wbs w) (ebs e)
    ∧ ∀ a b : Fin 192, (outsAt0 m c n hn).2.2.2.2 (ix2 a b) = hs had (a.val / 8) (b.val / 8) * ((sg (a.val % 8 &&& b.val % 8) : ℝ) : EReal)
  | 0, hn => carried_first m c x had w e h0 h1 h2 h3 he ⟨0, hn⟩ rfl
  | n + 1, hn => by
    have h15 : n + 1 < 15 := hn
    have hb := carried n (by omega)
    rw [outsAt0_B m c ⟨n + 1, hn⟩ (by show ¬(n + 1) % 15 = 0; omega)]
    exact hb

set_option maxHeartbeats 2000000 in
include h0 h1 h2 h3 he in
/-- What every point leaves in its three output blocks. -/
theorem blocks (t : Fin cfg0.N) :
    (outsAt0 m c t.val t.isLt).1 = yG (blkx x t.val) (hs had) (wbs w) (ebs e) (iblk m c 4 t)
    ∧ (outsAt0 m c t.val t.isLt).2.1 = cdG (blkx x t.val) (hs had)
    ∧ (outsAt0 m c t.val t.isLt).2.2.1 = sG (blkx x t.val) (hs had) := by
  by_cases hz : t.val % 15 = 0
  · exact ⟨(congrArg (fun o => o.1) (outsAt0_A m c t hz)).trans (out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr hz) (iblk m c 0 t) (iblk m c 1 t) (iblk m c 2 t) (iblk m c 3 t) (iblk m c 4 t) (blkx x t.val) (hs had) (hX m c x h0 t) (hH m c had h1 t) (wbs w) (ebs e) (hW m c w h2 t) (hE m c e h3 t) (hlt e he)),
      (congrArg (fun o => o.2.1) (outsAt0_A m c t hz)).trans (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr hz) (iblk m c 0 t) (iblk m c 1 t) (iblk m c 2 t) (iblk m c 3 t) (iblk m c 4 t) (blkx x t.val) (hs had) (hX m c x h0 t) (hH m c had h1 t) (wbs w) (ebs e) (hW m c w h2 t) (hE m c e h3 t) (hlt e he)),
      (congrArg (fun o => o.2.2.1) (outsAt0_A m c t hz)).trans (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr hz) (iblk m c 0 t) (iblk m c 1 t) (iblk m c 2 t) (iblk m c 3 t) (iblk m c 4 t) (blkx x t.val) (hs had) (hX m c x h0 t) (hH m c had h1 t) (wbs w) (ebs e) (hW m c w h2 t) (hE m c e h3 t) (hlt e he))⟩
  · obtain ⟨hS, hD⟩ := carried m c x had w e h0 h1 h2 h3 he (t.val - 1) (Nat.lt_of_le_of_lt (Nat.sub_le _ _) t.isLt)
    exact ⟨(congrArg (fun o => o.1) (outsAt0_B m c t hz)).trans (out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (blkx x t.val) (hs had) (hX m c x h0 t) hD (wbs w) (ebs e) hS),
      (congrArg (fun o => o.2.1) (outsAt0_B m c t hz)).trans (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (blkx x t.val) (hs had) (hX m c x h0 t) hD (wbs w) (ebs e) hS),
      (congrArg (fun o => o.2.2.1) (outsAt0_B m c t hz)).trans (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (blkx x t.val) (hs had) (hX m c x h0 t) hD (wbs w) (ebs e) hS)⟩

include h0 h1 h2 h3 h4 he in
/-- The product's array after the run. -/
theorem final_y : (dats m 0 c).arrAt 5 cfg0.N = resY x had w e ws := by
  refine (dats m 0 c).arrAt_eq_of_cover 5 (resY x had w e ws) (fun t _ => ?_) (fun i => (Value.covered_iff5 i).2 (by
    have h0 : (i 0).val < 1920 := (i 0).isLt; have h1 : (i 1).val < 2048 := (i 1).isLt; omega))
  rw [Value.flushed5, (blocks m c x had w e h0 h1 h2 h3 he t).1]
  obtain ⟨e0, e1, e2, e3, e4⟩ := Value.idx_facts5 t
  funext y
  have hy0 : (y 0).val < 128 := (y 0).isLt
  have hy1 : (y 1).val < 2048 := (y 1).isLt
  have hb0 : (((cfg0.win 5).blk t).view.emb y 0).val = win0_5.index t (0 : Fin 2) * 128 + 1 * (y 0).val := rfl
  have hb1 : (((cfg0.win 5).blk t).view.emb y 1).val = win0_5.index t (1 : Fin 2) * 2048 + 1 * (y 1).val := rfl
  have a0 : (((cfg0.win 5).blk t).view.emb y 0).val = t.val * 128 + (y 0).val := by rw [hb0]; omega
  have a1 : (((cfg0.win 5).blk t).view.emb y 1).val = (y 1).val := by rw [hb1]; omega
  show yG (blkx x t.val) (hs had) (wbs w) (ebs e) (iblk m c 4 t) ((cfg0.win 5).xinj (grid0.coords t) y) = resY x had w e ws (((cfg0.win 5).blk t).view.emb y)
  unfold yG resY blkx
  rw [a0, a1]
  refine congrArg₂ (· * ·) rfl ((hZ m c ws h4 t ⟨(y 1).val, hy1⟩).trans (congrArg (fun k => ws (ix1 k)) (Fin.ext a1.symm)))

include h0 h1 h2 h3 h4 he in
/-- The codes' array after the run. -/
theorem final_c : (dats m 0 c).arrAt 6 cfg0.N = resC x had := by
  refine (dats m 0 c).arrAt_eq_of_cover 6 (resC x had) (fun t _ => ?_) (fun i => (Value.covered_iff6 i).2 (by
    have h0 : (i 0).val < 1920 := (i 0).isLt; have h1 : (i 1).val < 6144 := (i 1).isLt; omega))
  rw [Value.flushed6, (blocks m c x had w e h0 h1 h2 h3 he t).2.1]
  obtain ⟨e0, e1, e2, e3, e4⟩ := Value.idx_facts6 t
  funext y
  have hy0 : (y 0).val < 128 := (y 0).isLt
  have hy1 : (y 1).val < 6144 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 6144 + 1 * (y 1).val := rfl
  have a0 : (((cfg0.win 6).blk t).view.emb y 0).val = t.val * 128 + (y 0).val := by rw [hb0]; omega
  have a1 : (((cfg0.win 6).blk t).view.emb y 1).val = (y 1).val := by rw [hb1]; omega
  show cdG (blkx x t.val) (hs had) ((cfg0.win 6).xinj (grid0.coords t) y) = resC x had (((cfg0.win 6).blk t).view.emb y)
  unfold cdG resC blkx
  rw [a0, a1]

include h0 h1 h2 h3 h4 he in
/-- The scales' array after the run. -/
theorem final_s : (dats m 0 c).arrAt 7 cfg0.N = resS x had := by
  refine (dats m 0 c).arrAt_eq_of_cover 7 (resS x had) (fun t _ => ?_) (fun i => (Value.covered_iff7 i).2 (by
    have h0 : (i 0).val < 15 := (i 0).isLt; have h1 : (i 1).val < 1 := (i 1).isLt; have h2 : (i 2).val < 128 := (i 2).isLt; omega))
  rw [Value.flushed7, (blocks m c x had w e h0 h1 h2 h3 he t).2.2]
  obtain ⟨e0, e1, e2, e3, e4, e5, e6⟩ := Value.idx_facts7 t
  funext y
  have hy0 : (y 0).val < 1 := (y 0).isLt
  have hy1 : (y 1).val < 1 := (y 1).isLt
  have hy2 : (y 2).val < 128 := (y 2).isLt
  have hb0 : (((cfg0.win 7).blk t).view.emb y 0).val = win0_7.index t (0 : Fin 3) * 1 + 1 * (y 0).val := rfl
  have hb2 : (((cfg0.win 7).blk t).view.emb y 2).val = win0_7.index t (2 : Fin 3) * 128 + 1 * (y 2).val := rfl
  have a0 : (((cfg0.win 7).blk t).view.emb y 0).val = t.val := by rw [hb0]; omega
  have a2 : (((cfg0.win 7).blk t).view.emb y 2).val = (y 2).val := by rw [hb2]; omega
  show sG (blkx x t.val) (hs had) ((cfg0.win 7).xinj (grid0.coords t) y) = resS x had (((cfg0.win 7).blk t).view.emb y)
  unfold sG resS blkx
  rw [a0, a2]
end

end Cert.KernelIdeal.Own
end
end
-- ==== Proof.RefRead.lean ====
module

public import proofs.«01_k».proof.Proof.Gen.ReferenceIdeal.Read
public import proofs.«01_k».proof.Proof.Spec
public import Idealize.ShloMosaic.Lib.Pointwise

@[expose] public section
set_option maxRecDepth 16384
noncomputable section
namespace Cert.ReferenceIdeal.Own
open Cert.ReferenceIdeal Cert.ReferenceIdeal.Gen Cert.Own Idealize.ShloMosaic Idealize.ShloMosaic.TcCoe Idealize.ShloMosaic.StableHlo

/-- The Sylvester matrix as the reference writes it. -/
def hp : FVec Ideal S256x256 .f32 :=
  sitofp .f32 (subi (broadcastInDim S256x256 ![] bcast_S_S256x256 (constantI S_ 32 1#32)) (muli (broadcastInDim S256x256 ![] bcast_S_S256x256 (constantI S_ 32 2#32)) (andi (ctpop (andi (iotaInDim S256x256 32 0) (iotaInDim S256x256 32 1))) (broadcastInDim S256x256 ![] bcast_S_S256x256 (constantI S_ 32 1#32)))))

/-- The first contraction. -/
def t1 (x : FVec Ideal S5x384x6144 .bf16) : FVec Ideal S1920x24x256 .f32 :=
  Host.dotGeneral dot_S1920x24x256_S256x256_S1920x24x256_2_1_01_0_n_n (some .fp32) (shapeCast _ (extf .f32 x bitsLt_bf16_f32) shapeCasts_S5x384x6144_S1920x24x256) hp

/-- The rotated rows with their factor. -/
def rr (x : FVec Ideal S5x384x6144 .bf16) (had : FVec Ideal S24x24 .f32) : FVec Ideal S1920x6144 .f32 :=
  shapeCast _ (mulf (transpose S1920x24x256 [0, 2, 1] (Host.dotGeneral dot_S1920x24x256_S24x24_S1920x256x24_1_1_02_0_n_n (some .fp32) (t1 x) had) transposes_S1920x256x24_S1920x24x256_0_2_1) (broadcastInDim S1920x24x256 ![] bcast_S_S1920x24x256 (constant S_ .f32 0x3C5105EC#32))) shapeCasts_S1920x24x256_S1920x6144

/-- The sign the reference computes from two indices. -/
theorem sg_entry : ∀ n : Fin 256,
    (IntOp.subi (1#32) (IntOp.muli (2#32) (IntOp.andi (IntOp.ctpop (BitVec.ofNat 32 n.val)) 1#32))).toInt
      = if par n.val then -1 else 1 := by decide

/-- The reference's Hadamard matrix. -/
theorem hp_apply (q p : Fin 256) : hp (ix2 q p) = (sg (q.val &&& p.val) : EReal) := by
  unfold hp
  pointwise []
  have e : IntOp.andi (BitVec.ofNat 32 q.val) (BitVec.ofNat 32 p.val) = BitVec.ofNat 32 (q.val &&& p.val) :=
    BitVec.ofNat_and.symm
  rw [e]
  have h := sg_entry ⟨q.val &&& p.val, lt_of_le_of_lt Nat.and_le_left q.isLt⟩
  show (((IntOp.subi (1#32) (IntOp.muli (2#32) (IntOp.andi (IntOp.ctpop (BitVec.ofNat 32 (q.val &&& p.val))) 1#32))).toInt : ℝ) : EReal) = _
  rw [h]
  unfold sg
  dsimp only
  split_ifs <;> norm_num

/-- A rotated row before its factor, by columns. -/
def rotE (x : ℕ → EReal) (h : ℕ → ℕ → EReal) (f : ℕ) : EReal :=
  ∑ k : Fin 24, (∑ p : Fin 256, x (k.val * 256 + p.val) * ((sg (f % 256 &&& p.val) : ℝ) : EReal)) * h (f / 256) k.val

/-- One feature group's share of a rotated column without infinite products, in real numbers. -/
theorem share_real (y : ℕ → EReal) (c : EReal) (s : ℕ → ℝ) (hs : ∀ p : Fin 256, ¬inf (c * y p.val)) :
    (∑ p : Fin 256, y p.val * ((s p.val : ℝ) : EReal)) * c = (((∑ p : Fin 256, (y p.val).toReal * s p.val) * c.toReal : ℝ) : EReal) := by
  by_cases h0 : c = 0
  · subst h0; simp
  by_cases hi : inf c
  · have hy : ∀ p : Fin 256, y p.val = 0 := fun p => by
      by_contra hp
      exact hs p ((inf_mul _ _).mpr (Or.inl ⟨hi, hp⟩))
    simp [hy]
  · have hy : ∀ p : Fin 256, y p.val = (((y p.val).toReal : ℝ) : EReal) := fun p =>
      coe_of_not_inf fun hp => hs p ((inf_mul _ _).mpr (Or.inr ⟨hp, h0⟩))
    rw [EReal.coe_mul, coe_sum, ← coe_of_not_inf hi]
    congr 1
    refine Finset.sum_congr rfl fun p _ => ?_
    rw [EReal.coe_mul, ← hy p]

/-- If a product of a group is infinite, so is the group's share of some column. -/
theorem share_inf (y : ℕ → EReal) (c : EReal) (p : Fin 256) (hp : inf (c * y p.val)) :
    ∃ q : Fin 256, inf ((∑ p : Fin 256, y p.val * ((sg (q.val &&& p.val) : ℝ) : EReal)) * c) := by
  have key : ∀ r : Fin 256, inf (y r.val) → c ≠ 0 →
      ∃ q : Fin 256, inf ((∑ p : Fin 256, y p.val * ((sg (q.val &&& p.val) : ℝ) : EReal)) * c) := fun r hr h0 =>
    ⟨0, (inf_mul _ _).mpr (Or.inl ⟨(inf_sum _ _).mpr ⟨r, Finset.mem_univ r, (inf_mul _ _).mpr (Or.inl ⟨hr, sg_ne _⟩)⟩, h0⟩)⟩
  rcases (inf_mul _ _).mp hp with ⟨hc, h0⟩ | ⟨hy, h0⟩
  · have c0 : c ≠ 0 := by rintro rfl; exact not_inf_coe 0 hc
    by_cases hr : ∃ r : Fin 256, inf (y r.val)
    · exact key hr.choose hr.choose_spec c0
    · have hy : ∀ p : Fin 256, y p.val = (((y p.val).toReal : ℝ) : EReal) := fun p => coe_of_not_inf fun hp => hr ⟨p, hp⟩
      by_contra hn
      have hz : (y p.val).toReal = 0 := had_inj (fun n => (y n).toReal) (fun q => by
        by_contra hq
        refine hn ⟨q, (inf_mul _ _).mpr (Or.inr ⟨hc, fun e => hq ?_⟩)⟩
        have e2 : ((∑ p : Fin 256, (y p.val).toReal * sg (q.val &&& p.val) : ℝ) : EReal) = ((0 : ℝ) : EReal) := by
          rw [coe_sum]
          refine Eq.trans (Finset.sum_congr rfl fun p _ => ?_) e
          rw [EReal.coe_mul, ← hy p]
        exact EReal.coe_injective e2) p
      exact h0 (by rw [hy p, hz]; rfl)
  · exact key p hy h0

/-- A row as the reference rotates it: the rotation, or infinite somewhere. -/
theorem rotE_rep (x : ℕ → EReal) (h : ℕ → ℕ → EReal) : Rep x h (rotE x h) := by
  refine ⟨fun hb f hf => ?_, fun ⟨j, k, p, hi⟩ => ?_⟩
  · unfold rotE rot
    rw [coe_sum]
    refine Finset.sum_congr rfl fun k _ => ?_
    exact share_real (fun n => x (k.val * 256 + n)) _ (fun n => sg (f % 256 &&& n)) fun p hi => hb ⟨⟨f / 256, by omega⟩, k, p, hi⟩
  · obtain ⟨q, hq⟩ := share_inf (fun n => x (k.val * 256 + n)) _ p hi
    refine ⟨j.val * 256 + q.val, by omega, ?_⟩
    unfold rotE
    have e1 : (j.val * 256 + q.val) % 256 = q.val := by omega
    have e2 : (j.val * 256 + q.val) / 256 = j.val := by omega
    rw [e1, e2, inf_sum]
    exact ⟨k, Finset.mem_univ k, hq⟩

/-- The first contraction. -/
theorem t1_apply (x : FVec Ideal S5x384x6144 .bf16) (r : Fin 1920) (k : Fin 24) (q : Fin 256) :
    t1 x (ix3 r k q) = ∑ p : Fin 256, xs x r.val (k.val * 256 + p.val) * ((sg (q.val &&& p.val) : ℝ) : EReal) := by
  unfold t1
  pointwise []
  refine Finset.sum_congr rfl fun p _ => ?_
  rw [hp_apply, xs_eq x]
  simp only [Nat.div_add_mod']

/-- The rotated rows. -/
theorem rr_apply (x : FVec Ideal S5x384x6144 .bf16) (had : FVec Ideal S24x24 .f32) (r : Fin 1920) (f : Fin 6144) :
    rr x had (ix2 r f) = rotE (xs x r.val) (hs had) f.val * (rho : EReal) := by
  unfold rr
  pointwise []
  rw [ofBits_rho]
  congr 1
  unfold rotE
  refine Finset.sum_congr rfl fun p _ => ?_
  rw [t1_apply x, hs_eq had]

/-- The greatest magnitude of a row, as the reference reduces it. -/
def amaxv (x : FVec Ideal S5x384x6144 .bf16) (had : FVec Ideal S24x24 .f32) : FVec Ideal S1920 .f32 :=
  Host.reduce FloatOps.maximumf (Host.absf (rr x had)) (constant S_ .f32 0xFF800000#32) reducesTo_S1920x6144_S1920_d1 h_S_

/-- The scales. -/
def scv (x : FVec Ideal S5x384x6144 .bf16) (had : FVec Ideal S24x24 .f32) : FVec Ideal S1920 .f32 :=
  select (cmpf .oeq (amaxv x had) (broadcastInDim S1920 ![] bcast_S_S1920 (constant S_ .f32 0x00000000#32))) (broadcastInDim S1920 ![] bcast_S_S1920 (constant S_ .f32 0x3F800000#32)) (Host.divf (amaxv x had) (broadcastInDim S1920 ![] bcast_S_S1920 (constant S_ .f32 0x40E00000#32)))

/-- The codes. -/
def cdv (x : FVec Ideal S5x384x6144 .bf16) (had : FVec Ideal S24x24 .f32) : IVec S1920x6144 8 :=
  trunci 8 (fptosi 32 (minimumf (maximumf (Host.roundeven (Host.divf (rr x had) (broadcastInDim S1920x6144 ![0, 1] bcast_S1920x1_S1920x6144_0_1 (broadcastInDim S1920x1 ![0] bcast_S1920_S1920x1_0 (scv x had))))) (broadcastInDim S1920x6144 ![] bcast_S_S1920x6144 (constant S_ .f32 0xC0E00000#32))) (broadcastInDim S1920x6144 ![] bcast_S_S1920x6144 (constant S_ .f32 0x40E00000#32)))) natLt_8_32

/-- The largest magnitude of a row is characterised by its bounds. -/
theorem reduce_le (v : FVec Ideal S1920x6144 .f32) (r : Fin 1920) (y : EReal) :
    (Host.reduce FloatOps.maximumf (Host.absf v) (constant S_ .f32 0xFF800000#32) reducesTo_S1920x6144_S1920_d1 h_S_ : FVec Ideal S1920 .f32) (ix1 r) ≤ y
      ↔ ∀ f : Fin 6144, max (v (ix2 r f)) (-(v (ix2 r f))) ≤ y := by
  pointwise []
  rw [Finset.fold_max_le, ofBits_neg_inf]
  exact ⟨fun h f => h.2 f (Finset.mem_univ f), fun h => ⟨bot_le, fun f _ => h f⟩⟩

/-- The scale, one at a zero row. -/
theorem select_scale (A : FVec Ideal S1920 .f32) (r : Fin 1920) :
    (select (cmpf .oeq A (broadcastInDim S1920 ![] bcast_S_S1920 (constant S_ .f32 0x00000000#32))) (broadcastInDim S1920 ![] bcast_S_S1920 (constant S_ .f32 0x3F800000#32)) (Host.divf A (broadcastInDim S1920 ![] bcast_S_S1920 (constant S_ .f32 0x40E00000#32))) : FVec Ideal S1920 .f32) (ix1 r)
      = if A (ix1 r) = 0 then 1 else Ideal.div (A (ix1 r)) (Ideal.ofBits .f32 0x40E00000#32) := by
  pointwise []

/-- A code as the reference computes it. -/
theorem codes_word (v : FVec Ideal S1920x6144 .f32) (s : FVec Ideal S1920 .f32) (r : Fin 1920) (f : Fin 6144) :
    trunci 8 (fptosi 32 (minimumf (maximumf (Host.roundeven (Host.divf v (broadcastInDim S1920x6144 ![0, 1] bcast_S1920x1_S1920x6144_0_1 (broadcastInDim S1920x1 ![0] bcast_S1920_S1920x1_0 s)))) (broadcastInDim S1920x6144 ![] bcast_S_S1920x6144 (constant S_ .f32 0xC0E00000#32))) (broadcastInDim S1920x6144 ![] bcast_S_S1920x6144 (constant S_ .f32 0x40E00000#32)))) natLt_8_32 (ix2 r f)
      = BitVec.setWidth 8 (Ideal.fptosi 32 (min (max (Ideal.liftRound Ideal.roundHalfEven (Ideal.div (v (ix2 r f)) (s (ix1 r))))
            (Ideal.ofBits .f32 0xC0E00000#32)) (Ideal.ofBits .f32 0x40E00000#32))) := by
  pointwise []
  rfl

/-- Narrowing a code keeps it. -/
theorem setWidth_code : ∀ z : Fin 15, BitVec.setWidth 8 (BitVec.ofInt 32 ((z.val : ℤ) - 7)) = BitVec.ofInt 8 ((z.val : ℤ) - 7) := by decide

/-- The largest magnitude of a row, by its upper bounds. -/
theorem amaxv_le (x : FVec Ideal S5x384x6144 .bf16) (had : FVec Ideal S24x24 .f32) (r : Fin 1920) (y : EReal) :
    amaxv x had (ix1 r) ≤ y ↔ ∀ f : Fin 6144, max (rotE (xs x r.val) (hs had) f.val * (rho : EReal))
      (-(rotE (xs x r.val) (hs had) f.val * (rho : EReal))) ≤ y := by
  refine (reduce_le (rr x had) r y).trans (forall_congr' fun f => ?_)
  rw [rr_apply x had]

/-- The scale of a row. -/
theorem scv_apply (x : FVec Ideal S5x384x6144 .bf16) (had : FVec Ideal S24x24 .f32) (r : Fin 1920) :
    scv x had (ix1 r) = sc (xs x r.val) (hs had) := by
  refine (select_scale (amaxv x had) r).trans ?_
  rw [ofBits_seven]
  exact scale_ref _ _ _ (rotE_rep _ _) _ (amaxv_le x had r)

/-- The code of an entry. -/
theorem cdv_apply (x : FVec Ideal S5x384x6144 .bf16) (had : FVec Ideal S24x24 .f32) (r : Fin 1920) (f : Fin 6144) :
    cdv x had (ix2 r f) = BitVec.ofInt 8 (cd (xs x r.val) (hs had) f.val) := by
  refine (codes_word (rr x had) (scv x had) r f).trans ?_
  rw [rr_apply x had, scv_apply x had, ofBits_neg_seven, ofBits_seven, min_comm, max_comm, code_ref _ _ _ (rotE_rep _ _) _ f.isLt]
  have hb := cd_bounds (xs x r.val) (hs had) f.val
  generalize cd (xs x r.val) (hs had) f.val = z at hb
  rw [toInt_of_int 32 (by norm_num) z hb.1 hb.2]
  have h := setWidth_code ⟨(z + 7).toNat, by omega⟩
  have hz : (((z + 7).toNat : ℕ) : ℤ) - 7 = z := by omega
  simp only [hz] at h
  exact h

end Cert.ReferenceIdeal.Own
end
end
-- ==== Proof.RefY.lean ====
module

public import proofs.«01_k».proof.Proof.RefRead
public import Idealize.ShloMosaic.Lib.Pointwise

@[expose] public section
set_option maxRecDepth 16384
noncomputable section
namespace Cert.ReferenceIdeal.Own
open Cert.ReferenceIdeal Cert.ReferenceIdeal.Gen Cert.Own Idealize.ShloMosaic Idealize.ShloMosaic.TcCoe Idealize.ShloMosaic.StableHlo
open Idealize.SL.Sem

variable (m : (ℓ : Loc nD τ sig) → Buf (Elt Ideal) ℓ)

/-- The groups' powers of two as the reference computes them. -/
def pwv (e : IVec S48x2048 8) : FVec Ideal S48x2048 .bf16 :=
  truncf .bf16 (Host.powf (broadcastInDim S48x2048 ![] bcast_S_S48x2048 (constant S_ .f32 0x40000000#32)) (Host.negf (sitofp .f32 (extui 32 e natLt_8_32)))) bitsLt_bf16_f32

/-- The codes at the even and at the odd columns. -/
def evn (v : IVec S1920x6144 8) : IVec S1920x3072 8 :=
  shapeCast S1920x3072 (extractStridedSlice S1920x3072x1 ![0, 0, 0] (shapeCast S1920x3072x2 v shapeCasts_S1920x6144_S1920x3072x2) slices_S1920x3072x2_S1920x3072x1_0_0_0) shapeCasts_S1920x3072x1_S1920x3072
def odd (v : IVec S1920x6144 8) : IVec S1920x3072 8 :=
  shapeCast S1920x3072 (extractStridedSlice S1920x3072x1 ![0, 0, 1] (shapeCast S1920x3072x2 v shapeCasts_S1920x6144_S1920x3072x2) slices_S1920x3072x2_S1920x3072x1_0_0_1) shapeCasts_S1920x3072x1_S1920x3072

/-- The codes at the even columns. -/
theorem evn_apply (v : IVec S1920x6144 8) (r : Fin 1920) (i : Fin 3072) :
    evn v (ix2 r i) = v (ix2 r ⟨i.val * 2, by omega⟩) := by
  unfold evn
  pointwise []

/-- The codes at the odd columns. -/
theorem odd_apply (v : IVec S1920x6144 8) (r : Fin 1920) (i : Fin 3072) :
    odd v (ix2 r i) = v (ix2 r ⟨i.val * 2 + 1, by omega⟩) := by
  unfold odd
  pointwise []

/-- A group's power of two. -/
theorem pwv_apply (e : IVec S48x2048 8) (g : Fin 48) (n : Fin 2048) :
    pwv e (ix2 g n) = (pw (e (ix2 g n)) : EReal) := by
  unfold pwv
  pointwise []
  rw [ofBits_two, ← pow_pw]
  generalize e (ix2 g n) = b
  show Ideal.pow ((2 : ℝ) : EReal) (-(((BitVec.setWidth 32 b).toInt : ℝ) : EReal)) = _
  have h : (BitVec.setWidth 32 b).toInt = (b.toNat : ℤ) := by
    have hb := b.isLt
    rw [BitVec.toInt_eq_toNat_of_lt (by rw [BitVec.toNat_setWidth]; omega), BitVec.toNat_setWidth, Nat.mod_eq_of_lt (by omega)]
  rw [h, ← EReal.coe_neg]
  rfl

/-- The low half of a byte, by comparison and subtraction. -/
theorem word_lo : ∀ b : BitVec 8,
    (Scalar.select (IntOp.cmpi CmpIPredicate.sge (IntOp.andi (BitVec.setWidth 32 b) 15#32) 8#32)
          (IntOp.subi (IntOp.andi (BitVec.setWidth 32 b) 15#32) 16#32)
          (IntOp.andi (BitVec.setWidth 32 b) 15#32)).toInt = nib b false := by decide

/-- The high half of a byte, by comparison and subtraction. -/
theorem word_hi : ∀ b : BitVec 8,
    (Scalar.select
          (IntOp.cmpi CmpIPredicate.sge
            (IntOp.andi (IntOp.shrsi ArithUnit.vector (BitVec.setWidth 32 b) 4#32) 15#32) 8#32)
          (IntOp.subi (IntOp.andi (IntOp.shrsi ArithUnit.vector (BitVec.setWidth 32 b) 4#32) 15#32) 16#32)
          (IntOp.andi (IntOp.shrsi ArithUnit.vector (BitVec.setWidth 32 b) 4#32) 15#32)).toInt = nib b true := by decide

/-- The weights at the even columns. -/
theorem pay_lo (w : IVec S3072x2048 8) (p : FVec Ideal S48x2048 .bf16) (i : Fin 3072) (n : Fin 2048) :
    k0_pay3 (F := Ideal) w p (ix2 i n) = (((nib (w (ix2 i n)) false : ℤ) : ℝ) : EReal) * p (ix2 ⟨i.val / 64, by omega⟩ n) := by
  rw [← word_lo]
  pointwise [k0_pay3, k0_pay2]
  rfl

/-- The weights at the odd columns. -/
theorem pay_hi (w : IVec S3072x2048 8) (p : FVec Ideal S48x2048 .bf16) (i : Fin 3072) (n : Fin 2048) :
    k0_pay4 (F := Ideal) w p (ix2 i n) = (((nib (w (ix2 i n)) true : ℤ) : ℝ) : EReal) * p (ix2 ⟨i.val / 64, by omega⟩ n) := by
  rw [← word_hi]
  pointwise [k0_pay4, k0_pay2]
  rfl

/-- The product as two sums. -/
theorem pay_prod (lo hi : FVec Ideal S3072x2048 .fp8e4m3) (a b : IVec S1920x3072 8) (r : Fin 1920) (n : Fin 2048) :
    k0_pay1 (F := Ideal) lo hi (k0_pay5 a) (k0_pay6 b) (ix2 r n)
      = (∑ i : Fin 3072, (((a (ix2 r i)).toInt : ℝ) : EReal) * lo (ix2 i n)) + ∑ i : Fin 3072, (((b (ix2 r i)).toInt : ℝ) : EReal) * hi (ix2 i n) := by
  pointwise [k0_pay1, k0_pay5, k0_pay6]
  rfl

/-- What the call leaves, from its four inputs. -/
theorem out_apply (a b : IVec S1920x3072 8) (w : IVec S3072x2048 8) (p : FVec Ideal S48x2048 .bf16) :
    out0_4 (F := Ideal) a b w p = k0_pay1 (F := Ideal) (k0_pay3 w p) (k0_pay4 w p) (k0_pay5 a) (k0_pay6 b) := by
  unfold out0_4
  have e : (![0, 0] : Fin 2 → ℕ) = fun _ => 0 := by decide
  have hw : View.ld (Val := Elt Ideal) (e' := .i8) w r0_0 = w := View.ld_unit_zero (Val := Elt Ideal) (e := .i8) (S := S3072x2048) (off := ![0, 0]) e inb_S3072x2048_S3072x2048_0_0 w
  have hp : View.ld (Val := Elt Ideal) (e' := .bf16) p r0_1 = p := View.ld_unit_zero (Val := Elt Ideal) (e := .bf16) (S := S48x2048) (off := ![0, 0]) e inb_S48x2048_S48x2048_0_0 p
  have ha : View.ld (Val := Elt Ideal) (e' := .i8) a r0_2 = a := View.ld_unit_zero (Val := Elt Ideal) (e := .i8) (S := S1920x3072) (off := ![0, 0]) e inb_S1920x3072_S1920x3072_0_0 a
  have hb : View.ld (Val := Elt Ideal) (e' := .i8) b r0_2 = b := View.ld_unit_zero (Val := Elt Ideal) (e := .i8) (S := S1920x3072) (off := ![0, 0]) e inb_S1920x3072_S1920x3072_0_0 b
  rw [hw, hp, ha, hb]
  exact View.canon_unit_zero (Val := Elt Ideal) (e := .f32) (S := S1920x2048) (off := ![0, 0]) e inb_S1920x2048_S1920x2048_0_0 _

/-- The call sees each of its inputs whole. -/
theorem iblk0 (c : Dev nD) : iblk m c 0 t0_0 = V m c main_v44 := by
  funext y
  show V m c main_v44 ((win0_0.rect t0_0).emb y) = _
  exact congrArg _ (funext fun a => Fin.ext (win0_0.rect_emb_val_of_index_zero t0_0 a rfl y))
theorem iblk1 (c : Dev nD) : iblk m c 1 t0_0 = V m c main_v46 := by
  funext y
  show V m c main_v46 ((win0_1.rect t0_0).emb y) = _
  exact congrArg _ (funext fun a => Fin.ext (win0_1.rect_emb_val_of_index_zero t0_0 a rfl y))
theorem iblk2 (c : Dev nD) : iblk m c 2 t0_0 = V m c main_arg2 := by
  funext y
  show V m c main_arg2 ((win0_2.rect t0_0).emb y) = _
  exact congrArg _ (funext fun a => Fin.ext (win0_2.rect_emb_val_of_index_zero t0_0 a rfl y))
theorem iblk3 (c : Dev nD) : iblk m c 3 t0_0 = V m c main_v41 := by
  funext y
  show V m c main_v41 ((win0_3.rect t0_0).emb y) = _
  exact congrArg _ (funext fun a => Fin.ext (win0_3.rect_emb_val_of_index_zero t0_0 a rfl y))

/-- The product's array, as the region leaves it. -/
def prod (c : Dev nD) : FVec Ideal S1920x2048 .f32 :=
  k0_pay1 (F := Ideal) (k0_pay3 (V m c main_arg2) (V m c main_v41)) (k0_pay4 (V m c main_arg2) (V m c main_v41))
    (k0_pay5 (V m c main_v44)) (k0_pay6 (V m c main_v46))

/-- What the call writes back is the product. -/
theorem flushed_eq (c : Dev nD) (t : Fin cfg0.N) :
    (dats m 0 c).flushed 4 t = ((cfg0.win 4).blk t).view.read (Elt Ideal) (prod m c) := by
  obtain rfl := fin_N0 t
  unfold Pipeline.Dat.flushed
  rw [after0_4, iblk0, iblk1, iblk2, iblk3, out_apply]
  funext y
  show prod m c _ = prod m c ((win0_4.rect t0_0).emb y)
  exact congrArg _ (funext fun a => Fin.ext (win0_4.rect_emb_val_of_index_zero t0_0 a rfl y).symm)

/-- Its one block is the whole array. -/
theorem cover (i : S1920x2048.Idx) : ∃ t : Fin cfg0.N, (cfg0.win 4).flush t = true ∧ i ∈ ((cfg0.win 4).blk t).view.set := by
  refine ⟨t0_0, by decide +kernel, ?_⟩
  show i ∈ ((View.whole main_v47).slice (win0_4.rect t0_0)).set
  rw [View.set_slice_whole]
  have : (win0_4.rect t0_0).emb i = i := funext fun a => Fin.ext (win0_4.rect_emb_val_of_index_zero t0_0 a rfl i)
  rw [← this]
  exact (win0_4.rect t0_0).idx_mem i

/-- The array the call leaves. -/
theorem region_eq (c : Dev nD) : (dats m 0 c).arrAt 4 cfg0.N = prod m c :=
  (dats m 0 c).arrAt_eq_of_cover 4 (prod m c) (fun t _ => flushed_eq m c t) cover

end Cert.ReferenceIdeal.Own
end
end
-- ==== Proof.RefProd.lean ====
module

public import proofs.«01_k».proof.Proof.RefY
public import proofs.«01_k».proof.Proof.Res
public import proofs.«01_k».proof.Proof.Gen.ReferenceIdeal.Run

@[expose] public section
set_option maxRecDepth 16384
noncomputable section
namespace Cert.ReferenceIdeal.Own
open Cert.ReferenceIdeal Cert.ReferenceIdeal.Gen Cert.Own Idealize.ShloMosaic Idealize.ShloMosaic.TcCoe Idealize.ShloMosaic.StableHlo
open Idealize.SL.Sem

variable (m : (ℓ : Loc nD τ sig) → Buf (Elt Ideal) ℓ)

set_option maxRecDepth 8192 in
set_option maxHeartbeats 2000000 in
/-- The even columns' codes as the product's call receives them. -/
theorem V_v44 (c : Dev nD) : V m c main_v44 = evn (cdv (m ((c.tc : Thread nD τ).loc main_arg0)) (m ((c.tc : Thread nD τ).loc main_arg1))) := by
  show Gen.V0 m c (Proc.devRef .tc main_v44) = _
  simp only [Gen.V0, Gen.hostOps0, List.flatten_cons, List.flatten_nil, List.append_nil, List.cons_append, List.nil_append]
  after_results_simp <;> rfl

set_option maxRecDepth 8192 in
set_option maxHeartbeats 2000000 in
/-- The odd columns' codes as the product's call receives them. -/
theorem V_v46 (c : Dev nD) : V m c main_v46 = odd (cdv (m ((c.tc : Thread nD τ).loc main_arg0)) (m ((c.tc : Thread nD τ).loc main_arg1))) := by
  show Gen.V0 m c (Proc.devRef .tc main_v46) = _
  simp only [Gen.V0, Gen.hostOps0, List.flatten_cons, List.flatten_nil, List.append_nil, List.cons_append, List.nil_append]
  after_results_simp <;> rfl

set_option maxRecDepth 8192 in
set_option maxHeartbeats 2000000 in
/-- The groups' powers of two as the product's call receives them. -/
theorem V_v41 (c : Dev nD) : V m c main_v41 = pwv (m ((c.tc : Thread nD τ).loc main_arg3)) := by
  show Gen.V0 m c (Proc.devRef .tc main_v41) = _
  simp only [Gen.V0, Gen.hostOps0, List.flatten_cons, List.flatten_nil, List.append_nil, List.cons_append, List.nil_append]
  after_results_simp <;> rfl

/-- A code read back as an integer. -/
theorem toInt_code (x : ℕ → EReal) (h : ℕ → ℕ → EReal) (f : ℕ) : (BitVec.ofInt 8 (cd x h f)).toInt = cd x h f := by
  have hb := cd_bounds x h f
  rw [BitVec.toInt_ofInt]
  exact Int.bmod_eq_of_le (by omega) (by omega)

/-- The reference's product of the codes and the weights. -/
theorem prod_gen (x : FVec Ideal S5x384x6144 .bf16) (had : FVec Ideal S24x24 .f32) (w : IVec S3072x2048 8) (e : IVec S48x2048 8)
    (r : Fin 1920) (n : Fin 2048) :
    k0_pay1 (F := Ideal) (k0_pay3 w (pwv e)) (k0_pay4 w (pwv e)) (k0_pay5 (evn (cdv x had))) (k0_pay6 (odd (cdv x had))) (ix2 r n)
      = (acc (xs x r.val) (hs had) (wbs w) (ebs e) n.val : EReal) := by
  rw [pay_prod]
  unfold acc
  have hs2 := sum_split 3072 2 fun f => (cd (xs x r.val) (hs had) f : ℝ) * wt (wbs w) (ebs e) f n.val
  have hs3 : (∑ f : Fin 6144, (cd (xs x r.val) (hs had) f.val : ℝ) * wt (wbs w) (ebs e) f.val n.val) = _ := hs2
  rw [hs3, coe_sum, ← Finset.sum_add_distrib]
  refine Finset.sum_congr rfl fun i _ => ?_
  rw [Fin.sum_univ_two, EReal.coe_add]
  have a1 : (i.val * 2 + (0 : Fin 2).val) = i.val * 2 := rfl
  have a2 : (i.val * 2 + (1 : Fin 2).val) = i.val * 2 + 1 := rfl
  rw [a1, a2, evn_apply, odd_apply, cdv_apply x had, cdv_apply x had, toInt_code, toInt_code, pay_lo, pay_hi, pwv_apply,
    wbs_eq w, ebs_eq e]
  unfold wt
  have b1 : i.val * 2 / 2 = i.val := by omega
  have b2 : (i.val * 2 + 1) / 2 = i.val := by omega
  have b3 : (i.val * 2 % 2 == 1) = false := by simp
  have b4 : ((i.val * 2 + 1) % 2 == 1) = true := by rw [beq_iff_eq]; omega
  have b5 : i.val * 2 / 128 = i.val / 64 := by omega
  have b6 : (i.val * 2 + 1) / 128 = i.val / 64 := by omega
  rw [b1, b2, b3, b4, b5, b6]
  simp only [EReal.coe_mul]

/-- The reference's scaling of the product. -/
theorem y_read (A : FVec Ideal S1920x2048 .f32) (s : FVec Ideal S1920 .f32) (w : FVec Ideal S2048 .f32) (r : Fin 1920) (n : Fin 2048) :
    (truncf .bf16 (mulf (mulf A (broadcastInDim S1920x2048 ![0, 1] bcast_S1920x1_S1920x2048_0_1 (broadcastInDim S1920x1 ![0] bcast_S1920_S1920x1_0 s))) (broadcastInDim S1920x2048 ![0, 1] bcast_S1x2048_S1920x2048_0_1 (broadcastInDim S1x2048 ![1] bcast_S2048_S1x2048_1 w))) bitsLt_bf16_f32 : FVec Ideal S1920x2048 .bf16) (ix2 r n)
      = A (ix2 r n) * s (ix1 r) * w (ix1 n) := by
  pointwise []

/-- The reference's scales by blocks. -/
theorem s_read (s : FVec Ideal S1920 .f32) (h : S1920.ShapeCasts S15x1x128) (t : Fin 15) (z : Fin 1) (k : Fin 128) :
    (shapeCast S15x1x128 s h : FVec Ideal S15x1x128 .f32) (ix3 t z k) = s (ix1 ⟨t.val * 128 + k.val, by omega⟩) := by
  pointwise []

/-- What the reference computes: the product's, the codes' and the scales' arrays, its arguments kept. -/
theorem run_read (ρ : Dev nD → PrngReg) :
    θ_run defs (onTc (τ := τ) (main (F := Ideal))) ⟨m, fun _ => 0, ρ⟩ fun r => ∀ c : Dev nD,
      r.2.mem ((c.tc : Thread nD τ).loc main_v54) = resY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = resC (m ((c.tc : Thread nD τ).loc main_arg0)) (m ((c.tc : Thread nD τ).loc main_arg1))
      ∧ r.2.mem ((c.tc : Thread nD τ).loc main_v55) = resS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨ey, ec, es, a0, a1, a2, a3, a4⟩ := h c
  refine ⟨ey.trans ?_, ec.trans ?_, es.trans ?_, a0, a1, a2, a3, a4⟩
  · funext y
    obtain ⟨i0, i1, rfl⟩ : ∃ (i0 : Fin 1920) (i1 : Fin 2048), y = ix2 i0 i1 := ⟨y 0, y 1, eq_ix2 y⟩
    refine (y_read (Value.reg_main_v47 m c) (scv (m ((c.tc : Thread nD τ).loc main_arg0)) (m ((c.tc : Thread nD τ).loc main_arg1))) (m ((c.tc : Thread nD τ).loc main_arg4)) i0 i1).trans ?_
    rw [scv_apply _ _]
    unfold Value.reg_main_v47
    rw [region_eq]
    unfold prod
    rw [V_main_arg2, V_v41, V_v44, V_v46, prod_gen _ _ _ _]
    rfl
  · funext y
    obtain ⟨i0, i1, rfl⟩ : ∃ (i0 : Fin 1920) (i1 : Fin 6144), y = ix2 i0 i1 := ⟨y 0, y 1, eq_ix2 y⟩
    exact cdv_apply _ _ i0 i1
  · funext y
    obtain ⟨i0, i1, i2, rfl⟩ : ∃ (i0 : Fin 15) (i1 : Fin 1) (i2 : Fin 128), y = ix3 i0 i1 i2 := ⟨y 0, y 1, y 2, eq_ix3 y⟩
    refine (s_read (scv (m ((c.tc : Thread nD τ).loc main_arg0)) (m ((c.tc : Thread nD τ).loc main_arg1))) _ i0 i1 i2).trans ?_
    rw [scv_apply _ _]
    rfl

end Cert.ReferenceIdeal.Own
end
end
-- ==== Proof.InRange.lean ====
module

public import proofs.«01_k».proof.Pre_in_range
public import proofs.«01_k».proof.Proof.Gen.Pre_in_range
public import Idealize.ShloMosaic.Lib.Pointwise
public import Idealize.ShloMosaic.PureOps

@[expose] public section
noncomputable section
namespace Cert.Own
open Cert.Pre_in_range Cert.Pre_in_range.Gen Idealize.ShloMosaic Idealize.ShloMosaic.TcCoe

attribute [local instance] Cert.Pre_in_range.Gen.facts

variable (x : FVec Ideal S5x384x6144 .bf16) (had : FVec Ideal S24x24 .f32) (w : IVec S3072x2048 8) (e : IVec S48x2048 8) (ws : FVec Ideal S2048 .f32)

/-- What the precondition says: every group's exponent is below 127. -/
theorem in_range_e (h : fn (F := Ideal) x had w e ws = fun _ => 1#1) (i : S48x2048.Idx) : (e i).toNat < 127 := by
  have hi := congrFun h i
  have hi2 : IntOp.cmpi .ult (e i) 127#8 = 1#1 := hi
  revert hi2
  generalize e i = b
  revert b
  decide

end Cert.Own
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Pre_in_range
public import proofs.«01_k».proof.Proof.RunFrame
public import proofs.«01_k».proof.Proof.RunValue
public import proofs.«01_k».proof.Proof.KFin
public import proofs.«01_k».proof.Proof.RefProd
public import proofs.«01_k».proof.Proof.InRange
public import Idealize.ShloMosaic.Adequacy
public import Idealize.ShloMosaic.Init

@[expose] public section

noncomputable section

namespace Cert.Proof

open Idealize.ShloMosaic Idealize.SL.Sem Cert.Kernel

/-- The two idealized programs leave the same product, codes and scales, from arguments in range. -/
theorem algebraic : @algebraic_KernelIdeal_ReferenceIdeal_pre_in_range Cert.KernelIdeal.Gen.facts Cert.ReferenceIdeal.Gen.facts Cert.Pre_in_range.Gen.facts := by
  intro m g m' g' hp ha
  have he := fun c => Cert.Own.in_range_e _ _ _ _ _ (hp c)
  refine ⟨fun c => Cert.Own.resY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Own.resC (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Own.resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run _ _ _).mono (fun r h c => ?_) (Cert.KernelIdeal.Value.run_blocks (F := Ideal) m g)
    obtain ⟨ey, ec, es, hk⟩ := h c
    exact ⟨ey.trans (Cert.KernelIdeal.Own.final_y m c _ _ _ _ _ rfl rfl rfl rfl rfl (he c)),
      ec.trans (Cert.KernelIdeal.Own.final_c m c _ _ _ _ _ rfl rfl rfl rfl rfl (he c)),
      es.trans (Cert.KernelIdeal.Own.final_s m c _ _ _ _ _ rfl rfl rfl rfl rfl (he c)), hk⟩
  · refine (θ_run _ _ _).mono (fun r h c => ?_) (Cert.ReferenceIdeal.Own.run_read m' g')
    obtain ⟨ey, ec, es, hk⟩ := h c
    obtain ⟨a0, a1, a2, a3, a4⟩ := ha c
    refine ⟨ey.trans ?_, ec.trans ?_, es.trans ?_, hk⟩
    · rw [a0, a1, a2, a3, a4]
    · rw [a0, a1]
    · rw [a0, a1]

theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
